-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseIdeal_dense_scores_finite [hPre_dense_scores_finite : Cert.Pre_dense_scores_finite.Facts] (m : (ℓ : Loc Cert.DenseIdeal.nD Cert.DenseIdeal.τ Cert.DenseIdeal.sig) → Buf (Elt Ideal) ℓ) : Prop :=
  ∀ c : Dev Cert.DenseIdeal.nD,
    (Cert.Pre_dense_scores_finite.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2))) = (fun _ => 1#1)

def Pre_DenseRefIdeal (m : (ℓ : Loc Cert.DenseRefIdeal.nD Cert.DenseRefIdeal.τ Cert.DenseRefIdeal.sig) → Buf (Elt Ideal) ℓ) : Prop :=
  True

def Pre_DenseRefIdeal_dense_scores_finite [hPre_dense_scores_finite : Cert.Pre_dense_scores_finite.Facts] (m : (ℓ : Loc Cert.DenseRefIdeal.nD Cert.DenseRefIdeal.τ Cert.DenseRefIdeal.sig) → Buf (Elt Ideal) ℓ) : Prop :=
  ∀ c : Dev Cert.DenseRefIdeal.nD,
    (Cert.Pre_dense_scores_finite.fn (F := Ideal) (m ((c.tc : Thread Cert.DenseRefIdeal.nD Cert.DenseRefIdeal.τ).loc Cert.DenseRefIdeal.main_arg0)) (m ((c.tc : Thread Cert.DenseRefIdeal.nD Cert.DenseRefIdeal.τ).loc Cert.DenseRefIdeal.main_arg1)) (m ((c.tc : Thread Cert.DenseRefIdeal.nD Cert.DenseRefIdeal.τ).loc Cert.DenseRefIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_ret_finite [hPre_ret_finite : Cert.Pre_ret_finite.Facts] (m : (ℓ : Loc Cert.RetIdeal.nD Cert.RetIdeal.τ Cert.RetIdeal.sig) → Buf (Elt Ideal) ℓ) : Prop :=
  ∀ c : Dev Cert.RetIdeal.nD,
    (Cert.Pre_ret_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_ret_finite [hPre_ret_finite : Cert.Pre_ret_finite.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_ret_finite.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_lat_finite [hPre_lat_finite : Cert.Pre_lat_finite.Facts] (m : (ℓ : Loc Cert.LatIdeal.nD Cert.LatIdeal.τ Cert.LatIdeal.sig) → Buf (Elt Ideal) ℓ) : Prop :=
  ∀ c : Dev Cert.LatIdeal.nD,
    (Cert.Pre_lat_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))) = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_lat_finite [hPre_lat_finite : Cert.Pre_lat_finite.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_lat_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_DenseIdeal_pre_dense_scores_finite [hDenseIdeal : Cert.DenseIdeal.Facts] [hPre_dense_scores_finite : Cert.Pre_dense_scores_finite.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_dense_scores_finite m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2))
      ∧ r.2.sem = fun _ => 0)

def quiescent_DenseRefIdeal_pre_dense_scores_finite [hDenseRefIdeal : Cert.DenseRefIdeal.Facts] [hPre_dense_scores_finite : Cert.Pre_dense_scores_finite.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal_dense_scores_finite m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetIdeal_pre_ret_finite [hRetIdeal : Cert.RetIdeal.Facts] [hPre_ret_finite : Cert.Pre_ret_finite.Facts] : Prop :=
  ∀ (m : (ℓ : Loc Cert.RetIdeal.nD Cert.RetIdeal.τ Cert.RetIdeal.sig) → Buf (Elt Ideal) ℓ) (g : Dev Cert.RetIdeal.nD → PrngReg), Pre_RetIdeal_ret_finite m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_RetRefIdeal_pre_ret_finite [hRetRefIdeal : Cert.RetRefIdeal.Facts] [hPre_ret_finite : Cert.Pre_ret_finite.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_ret_finite m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatIdeal_pre_lat_finite [hLatIdeal : Cert.LatIdeal.Facts] [hPre_lat_finite : Cert.Pre_lat_finite.Facts] : Prop :=
  ∀ (m : (ℓ : Loc Cert.LatIdeal.nD Cert.LatIdeal.τ Cert.LatIdeal.sig) → Buf (Elt Ideal) ℓ) (g : Dev Cert.LatIdeal.nD → PrngReg), Pre_LatIdeal_lat_finite m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_LatRefIdeal_pre_lat_finite [hLatRefIdeal : Cert.LatRefIdeal.Facts] [hPre_lat_finite : Cert.Pre_lat_finite.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_lat_finite m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dense_DenseIdeal : Prop :=
  True

def algebraic_DenseIdeal_DenseRefIdeal_pre_dense_scores_finite [hDenseIdeal : Cert.DenseIdeal.Facts] [hDenseRefIdeal : Cert.DenseRefIdeal.Facts] [hPre_dense_scores_finite : Cert.Pre_dense_scores_finite.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal_dense_scores_finite m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)) →
    ∃ (v0 : (c : Dev Cert.DenseIdeal.nD) → Buf (Elt Ideal) ((c.tc : Thread Cert.DenseIdeal.nD Cert.DenseIdeal.τ).loc Cert.DenseIdeal.main_v0_0)) (v1 : (c : Dev Cert.DenseIdeal.nD) → Buf (Elt Ideal) ((c.tc : Thread Cert.DenseIdeal.nD Cert.DenseIdeal.τ).loc Cert.DenseIdeal.main_v0_1)) (v2 : (c : Dev Cert.DenseIdeal.nD) → Buf (Elt Ideal) ((c.tc : Thread Cert.DenseIdeal.nD Cert.DenseIdeal.τ).loc Cert.DenseIdeal.main_v0_2)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0_0) = v0 c
          ∧ r.2.mem ((c.tc : Thread Cert.DenseIdeal.nD Cert.DenseIdeal.τ).loc Cert.DenseIdeal.main_v0_1) = v1 c
          ∧ r.2.mem ((c.tc : Thread Cert.DenseIdeal.nD Cert.DenseIdeal.τ).loc Cert.DenseIdeal.main_v0_2) = v2 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v25) = v0 c
          ∧ r.2.mem ((c.tc : Thread Cert.DenseRefIdeal.nD Cert.DenseRefIdeal.τ).loc Cert.DenseRefIdeal.main_v28) = v1 c
          ∧ r.2.mem ((c.tc : Thread Cert.DenseRefIdeal.nD Cert.DenseRefIdeal.τ).loc Cert.DenseRefIdeal.main_v31) = v2 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Ret_RetIdeal : Prop :=
  True

def algebraic_RetIdeal_RetRefIdeal_pre_ret_finite [hRetIdeal : Cert.RetIdeal.Facts] [hRetRefIdeal : Cert.RetRefIdeal.Facts] [hPre_ret_finite : Cert.Pre_ret_finite.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_ret_finite m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v3_0)) (v1 : (c : Dev Cert.RetIdeal.nD) → Buf (Elt Ideal) ((c.tc : Thread Cert.RetIdeal.nD Cert.RetIdeal.τ).loc Cert.RetIdeal.main_v3_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v3_0) = v0 c
          ∧ r.2.mem ((c.tc : Thread Cert.RetIdeal.nD Cert.RetIdeal.τ).loc Cert.RetIdeal.main_v3_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v331) = v0 c
          ∧ r.2.mem ((c.tc : Thread Cert.RetRefIdeal.nD Cert.RetRefIdeal.τ).loc Cert.RetRefIdeal.main_v337) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v13) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)) →
    ∃ (v0 : (c : Dev Cert.FinalSIdeal.nD) → Buf (Elt Ideal) ((c.tc : Thread Cert.FinalSIdeal.nD Cert.FinalSIdeal.τ).loc Cert.FinalSIdeal.main_v2)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v2) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v13) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)
      ∧ m' ((c.tc : Thread Cert.QueryRefIdeal.nD Cert.QueryRefIdeal.τ).loc Cert.QueryRefIdeal.main_arg4) = m ((c.tc : Thread Cert.QueryIdeal.nD Cert.QueryIdeal.τ).loc Cert.QueryIdeal.main_arg4)) →
    ∃ (v0 : (c : Dev Cert.QueryIdeal.nD) → Buf (Elt Ideal) ((c.tc : Thread Cert.QueryIdeal.nD Cert.QueryIdeal.τ).loc Cert.QueryIdeal.main_v5_0)) (v1 : (c : Dev Cert.QueryIdeal.nD) → Buf (Elt Ideal) ((c.tc : Thread Cert.QueryIdeal.nD Cert.QueryIdeal.τ).loc Cert.QueryIdeal.main_v5_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v5_0) = v0 c
          ∧ r.2.mem ((c.tc : Thread Cert.QueryIdeal.nD Cert.QueryIdeal.τ).loc Cert.QueryIdeal.main_v5_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v22) = v0 c
          ∧ r.2.mem ((c.tc : Thread Cert.QueryRefIdeal.nD Cert.QueryRefIdeal.τ).loc Cert.QueryRefIdeal.main_v23) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3)
          ∧ r.2.mem ((c.tc : Thread Cert.QueryRefIdeal.nD Cert.QueryRefIdeal.τ).loc Cert.QueryRefIdeal.main_arg4) = m' ((c.tc : Thread Cert.QueryRefIdeal.nD Cert.QueryRefIdeal.τ).loc Cert.QueryRefIdeal.main_arg4))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v20) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Lat_LatIdeal : Prop :=
  True

def algebraic_LatIdeal_LatRefIdeal_pre_lat_finite [hLatIdeal : Cert.LatIdeal.Facts] [hLatRefIdeal : Cert.LatRefIdeal.Facts] [hPre_lat_finite : Cert.Pre_lat_finite.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_lat_finite m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)) →
    ∃ (v0 : (c : Dev Cert.LatIdeal.nD) → Buf (Elt Ideal) ((c.tc : Thread Cert.LatIdeal.nD Cert.LatIdeal.τ).loc Cert.LatIdeal.main_v35)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v35) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v347) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseRefIdeal : Cert.DenseRefIdeal.Facts) (hProj : Cert.Proj.Facts) (hProjIdeal : Cert.ProjIdeal.Facts) (hProjRefIdeal : Cert.ProjRefIdeal.Facts) (hRet : Cert.Ret.Facts) (hRetIdeal : Cert.RetIdeal.Facts) (hRetRefIdeal : Cert.RetRefIdeal.Facts) (hMerge : Cert.Merge.Facts) (hMergeIdeal : Cert.MergeIdeal.Facts) (hMergeRefIdeal : Cert.MergeRefIdeal.Facts) (hFinal : Cert.Final.Facts) (hFinalIdeal : Cert.FinalIdeal.Facts) (hFinalRefIdeal : Cert.FinalRefIdeal.Facts) (hFinalS : Cert.FinalS.Facts) (hFinalSIdeal : Cert.FinalSIdeal.Facts) (hFinalSRefIdeal : Cert.FinalSRefIdeal.Facts) (hQuery : Cert.Query.Facts) (hQueryIdeal : Cert.QueryIdeal.Facts) (hQueryRefIdeal : Cert.QueryRefIdeal.Facts) (hMod : Cert.Mod.Facts) (hModIdeal : Cert.ModIdeal.Facts) (hModRefIdeal : Cert.ModRefIdeal.Facts) (hLat : Cert.Lat.Facts) (hLatIdeal : Cert.LatIdeal.Facts) (hLatRefIdeal : Cert.LatRefIdeal.Facts) (hPre_scores_finite : Cert.Pre_scores_finite.Facts) (hPre_dense_scores_finite : Cert.Pre_dense_scores_finite.Facts) (hPre_ret_finite : Cert.Pre_ret_finite.Facts) (hPre_lat_finite : Cert.Pre_lat_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Dense (hDense := hDense)
    ∧ quiescent_DenseIdeal (hDenseIdeal := hDenseIdeal)
    ∧ quiescent_DenseIdeal_pre_dense_scores_finite (hDenseIdeal := hDenseIdeal) (hPre_dense_scores_finite := hPre_dense_scores_finite)
    ∧ quiescent_DenseRefIdeal (hDenseRefIdeal := hDenseRefIdeal)
    ∧ quiescent_DenseRefIdeal_pre_dense_scores_finite (hDenseRefIdeal := hDenseRefIdeal) (hPre_dense_scores_finite := hPre_dense_scores_finite)
    ∧ quiescent_Proj (hProj := hProj)
    ∧ quiescent_ProjIdeal (hProjIdeal := hProjIdeal)
    ∧ quiescent_ProjRefIdeal (hProjRefIdeal := hProjRefIdeal)
    ∧ quiescent_Ret (hRet := hRet)
    ∧ quiescent_RetIdeal (hRetIdeal := hRetIdeal)
    ∧ quiescent_RetIdeal_pre_ret_finite (hRetIdeal := hRetIdeal) (hPre_ret_finite := hPre_ret_finite)
    ∧ quiescent_RetRefIdeal (hRetRefIdeal := hRetRefIdeal)
    ∧ quiescent_RetRefIdeal_pre_ret_finite (hRetRefIdeal := hRetRefIdeal) (hPre_ret_finite := hPre_ret_finite)
    ∧ quiescent_Merge (hMerge := hMerge)
    ∧ quiescent_MergeIdeal (hMergeIdeal := hMergeIdeal)
    ∧ quiescent_MergeRefIdeal (hMergeRefIdeal := hMergeRefIdeal)
    ∧ quiescent_Final (hFinal := hFinal)
    ∧ quiescent_FinalIdeal (hFinalIdeal := hFinalIdeal)
    ∧ quiescent_FinalRefIdeal (hFinalRefIdeal := hFinalRefIdeal)
    ∧ quiescent_FinalS (hFinalS := hFinalS)
    ∧ quiescent_FinalSIdeal (hFinalSIdeal := hFinalSIdeal)
    ∧ quiescent_FinalSRefIdeal (hFinalSRefIdeal := hFinalSRefIdeal)
    ∧ quiescent_Query (hQuery := hQuery)
    ∧ quiescent_QueryIdeal (hQueryIdeal := hQueryIdeal)
    ∧ quiescent_QueryRefIdeal (hQueryRefIdeal := hQueryRefIdeal)
    ∧ quiescent_Mod (hMod := hMod)
    ∧ quiescent_ModIdeal (hModIdeal := hModIdeal)
    ∧ quiescent_ModRefIdeal (hModRefIdeal := hModRefIdeal)
    ∧ quiescent_Lat (hLat := hLat)
    ∧ quiescent_LatIdeal (hLatIdeal := hLatIdeal)
    ∧ quiescent_LatIdeal_pre_lat_finite (hLatIdeal := hLatIdeal) (hPre_lat_finite := hPre_lat_finite)
    ∧ quiescent_LatRefIdeal (hLatRefIdeal := hLatRefIdeal)
    ∧ quiescent_LatRefIdeal_pre_lat_finite (hLatRefIdeal := hLatRefIdeal) (hPre_lat_finite := hPre_lat_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Dense_DenseIdeal
    ∧ algebraic_DenseIdeal_DenseRefIdeal_pre_dense_scores_finite (hDenseIdeal := hDenseIdeal) (hDenseRefIdeal := hDenseRefIdeal) (hPre_dense_scores_finite := hPre_dense_scores_finite)
    ∧ preserves_Proj_ProjIdeal
    ∧ algebraic_ProjIdeal_ProjRefIdeal (hProjIdeal := hProjIdeal) (hProjRefIdeal := hProjRefIdeal)
    ∧ preserves_Ret_RetIdeal
    ∧ algebraic_RetIdeal_RetRefIdeal_pre_ret_finite (hRetIdeal := hRetIdeal) (hRetRefIdeal := hRetRefIdeal) (hPre_ret_finite := hPre_ret_finite)
    ∧ preserves_Merge_MergeIdeal
    ∧ algebraic_MergeIdeal_MergeRefIdeal (hMergeIdeal := hMergeIdeal) (hMergeRefIdeal := hMergeRefIdeal)
    ∧ preserves_Final_FinalIdeal
    ∧ algebraic_FinalIdeal_FinalRefIdeal (hFinalIdeal := hFinalIdeal) (hFinalRefIdeal := hFinalRefIdeal)
    ∧ preserves_FinalS_FinalSIdeal
    ∧ algebraic_FinalSIdeal_FinalSRefIdeal (hFinalSIdeal := hFinalSIdeal) (hFinalSRefIdeal := hFinalSRefIdeal)
    ∧ preserves_Query_QueryIdeal
    ∧ algebraic_QueryIdeal_QueryRefIdeal (hQueryIdeal := hQueryIdeal) (hQueryRefIdeal := hQueryRefIdeal)
    ∧ preserves_Mod_ModIdeal
    ∧ algebraic_ModIdeal_ModRefIdeal (hModIdeal := hModIdeal) (hModRefIdeal := hModRefIdeal)
    ∧ preserves_Lat_LatIdeal
    ∧ algebraic_LatIdeal_LatRefIdeal_pre_lat_finite (hLatIdeal := hLatIdeal) (hLatRefIdeal := hLatRefIdeal) (hPre_lat_finite := hPre_lat_finite)
-- ==== Pre_dense_scores_finite.lean ====
abbrev S32x256x8192 : Shape := ⟨3, ![32, 256, 8192]⟩
abbrev S32x4x256x128 : Shape := ⟨4, ![32, 4, 256, 128]⟩
abbrev S32x256x1024 : Shape := ⟨3, ![32, 256, 1024]⟩
abbrev S_ : Shape := ⟨0, ![]⟩

class Facts : Prop where
  slices_S32x256x8192_S32x256x1024_0_0_3584 : S32x256x8192.Slices ![0, 0, 3584] S32x256x1024
  bcast_S_S32x256x1024 : S_.BroadcastsInDim S32x256x1024 (![] : Fin 0 → Fin S32x256x1024.rank)

variable [Facts]

def fn {F : FTy → Type} [FloatOps F] (main_arg0 : FVec F S32x256x8192 .f32) (main_arg1 : FVec F S32x4x256x128 .f32) (main_arg2 : FVec F S32x4x256x128 .f32) : IVec S32x256x1024 1 :=
  let main_v0 : FVec F S32x256x1024 .f32 := (extractStridedSlice S32x256x1024 ![0, 0, 3584] · slices_S32x256x8192_S32x256x1024_0_0_3584) main_arg0
  let main_v1 : FVec F S32x256x1024 .f32 := Host.absf main_v0
  let main_cst : FVec F S_ .f32 := constant S_ .f32 0x7F800000#32
  let main_v2 : FVec F S32x256x1024 .f32 := broadcastInDim S32x256x1024 ![] bcast_S_S32x256x1024 main_cst
  let main_v3 : IVec S32x256x1024 1 := cmpf .olt main_v1 main_v2
  main_v3
-- ==== Pre_lat_finite.lean ====
abbrev S2x1024x8192 : Shape := ⟨3, ![2, 1024, 8192]⟩
abbrev S2x4x256x128 : Shape := ⟨4, ![2, 4, 256, 128]⟩
abbrev S4x64 : Shape := ⟨2, ![4, 64]⟩
abbrev S128 : Shape := ⟨1, ![128]⟩
abbrev S2x128x1024 : Shape := ⟨3, ![2, 128, 1024]⟩
abbrev S2x1024x1024 : Shape := ⟨3, ![2, 1024, 1024]⟩
abbrev S2x1152x1024 : Shape := ⟨3, ![2, 1152, 1024]⟩
abbrev S_ : Shape := ⟨0, ![]⟩

class Facts : Prop where
  shapeCasts_S2x4x256x128_S2x128x1024 : S2x4x256x128.ShapeCasts S2x128x1024
  slices_S2x1024x8192_S2x1024x1024_0_0_0 : S2x1024x8192.Slices ![0, 0, 0] S2x1024x1024
  concatenates_S2x1024x1024_S2x128x1024_S2x1152x1024_d1 : Shape.Concatenates [S2x1024x1024, S2x128x1024] S2x1152x1024 1
  bcast_S_S2x1152x1024 : S_.BroadcastsInDim S2x1152x1024 (![] : Fin 0 → Fin S2x1152x1024.rank)

variable [Facts]

def fn {F : FTy → Type} [FloatOps F] (main_arg0 : FVec F S2x1024x8192 .f32) (main_arg1 : FVec F S2x4x256x128 .f32) (main_arg2 : FVec F S2x4x256x128 .f32) (main_arg3 : FVec F S4x64 .f32) (main_arg4 : FVec F S128 .f32) : IVec S2x1152x1024 1 :=
  let main_v0 : FVec F S2x128x1024 .f32 := shapeCast S2x128x1024 main_arg1 shapeCasts_S2x4x256x128_S2x128x1024
  let main_v1 : FVec F S2x1024x1024 .f32 := (extractStridedSlice S2x1024x1024 ![0, 0, 0] · slices_S2x1024x8192_S2x1024x1024_0_0_0) main_arg0
  let main_v2 : FVec F S2x1152x1024 .f32 := (fun a b => concatenate S2x1152x1024 1 [⟨S2x1024x1024, a⟩, ⟨S2x128x1024, b⟩] concatenates_S2x1024x1024_S2x128x1024_S2x1152x1024_d1) main_v1 main_v0
  let main_v3 : FVec F S2x1152x1024 .f32 := Host.absf main_v2
  let main_cst : FVec F S_ .f32 := constant S_ .f32 0x7F800000#32
  let main_v4 : FVec F S2x1152x1024 .f32 := broadcastInDim S2x1152x1024 ![] bcast_S_S2x1152x1024 main_cst
  let main_v5 : IVec S2x1152x1024 1 := cmpf .olt main_v3 main_v4
  main_v5
-- ==== Pre_ret_finite.lean ====
abbrev S32x256x8192 : Shape := ⟨3, ![32, 256, 8192]⟩
abbrev S32x2x4x64x128 : Shape := ⟨5, ![32, 2, 4, 64, 128]⟩
abbrev S2x4 : Shape := ⟨2, ![2, 4]⟩
abbrev S128 : Shape := ⟨1, ![128]⟩
abbrev S32x256x1024 : Shape := ⟨3, ![32, 256, 1024]⟩
abbrev S_ : Shape := ⟨0, ![]⟩

class Facts : Prop where
  slices_S32x256x8192_S32x256x1024_0_0_1536 : S32x256x8192.Slices ![0, 0, 1536] S32x256x1024
  bcast_S_S32x256x1024 : S_.BroadcastsInDim S32x256x1024 (![] : Fin 0 → Fin S32x256x1024.rank)

variable [Facts]

def fn {F : FTy → Type} [FloatOps F] (main_arg0 : FVec F S32x256x8192 .f32) (main_arg1 : FVec F S32x2x4x64x128 .f32) (main_arg2 : FVec F S2x4 .f32) (main_arg3 : FVec F S128 .f32) : IVec S32x256x1024 1 :=
  let main_v0 : FVec F S32x256x1024 .f32 := (extractStridedSlice S32x256x1024 ![0, 0, 1536] · slices_S32x256x8192_S32x256x1024_0_0_1536) main_arg0
  let main_v1 : FVec F S32x256x1024 .f32 := Host.absf main_v0
  let main_cst : FVec F S_ .f32 := constant S_ .f32 0x7F800000#32
  let main_v2 : FVec F S32x256x1024 .f32 := broadcastInDim S32x256x1024 ![] bcast_S_S32x256x1024 main_cst
  let main_v3 : IVec S32x256x1024 1 := cmpf .olt main_v1 main_v2
  main_v3
-- ==== Pre_scores_finite.lean ====
abbrev S32x256x8192 : Shape := ⟨3, ![32, 256, 8192]⟩
abbrev S32x4x256x128 : Shape := ⟨4, ![32, 4, 256, 128]⟩
abbrev S4x64 : Shape := ⟨2, ![4, 64]⟩
abbrev S128 : Shape := ⟨1, ![128]⟩
abbrev S32x256x1024 : Shape := ⟨3, ![32, 256, 1024]⟩
abbrev S_ : Shape := ⟨0, ![]⟩

class Facts : Prop where
  slices_S32x256x8192_S32x256x1024_0_0_0 : S32x256x8192.Slices ![0, 0, 0] S32x256x1024
  bcast_S_S32x256x1024 : S_.BroadcastsInDim S32x256x1024 (![] : Fin 0 → Fin S32x256x1024.rank)

variable [Facts]

def fn {F : FTy → Type} [FloatOps F] (main_arg0 : FVec F S32x256x8192 .f32) (main_arg1 : FVec F S32x4x256x128 .f32) (main_arg2 : FVec F S32x4x256x128 .f32) (main_arg3 : FVec F S4x64 .f32) (main_arg4 : FVec F S128 .f32) : IVec S32x256x1024 1 :=
  let main_v0 : FVec F S32x256x1024 .f32 := (extractStridedSlice S32x256x1024 ![0, 0, 0] · slices_S32x256x8192_S32x256x1024_0_0_0) main_arg0
  let main_v1 : FVec F S32x256x1024 .f32 := Host.absf main_v0
  let main_cst : FVec F S_ .f32 := constant S_ .f32 0x7F800000#32
  let main_v2 : FVec F S32x256x1024 .f32 := broadcastInDim S32x256x1024 ![] bcast_S_S32x256x1024 main_cst
  let main_v3 : IVec S32x256x1024 1 := cmpf .olt main_v1 main_v2
  main_v3
-- ==== Kernel.lean ====
abbrev S32x256x8192 : Shape := ⟨3, ![32, 256, 8192]⟩
abbrev S32x4x256x128 : Shape := ⟨4, ![32, 4, 256, 128]⟩
abbrev S4x64 : Shape := ⟨2, ![4, 64]⟩
abbrev S128 : Shape := ⟨1, ![128]⟩
abbrev S1x128 : Shape := ⟨2, ![1, 128]⟩
abbrev S32x256x512 : Shape := ⟨3, ![32, 256, 512]⟩
abbrev S32x2x4x256x128 : Shape := ⟨5, ![32, 2, 4, 256, 128]⟩
abbrev S1x256x512 : Shape := ⟨3, ![1, 256, 512]⟩
abbrev S1x4x256x128 : Shape := ⟨4, ![1, 4, 256, 128]⟩
abbrev S1x2x4x256x128 : Shape := ⟨5, ![1, 2, 4, 256, 128]⟩
abbrev S1x256x128 : Shape := ⟨3, ![1, 256, 128]⟩
abbrev S256x128 : Shape := ⟨2, ![256, 128]⟩
abbrev S1x1x256x128 : Shape := ⟨4, ![1, 1, 256, 128]⟩
abbrev S1x1x1x256x128 : Shape := ⟨5, ![1, 1, 1, 256, 128]⟩
abbrev S256x256 : Shape := ⟨2, ![256, 256]⟩
abbrev S256 : Shape := ⟨1, ![256]⟩
abbrev S256x1 : Shape := ⟨2, ![256, 1]⟩
abbrev S1x64 : Shape := ⟨2, ![1, 64]⟩
abbrev S1 : Shape := ⟨1, ![1]⟩
abbrev S1x1 : Shape := ⟨2, ![1, 1]⟩

abbrev nBuf : Space → Nat
  | .hbm => 9
  | .vmem => 18
  | .smem => 0
  | _ => 0

abbrev bufTy : (tb : Table) → Fin (tcTables nBuf tb) → BufTy
  | .hbm, ⟨0, _⟩ => ⟨S32x256x8192, .f32⟩
  | .hbm, ⟨1, _⟩ => ⟨S32x4x256x128, .f32⟩
  | .hbm, ⟨2, _⟩ => ⟨S32x4x256x128, .f32⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S32x256x512, .f32⟩
  | .hbm, ⟨7, _⟩ => ⟨S32x2x4x256x128, .f32⟩
  | .hbm, ⟨8, _⟩ => ⟨S32x2x4x256x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x4x256x128, .f32⟩
  | .local _ .vmem, ⟨7, _⟩ => ⟨S1x4x256x128, .f32⟩
  | .local _ .vmem, ⟨8, _⟩ => ⟨S1x4x256x128, .f32⟩
  | .local _ .vmem, ⟨9, _⟩ => ⟨S1x4x256x128, .f32⟩
  | .local _ .vmem, ⟨10, _⟩ => ⟨S4x64, .f32⟩
  | .local _ .vmem, ⟨11, _⟩ => ⟨S1x128, .f32⟩
  | .local _ .vmem, ⟨12, _⟩ => ⟨S1x256x512, .f32⟩
  | .local _ .vmem, ⟨13, _⟩ => ⟨S1x256x512, .f32⟩
  | .local _ .vmem, ⟨14, _⟩ => ⟨S1x2x4x256x128, .f32⟩
  | .local _ .vmem, ⟨15, _⟩ => ⟨S1x2x4x256x128, .f32⟩
  | .local _ .vmem, ⟨16, _⟩ => ⟨S1x2x4x256x128, .f32⟩
  | .local _ .vmem, ⟨17, _⟩ => ⟨S1x2x4x256x128, .f32⟩
  | _, _ => ⟨S32x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32x256x8192 : Shape := ⟨3, ![32, 256, 8192]⟩
abbrev S32x4x256x128 : Shape := ⟨4, ![32, 4, 256, 128]⟩
abbrev S4x64 : Shape := ⟨2, ![4, 64]⟩
abbrev S128 : Shape := ⟨1, ![128]⟩
abbrev S32x256x512 : Shape := ⟨3, ![32, 256, 512]⟩
abbrev S32x256x4x128 : Shape := ⟨4, ![32, 256, 4, 128]⟩
abbrev S1x64 : Shape := ⟨2, ![1, 64]⟩
abbrev S64 : Shape := ⟨1, ![64]⟩
abbrev S_ : Shape := ⟨0, ![]⟩
abbrev S32x4x256x64 : Shape := ⟨4, ![32, 4, 256, 64]⟩
abbrev S32x4x256x256 : Shape := ⟨4, ![32, 4, 256, 256]⟩
abbrev S32x4x256 : Shape := ⟨3, ![32, 4, 256]⟩
abbrev S32x4x256x1 : Shape := ⟨4, ![32, 4, 256, 1]⟩
abbrev S1x1x1x128 : Shape := ⟨4, ![1, 1, 1, 128]⟩
abbrev S32x1x4x256x128 : Shape := ⟨5, ![32, 1, 4, 256, 128]⟩
abbrev S32x2x4x256x128 : Shape := ⟨5, ![32, 2, 4, 256, 128]⟩

abbrev nBuf : Space → Nat
  | .hbm => 105
  | .vmem => 0
  | .smem => 0
  | _ => 0

abbrev bufTy : (tb : Table) → Fin (tcTables nBuf tb) → BufTy
  | .hbm, ⟨0, _⟩ => ⟨S32x256x8192, .f32⟩
  | .hbm, ⟨1, _⟩ => ⟨S32x4x256x128, .f32⟩
  | .hbm, ⟨2, _⟩ => ⟨S32x4x256x128, .f32⟩
  | .hbm, ⟨3, _⟩ => ⟨S4x64, .f32⟩
  | .hbm, ⟨4, _⟩ => ⟨S128, .f32⟩
  | .hbm, ⟨5, _⟩ => ⟨S32x256x512, .f32⟩
  | .hbm, ⟨6, _⟩ => ⟨S32x256x512, .f32⟩
  | .hbm, ⟨7, _⟩ => ⟨S32x256x512, .f32⟩
  | .hbm, ⟨8, _⟩ => ⟨S32x256x4x128, .f32⟩
  | .hbm, ⟨9, _⟩ => ⟨S32x4x256x128, .f32⟩
  | .hbm, ⟨10, _⟩ => ⟨S32x256x4x128, .f32⟩
  | .hbm, ⟨11, _⟩ => ⟨S32x4x256x128, .f32⟩
  | .hbm, ⟨12, _⟩ => ⟨S32x256x4x128, .f32⟩
  | .hbm, ⟨13, _⟩ => ⟨S32x4x256x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32x4x256x64, .f32⟩
  | .hbm, ⟨34, _⟩ => ⟨S32x4x256x64, .f32⟩
  | .hbm, ⟨35, _⟩ => ⟨S32x4x256x64, .f32⟩
  | .hbm, ⟨36, _⟩ => ⟨S32x4x256x64, .f32⟩
  | .hbm, ⟨37, _⟩ => ⟨S32x4x256x256, .f32⟩
  | .hbm, ⟨38, _⟩ => ⟨S_, .f32⟩
  | .hbm, ⟨39, _⟩ => ⟨S32x4x256x256, .f32⟩
  | .hbm, ⟨40, _⟩ => ⟨S32x4x256x256, .f32⟩
  | .hbm, ⟨41, _⟩ => ⟨S_, .f32⟩
  | .hbm, ⟨42, _⟩ => ⟨S32x4x256, .f32⟩
  | .hbm, ⟨43, _⟩ => ⟨S_, .f32⟩
  | .hbm, ⟨44, _⟩ => ⟨S32x4x256, .f32⟩
  | .hbm, ⟨45, _⟩ => ⟨S32x4x256, .f32⟩
  | .hbm, ⟨46, _⟩ => ⟨S32x4x256x1, .f32⟩
  | .hbm, ⟨47, _⟩ => ⟨S32x4x256x256, .f32⟩
  | .hbm, ⟨48, _⟩ => ⟨S32x4x256x256, .f32⟩
  | .hbm, ⟨49, _⟩ => ⟨S32x4x256x256, .f32⟩
  | .hbm, ⟨50, _⟩ => ⟨S_, .f32⟩
  | .hbm, ⟨51, _⟩ => ⟨S32x4x256, .f32⟩
  | .hbm, ⟨52, _⟩ => ⟨S32x4x256x1, .f32⟩
  | .hbm, ⟨53, _⟩ => ⟨S32x4x256x256, .f32⟩
  | .hbm, ⟨54, _⟩ => ⟨S32x4x256x256, .f32⟩
  | .hbm, ⟨55, _⟩ => ⟨S32x4x256x128, .f32⟩
  | .hbm, ⟨56, _⟩ => ⟨S32x4x256x256, .f32⟩
  | .hbm, ⟨57, _⟩ => ⟨S_, .f32⟩
  | .hbm, ⟨58, _⟩ => ⟨S32x4x256x256, .f32⟩
  | .hbm, ⟨59, _⟩ => ⟨S32x4x256x256, .f32⟩
  | .hbm, ⟨60, _⟩ => ⟨S_, .f32⟩
  | .hbm, ⟨61, _⟩ => ⟨S32x4x256, .f32⟩
  | .hbm, ⟨62, _⟩ => ⟨S_, .f32⟩
  | .hbm, ⟨63, _⟩ => ⟨S32x4x256, .f32⟩
  | .hbm, ⟨64, _⟩ => ⟨S32x4x256, .f32⟩
  | .hbm, ⟨65, _⟩ => ⟨S32x4x256x1, .f32⟩
  | .hbm, ⟨66, _⟩ => ⟨S32x4x256x256, .f32⟩
  | .hbm, ⟨67, _⟩ => ⟨S32x4x256x256, .f32⟩
  | .hbm, ⟨68, _⟩ => ⟨S32x4x256x256, .f32⟩
  | .hbm, ⟨69, _⟩ => ⟨S_, .f32⟩
  | .hbm, ⟨70, _⟩ => ⟨S32x4x256, .f32⟩
  | .hbm, ⟨71, _⟩ => ⟨S32x4x256x1, .f32⟩
  | .hbm, ⟨72, _⟩ => ⟨S32x4x256x256, .f32⟩
  | .hbm, ⟨73, _⟩ => ⟨S32x4x256x256, .f32⟩
  | .hbm, ⟨74, _⟩ => ⟨S32x4x256x128, .f32⟩
  | .hbm, ⟨75, _⟩ => ⟨S32x4x256x128, .f32⟩
  | .hbm, ⟨76, _⟩ => ⟨S32x4x256x128, .f32⟩
  | .hbm, ⟨77, _⟩ => ⟨S32x4x256x128, .f32⟩
  | .hbm, ⟨78, _⟩ => ⟨S32x4x256x128, .f32⟩
  | .hbm, ⟨79, _⟩ => ⟨S_, .f32⟩
  | .hbm, ⟨80, _⟩ => ⟨S32x4x256, .f32⟩
  | .hbm, ⟨81, _⟩ => ⟨S32x4x256x1, .f32⟩
  | .hbm, ⟨82, _⟩ => ⟨S_, .f32⟩
  | .hbm, ⟨83, _⟩ => ⟨S32x4x256x1, .f32⟩
  | .hbm, ⟨84, _⟩ => ⟨S32x4x256x1, .f32⟩
  | .hbm, ⟨85, _⟩ => ⟨S_, .f32⟩
  | .hbm, ⟨86, _⟩ => ⟨S32x4x256x1, .f32⟩
  | .hbm, ⟨87, _⟩ => ⟨S32x4x256x1, .f32⟩
  | .hbm, ⟨88, _⟩ => ⟨S32x4x256x1, .f32⟩
  | .hbm, ⟨89, _⟩ => ⟨S32x4x256x128, .f32⟩
  | .hbm, ⟨90, _⟩ => ⟨S32x4x256x128, .f32⟩
  | .hbm, ⟨91, _⟩ => ⟨S1x1x1x128, .f32⟩
  | .hbm, ⟨92, _⟩ => ⟨S32x4x256x128, .f32⟩
  | .hbm, ⟨93, _⟩ => ⟨S32x4x256x128, .f32⟩
  | .hbm, ⟨94, _⟩ => ⟨S_, .f32⟩
  | .hbm, ⟨95, _⟩ => ⟨S32x4x256x128, .f32⟩
  | .hbm, ⟨96, _⟩ => ⟨S32x4x256x128, .f32⟩
  | .hbm, ⟨97, _⟩ => ⟨S32x256x4x128, .f32⟩
  | .hbm, ⟨98, _⟩ => ⟨S32x256x512, .f32⟩
  | .hbm, ⟨99, _⟩ => ⟨S32x1x4x256x128, .f32⟩
  | .hbm, ⟨100, _⟩ => ⟨S32x1x4x256x128, .f32⟩
  | .hbm, ⟨101, _⟩ => ⟨S32x2x4x256x128, .f32⟩
  | .hbm, ⟨102, _⟩ => ⟨S32x1x4x256x128, .f32⟩
  | .hbm, ⟨103, _⟩ => ⟨S32x1x4x256x128, .f32⟩
  | .hbm, ⟨104, _⟩ => ⟨S32x2x4x256x128, .f32⟩
  | _, _ => ⟨S32x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_cst_12 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_13 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]
-- ==== Dense.lean ====
abbrev S32x256x8192 : Shape := ⟨3, ![32, 256, 8192]⟩
abbrev S32x4x256x128 : Shape := ⟨4, ![32, 4, 256, 128]⟩
abbrev S32x256x512 : Shape := ⟨3, ![32, 256, 512]⟩
abbrev S32x2x4x256x128 : Shape := ⟨5, ![32, 2, 4, 256, 128]⟩
abbrev S1x256x512 : Shape := ⟨3, ![1, 256, 512]⟩
abbrev S1x4x256x128 : Shape := ⟨4, ![1, 4, 256, 128]⟩
abbrev S1x2x4x256x128 : Shape := ⟨5, ![1, 2, 4, 256, 128]⟩
abbrev S1x256x128 : Shape := ⟨3, ![1, 256, 128]⟩
abbrev S256x128 : Shape := ⟨2, ![256, 128]⟩
abbrev S1x1x256x128 : Shape := ⟨4, ![1, 1, 256, 128]⟩
abbrev S1x1x1x256x128 : Shape := ⟨5, ![1, 1, 1, 256, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 16
  | .smem => 0
  | _ => 0

abbrev bufTy : (tb : Table) → Fin (tcTables nBuf tb) → BufTy
  | .hbm, ⟨0, _⟩ => ⟨S32x256x8192, .f32⟩
  | .hbm, ⟨1, _⟩ => ⟨S32x4x256x128, .f32⟩
  | .hbm, ⟨2, _⟩ => ⟨S32x4x256x128, .f32⟩
  | .hbm, ⟨3, _⟩ => ⟨S32x256x512, .f32⟩
  | .hbm, ⟨4, _⟩ => ⟨S32x2x4x256x128, .f32⟩
  | .hbm, ⟨5, _⟩ => ⟨S32x2x4x256x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x4x256x128, .f32⟩
  | .local _ .vmem, ⟨7, _⟩ => ⟨S1x4x256x128, .f32⟩
  | .local _ .vmem, ⟨8, _⟩ => ⟨S1x4x256x128, .f32⟩
  | .local _ .vmem, ⟨9, _⟩ => ⟨S1x4x256x128, .f32⟩
  | .local _ .vmem, ⟨10, _⟩ => ⟨S1x256x512, .f32⟩
  | .local _ .vmem, ⟨11, _⟩ => ⟨S1x256x512, .f32⟩
  | .local _ .vmem, ⟨12, _⟩ => ⟨S1x2x4x256x128, .f32⟩
  | .local _ .vmem, ⟨13, _⟩ => ⟨S1x2x4x256x128, .f32⟩
  | .local _ .vmem, ⟨14, _⟩ => ⟨S1x2x4x256x128, .f32⟩
  | .local _ .vmem, ⟨15, _⟩ => ⟨S1x2x4x256x128, .f32⟩
  | _, _ => ⟨S32x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  ![arg0.toNat, c0_i32.toNat, c7_i32.toNat]

def cc0_transform_1 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

def cc0_transform_2 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  ![arg0.toNat, c0_i32.toNat, c9_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DenseRefIdeal.lean ====
abbrev S32x256x8192 : Shape := ⟨3, ![32, 256, 8192]⟩
abbrev S32x4x256x128 : Shape := ⟨4, ![32, 4, 256, 128]⟩
abbrev S32x256x512 : Shape := ⟨3, ![32, 256, 512]⟩
abbrev S32x256x4x128 : Shape := ⟨4, ![32, 256, 4, 128]⟩
abbrev S32x4x256x256 : Shape := ⟨4, ![32, 4, 256, 256]⟩
abbrev S_ : Shape := ⟨0, ![]⟩
abbrev S32x4x256 : Shape := ⟨3, ![32, 4, 256]⟩
abbrev S32x4x256x1 : Shape := ⟨4, ![32, 4, 256, 1]⟩
abbrev S32x1x4x256x128 : Shape := ⟨5, ![32, 1, 4, 256, 128]⟩
abbrev S32x2x4x256x128 : Shape := ⟨5, ![32, 2, 4, 256, 128]⟩

abbrev nBuf : Space → Nat
  | .hbm => 39
  | .vmem => 0
  | .smem => 0
  | _ => 0

abbrev bufTy : (tb : Table) → Fin (tcTables nBuf tb) → BufTy
  | .hbm, ⟨0, _⟩ => ⟨S32x256x8192, .f32⟩
  | .hbm, ⟨1, _⟩ => ⟨S32x4x256x128, .f32⟩
  | .hbm, ⟨2, _⟩ => ⟨S32x4x256x128, .f32⟩
  | .hbm, ⟨3, _⟩ => ⟨S32x256x512, .f32⟩
  | .hbm, ⟨4, _⟩ => ⟨S32x256x512, .f32⟩
  | .hbm, ⟨5, _⟩ => ⟨S32x256x512, .f32⟩
  | .hbm, ⟨6, _⟩ => ⟨S32x256x4x128, .f32⟩
  | .hbm, ⟨7, _⟩ => ⟨S32x4x256x128, .f32⟩
  | .hbm, ⟨8, _⟩ => ⟨S32x256x4x128, .f32⟩
  | .hbm, ⟨9, _⟩ => ⟨S32x4x256x128, .f32⟩
  | .hbm, ⟨10, _⟩ => ⟨S32x256x4x128, .f32⟩
  | .hbm, ⟨11, _⟩ => ⟨S32x4x256x128, .f32⟩
  | .hbm, ⟨12, _⟩ => ⟨S32x4x256x256, .f32⟩
  | .hbm, ⟨13, _⟩ => ⟨S_, .f32⟩
  | .hbm, ⟨14, _⟩ => ⟨S32x4x256x256, .f32⟩
  | .hbm, ⟨15, _⟩ => ⟨S32x4x256x256, .f32⟩
  | .hbm, ⟨16, _⟩ => ⟨S_, .f32⟩
  | .hbm, ⟨17, _⟩ => ⟨S32x4x256, .f32⟩
  | .hbm, ⟨18, _⟩ => ⟨S_, .f32⟩
  | .hbm, ⟨19, _⟩ => ⟨S32x4x256, .f32⟩
  | .hbm, ⟨20, _⟩ => ⟨S32x4x256, .f32⟩
  | .hbm, ⟨21, _⟩ => ⟨S32x4x256x1, .f32⟩
  | .hbm, ⟨22, _⟩ => ⟨S32x4x256x256, .f32⟩
  | .hbm, ⟨23, _⟩ => ⟨S32x4x256x256, .f32⟩
  | .hbm, ⟨24, _⟩ => ⟨S32x4x256x256, .f32⟩
  | .hbm, ⟨25, _⟩ => ⟨S_, .f32⟩
  | .hbm, ⟨26, _⟩ => ⟨S32x4x256, .f32⟩
  | .hbm, ⟨27, _⟩ => ⟨S32x4x256x1, .f32⟩
  | .hbm, ⟨28, _⟩ => ⟨S32x4x256x256, .f32⟩
  | .hbm, ⟨29, _⟩ => ⟨S32x4x256x256, .f32⟩
  | .hbm, ⟨30, _⟩ => ⟨S32x4x256x128, .f32⟩
  | .hbm, ⟨31, _⟩ => ⟨S32x256x4x128, .f32⟩
  | .hbm, ⟨32, _⟩ => ⟨S32x256x512, .f32⟩
  | .hbm, ⟨33, _⟩ => ⟨S32x1x4x256x128, .f32⟩
  | .hbm, ⟨34, _⟩ => ⟨S32x1x4x256x128, .f32⟩
  | .hbm, ⟨35, _⟩ => ⟨S32x2x4x256x128, .f32⟩
  | .hbm, ⟨36, _⟩ => ⟨S32x1x4x256x128, .f32⟩
  | .hbm, ⟨37, _⟩ => ⟨S32x1x4x256x128, .f32⟩
  | .hbm, ⟨38, _⟩ => ⟨S32x2x4x256x128, .f32⟩
  | _, _ => ⟨S32x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Proj.lean ====
abbrev S32x256x1024 : Shape := ⟨3, ![32, 256, 1024]⟩
abbrev S1024 : Shape := ⟨1, ![1024]⟩
abbrev S1x1x1024 : Shape := ⟨3, ![1, 1, 1024]⟩
abbrev S1024x8192 : Shape := ⟨2, ![1024, 8192]⟩
abbrev S1024x8x1024 : Shape := ⟨3, ![1024, 8, 1024]⟩
abbrev S8x1024x1024 : Shape := ⟨3, ![8, 1024, 1024]⟩
abbrev S8192x1024 : Shape := ⟨2, ![8192, 1024]⟩
abbrev S1x1024 : Shape := ⟨2, ![1, 1024]⟩
abbrev S8192x8192 : Shape := ⟨2, ![8192, 8192]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 11
  | .vmem => 11
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x8192, .f32⟩
  | .hbm, ⟨5, _⟩ => ⟨S1024x8x1024, .f32⟩
  | .hbm, ⟨6, _⟩ => ⟨S8x1024x1024, .f32⟩
  | .hbm, ⟨7, _⟩ => ⟨S8x1024x1024, .bf16⟩
  | .hbm, ⟨8, _⟩ => ⟨S8192x1024, .f32⟩
  | .hbm, ⟨9, _⟩ => ⟨S1x1024, .f32⟩
  | .hbm, ⟨10, _⟩ => ⟨S8192x8192, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S8x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let arg1 : BitVec 32 := BitVec.ofNat 32 (i 1).val
  let v4 : Index := Scalar.indexCast arg1
  let c0_2 : Index := 0#32
  let c0_3 : Index := 0#32
  ![v4.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S32x256x1024 : Shape := ⟨3, ![32, 256, 1024]⟩
abbrev S1024 : Shape := ⟨1, ![1024]⟩
abbrev S1x1x1024 : Shape := ⟨3, ![1, 1, 1024]⟩
abbrev S1024x8192 : Shape := ⟨2, ![1024, 8192]⟩
abbrev S_ : Shape := ⟨0, ![]⟩
abbrev S32x256 : Shape := ⟨2, ![32, 256]⟩
abbrev S32x256x1 : Shape := ⟨3, ![32, 256, 1]⟩
abbrev S32x256x8192 : Shape := ⟨3, ![32, 256, 8192]⟩
abbrev S8192x8192 : Shape := ⟨2, ![8192, 8192]⟩

abbrev nBuf : Space → Nat
  | .hbm => 30
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x8192, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S_, .f32⟩
  | .hbm, ⟨22, _⟩ => ⟨S1x1x1024, .f32⟩
  | .hbm, ⟨23, _⟩ => ⟨S1x1x1024, .f32⟩
  | .hbm, ⟨24, _⟩ => ⟨S32x256x1024, .f32⟩
  | .hbm, ⟨25, _⟩ => ⟨S32x256x1024, .f32⟩
  | .hbm, ⟨26, _⟩ => ⟨S32x256x1024, .f32⟩
  | .hbm, ⟨27, _⟩ => ⟨S32x256x1024, .f32⟩
  | .hbm, ⟨28, _⟩ => ⟨S32x256x8192, .f32⟩
  | .hbm, ⟨29, _⟩ => ⟨S8192x8192, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Ret.lean ====
abbrev S32x256x8192 : Shape := ⟨3, ![32, 256, 8192]⟩
abbrev S32x2x4x64x128 : Shape := ⟨5, ![32, 2, 4, 64, 128]⟩
abbrev S2x4 : Shape := ⟨2, ![2, 4]⟩
abbrev S128 : Shape := ⟨1, ![128]⟩
abbrev S2x4x1x1 : Shape := ⟨4, ![2, 4, 1, 1]⟩
abbrev S2x4x8x128 : Shape := ⟨4, ![2, 4, 8, 128]⟩
abbrev S1x128 : Shape := ⟨2, ![1, 128]⟩
abbrev S32x256x512 : Shape := ⟨3, ![32, 256, 512]⟩
abbrev S32x2x2x4x64x128 : Shape := ⟨6, ![32, 2, 2, 4, 64, 128]⟩
abbrev S1x256x128 : Shape := ⟨3, ![1, 256, 128]⟩
abbrev S1x256x256 : Shape := ⟨3, ![1, 256, 256]⟩
abbrev S2x2x8x128 : Shape := ⟨4, ![2, 2, 8, 128]⟩
abbrev S1x2x2x64x128 : Shape := ⟨5, ![1, 2, 2, 64, 128]⟩
abbrev S1x2x2x2x64x128 : Shape := ⟨6, ![1, 2, 2, 2, 64, 128]⟩
abbrev S2x2x64x128 : Shape := ⟨4, ![2, 2, 64, 128]⟩
abbrev S1x1x2x2x64x128 : Shape := ⟨6, ![1, 1, 2, 2, 64, 128]⟩
abbrev S256x128 : Shape := ⟨2, ![256, 128]⟩
abbrev S256x1 : Shape := ⟨2, ![256, 1]⟩
abbrev S1x256 : Shape := ⟨2, ![1, 256]⟩
abbrev S256x256 : Shape := ⟨2, ![256, 256]⟩
abbrev S1x1x8x128 : Shape := ⟨4, ![1, 1, 8, 128]⟩
abbrev S8x128 : Shape := ⟨2, ![8, 128]⟩
abbrev S1x1 : Shape := ⟨2, ![1, 1]⟩
abbrev S128x128 : Shape := ⟨2, ![128, 128]⟩
abbrev S64x128 : Shape := ⟨2, ![64, 128]⟩
abbrev S1x1x64x128 : Shape := ⟨4, ![1, 1, 64, 128]⟩
abbrev S256 : Shape := ⟨1, ![256]⟩

abbrev nBuf : Space → Nat
  | .hbm => 9
  | .vmem => 19
  | .smem => 0
  | _ => 0

abbrev bufTy : (tb : Table) → Fin (tcTables nBuf tb) → BufTy
  | .hbm, ⟨0, _⟩ => ⟨S32x256x8192, .f32⟩
  | .hbm, ⟨1, _⟩ => ⟨S32x2x4x64x128, .f32⟩
  | .hbm, ⟨2, _⟩ => ⟨S2x4, .f32⟩
  | .hbm, ⟨3, _⟩ => ⟨S128, .f32⟩
  | .hbm, ⟨4, _⟩ => ⟨S2x4x1x1, .f32⟩
  | .hbm, ⟨5, _⟩ => ⟨S2x4x8x128, .f32⟩
  | .hbm, ⟨6, _⟩ => ⟨S1x128, .f32⟩
  | .hbm, ⟨7, _⟩ => ⟨S32x256x512, .f32⟩
  | .hbm, ⟨8, _⟩ => ⟨S32x2x2x4x64x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S2x2x8x128, .f32⟩
  | .local _ .vmem, ⟨11, _⟩ => ⟨S2x2x8x128, .f32⟩
  | .local _ .vmem, ⟨12, _⟩ => ⟨S1x128, .f32⟩
  | .local _ .vmem, ⟨13, _⟩ => ⟨S1x2x2x64x128, .f32⟩
  | .local _ .vmem, ⟨14, _⟩ => ⟨S1x2x2x64x128, .f32⟩
  | .local _ .vmem, ⟨15, _⟩ => ⟨S1x256x256, .f32⟩
  | .local _ .vmem, ⟨16, _⟩ => ⟨S1x256x256, .f32⟩
  | .local _ .vmem, ⟨17, _⟩ => ⟨S1x2x2x2x64x128, .f32⟩
  | .local _ .vmem, ⟨18, _⟩ => ⟨S1x2x2x2x64x128, .f32⟩
  | _, _ => ⟨S32x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![32, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x2x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2x2x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2x2x2x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== RetRefIdeal.lean ====
abbrev S32x256x8192 : Shape := ⟨3, ![32, 256, 8192]⟩
abbrev S32x2x4x64x128 : Shape := ⟨5, ![32, 2, 4, 64, 128]⟩
abbrev S2x4 : Shape := ⟨2, ![2, 4]⟩
abbrev S128 : Shape := ⟨1, ![128]⟩
abbrev S32x256x256 : Shape := ⟨3, ![32, 256, 256]⟩
abbrev S32x256x512 : Shape := ⟨3, ![32, 256, 512]⟩
abbrev S32x256x1024 : Shape := ⟨3, ![32, 256, 1024]⟩
abbrev S32x256x4x64 : Shape := ⟨4, ![32, 256, 4, 64]⟩
abbrev S32x4x256x64 : Shape := ⟨4, ![32, 4, 256, 64]⟩
abbrev S32x256x4x128 : Shape := ⟨4, ![32, 256, 4, 128]⟩
abbrev S32x4x256x128 : Shape := ⟨4, ![32, 4, 256, 128]⟩
abbrev S_ : Shape := ⟨0, ![]⟩
abbrev S32x4x64x128 : Shape := ⟨4, ![32, 4, 64, 128]⟩
abbrev S1x4 : Shape := ⟨2, ![1, 4]⟩
abbrev S4 : Shape := ⟨1, ![4]⟩
abbrev S64 : Shape := ⟨1, ![64]⟩
abbrev S4x1 : Shape := ⟨2, ![4, 1]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S4x64 : Shape := ⟨2, ![4, 64]⟩
abbrev S1x4x64x1 : Shape := ⟨4, ![1, 4, 64, 1]⟩
abbrev S1x4x1x1 : Shape := ⟨4, ![1, 4, 1, 1]⟩
abbrev S32x4x4x64x64 : Shape := ⟨5, ![32, 4, 4, 64, 64]⟩
abbrev S4x32x4x64x64 : Shape := ⟨5, ![4, 32, 4, 64, 64]⟩
abbrev S32x4x4x64x128 : Shape := ⟨5, ![32, 4, 4, 64, 128]⟩
abbrev S4x32x4x64x128 : Shape := ⟨5, ![4, 32, 4, 64, 128]⟩
abbrev S1x32x4x64x64 : Shape := ⟨5, ![1, 32, 4, 64, 64]⟩
abbrev S32x4x64x64 : Shape := ⟨4, ![32, 4, 64, 64]⟩
abbrev S1x32x4x64x128 : Shape := ⟨5, ![1, 32, 4, 64, 128]⟩
abbrev S1x4x64x64 : Shape := ⟨4, ![1, 4, 64, 64]⟩
abbrev S32x4x256 : Shape := ⟨3, ![32, 4, 256]⟩
abbrev S32x4x256x1 : Shape := ⟨4, ![32, 4, 256, 1]⟩
abbrev S1x1x1x128 : Shape := ⟨4, ![1, 1, 1, 128]⟩
abbrev S32x1x4x64x128 : Shape := ⟨5, ![32, 1, 4, 64, 128]⟩
abbrev S32x1x2x4x64x128 : Shape := ⟨6, ![32, 1, 2, 4, 64, 128]⟩
abbrev S32x2x2x4x64x128 : Shape := ⟨6, ![32, 2, 2, 4, 64, 128]⟩

abbrev nBuf : Space → Nat
  | .hbm => 401
  | .vmem => 0
  | .smem => 0
  | _ => 0

abbrev hbmTy0_0 (i : Nat) : BufTy := match i % 128 with
  | 0 => ⟨S32x256x8192, .f32⟩
  | 1 => ⟨S32x2x4x64x128, .f32⟩
  | 2 => ⟨S2x4, .f32⟩
  | 3 => ⟨S128, .f32⟩
  | 4 => ⟨S32x256x256, .f32⟩
  | 5 => ⟨S32x256x256, .f32⟩
  | 6 => ⟨S32x256x512, .f32⟩
  | 7 => ⟨S32x256x1024, .f32⟩
  | 8 => ⟨S32x256x4x64, .f32⟩
  | 9 => ⟨S32x4x256x64, .f32⟩
  | 10 => ⟨S32x256x4x64, .f32⟩
  | 11 => ⟨S32x4x256x64, .f32⟩
  | 12 => ⟨S32x256x4x128, .f32⟩
  | 13 => ⟨S32x4x256x128, .f32⟩
  | 14 => ⟨S2x4, .f32⟩
  | 15 => ⟨S_, .f32⟩
  | 16 => ⟨S2x4, .f32⟩
  | 17 => ⟨S2x4, .f32⟩
  | 18 => ⟨S2x4, .f32⟩
  | 19 => ⟨S2x4, .f32⟩
  | 20 => ⟨S2x4, .i1⟩
  | 21 => ⟨S2x4, .f32⟩
  | 22 => ⟨S2x4, .f32⟩
  | 23 => ⟨S2x4, .f32⟩
  | 24 => ⟨S2x4, .f32⟩
  | 25 => ⟨S2x4, .f32⟩
  | 26 => ⟨S2x4, .f32⟩
  | 27 => ⟨S2x4, .f32⟩
  | 28 => ⟨S2x4, .f32⟩
  | 29 => ⟨S2x4, .f32⟩
  | 30 => ⟨S_, .f32⟩
  | 31 => ⟨S32x4x64x128, .f32⟩
  | 32 => ⟨S_, .f32⟩
  | 33 => ⟨S32x4x64x128, .f32⟩
  | 34 => ⟨S1x4, .f32⟩
  | 35 => ⟨S4, .f32⟩
  | 36 => ⟨S_, .f32⟩
  | 37 => ⟨S32x4x256x64, .f32⟩
  | 38 => ⟨S32x4x256x64, .f32⟩
  | 39 => ⟨S64, .f32⟩
  | 40 => ⟨S4x1, .f32⟩
  | 41 => ⟨S64x1, .f32⟩
  | 42 => ⟨S1x64, .f32⟩
  | 43 => ⟨S64x64, .f32⟩
  | 44 => ⟨S64x64, .f32⟩
  | 45 => ⟨S64x64, .f32⟩
  | 46 => ⟨S_, .f32⟩
  | 47 => ⟨S64x64, .f32⟩
  | 48 => ⟨S64x64, .i1⟩
  | 49 => ⟨S4x1x1, .f32⟩
  | 50 => ⟨S_, .f32⟩
  | 51 => ⟨S64x64, .f32⟩
  | 52 => ⟨S64x64, .f32⟩
  | 53 => ⟨S1x64x64, .f32⟩
  | 54 => ⟨S4x64x64, .f32⟩
  | 55 => ⟨S4x64x64, .f32⟩
  | 56 => ⟨S4x64x64, .f32⟩
  | 57 => ⟨S4x64x64, .f32⟩
  | 58 => ⟨S_, .f32⟩
  | 59 => ⟨S_, .f32⟩
  | 60 => ⟨S4x64x64, .i1⟩
  | 61 => ⟨S4x64x64, .f32⟩
  | 62 => ⟨S4x64x64, .f32⟩
  | 63 => ⟨S_, .f32⟩
  | 64 => ⟨S64, .f32⟩
  | 65 => ⟨S64, .f32⟩
  | 66 => ⟨S1x64, .f32⟩
  | 67 => ⟨S4x64, .f32⟩
  | 68 => ⟨S4x64, .f32⟩
  | 69 => ⟨S4x64, .f32⟩
  | 70 => ⟨S4x64, .f32⟩
  | 71 => ⟨S1x4x64x1, .f32⟩
  | 72 => ⟨S_, .f32⟩
  | 73 => ⟨S64, .f32⟩
  | 74 => ⟨S64, .f32⟩
  | 75 => ⟨S1x64, .f32⟩
  | 76 => ⟨S4x64, .f32⟩
  | 77 => ⟨S4x64, .f32⟩
  | 78 => ⟨S4x64, .f32⟩
  | 79 => ⟨S4x64, .f32⟩
  | 80 => ⟨S1x4x64x1, .f32⟩
  | 81 => ⟨S_, .f32⟩
  | 82 => ⟨S4x1, .f32⟩
  | 83 => ⟨S4x1, .f32⟩
  | 84 => ⟨S4x1, .f32⟩
  | 85 => ⟨S1x4x1x1, .f32⟩
  | 86 => ⟨S32x4x4x64x64, .f32⟩
  | 87 => ⟨S4x32x4x64x64, .f32⟩
  | 88 => ⟨S32x4x4x64x64, .f32⟩
  | 89 => ⟨S4x32x4x64x64, .f32⟩
  | 90 => ⟨S32x4x4x64x128, .f32⟩
  | 91 => ⟨S4x32x4x64x128, .f32⟩
  | 92 => ⟨S1x32x4x64x64, .f32⟩
  | 93 => ⟨S32x4x64x64, .f32⟩
  | 94 => ⟨S1x32x4x64x64, .f32⟩
  | 95 => ⟨S32x4x64x64, .f32⟩
  | 96 => ⟨S1x32x4x64x128, .f32⟩
  | 97 => ⟨S32x4x64x128, .f32⟩
  | 98 => ⟨S32x4x64x64, .f32⟩
  | 99 => ⟨S1x4x64x64, .f32⟩
  | 100 => ⟨S32x4x64x64, .f32⟩
  | 101 => ⟨S32x4x64x64, .f32⟩
  | 102 => ⟨S32x4x64x128, .f32⟩
  | 103 => ⟨S32x4x64x64, .f32⟩
  | 104 => ⟨S32x4x64x64, .f32⟩
  | 105 => ⟨S32x4x64x128, .f32⟩
  | 106 => ⟨S32x4x64x128, .f32⟩
  | 107 => ⟨S32x4x64x128, .f32⟩
  | 108 => ⟨S32x4x64x128, .f32⟩
  | 109 => ⟨S32x4x64x64, .f32⟩
  | 110 => ⟨S32x4x64x64, .f32⟩
  | 111 => ⟨S32x4x64x128, .f32⟩
  | 112 => ⟨S32x4x64x128, .f32⟩
  | 113 => ⟨S1x32x4x64x64, .f32⟩
  | 114 => ⟨S32x4x64x64, .f32⟩
  | 115 => ⟨S1x32x4x64x64, .f32⟩
  | 116 => ⟨S32x4x64x64, .f32⟩
  | 117 => ⟨S1x32x4x64x128, .f32⟩
  | 118 => ⟨S32x4x64x128, .f32⟩
  | 119 => ⟨S32x4x64x64, .f32⟩
  | 120 => ⟨S1x4x64x64, .f32⟩
  | 121 => ⟨S32x4x64x64, .f32⟩
  | 122 => ⟨S32x4x64x64, .f32⟩
  | 123 => ⟨S32x4x64x128, .f32⟩
  | 124 => ⟨S32x4x64x64, .f32⟩
  | 125 => ⟨S32x4x64x64, .f32⟩
  | 126 => ⟨S32x4x64x128, .f32⟩
  | 127 => ⟨S32x4x64x128, .f32⟩
  | _ => ⟨S32x256x8192, .f32⟩

abbrev hbmTy0_1 (i : Nat) : BufTy := match i % 128 with
  | 0 => ⟨S32x4x64x128, .f32⟩
  | 1 => ⟨S32x4x64x128, .f32⟩
  | 2 => ⟨S32x4x64x64, .f32⟩
  | 3 => ⟨S32x4x64x64, .f32⟩
  | 4 => ⟨S32x4x64x128, .f32⟩
  | 5 => ⟨S32x4x64x128, .f32⟩
  | 6 => ⟨S1x32x4x64x64, .f32⟩
  | 7 => ⟨S32x4x64x64, .f32⟩
  | 8 => ⟨S1x32x4x64x64, .f32⟩
  | 9 => ⟨S32x4x64x64, .f32⟩
  | 10 => ⟨S1x32x4x64x128, .f32⟩
  | 11 => ⟨S32x4x64x128, .f32⟩
  | 12 => ⟨S32x4x64x64, .f32⟩
  | 13 => ⟨S1x4x64x64, .f32⟩
  | 14 => ⟨S32x4x64x64, .f32⟩
  | 15 => ⟨S32x4x64x64, .f32⟩
  | 16 => ⟨S32x4x64x128, .f32⟩
  | 17 => ⟨S32x4x64x64, .f32⟩
  | 18 => ⟨S32x4x64x64, .f32⟩
  | 19 => ⟨S32x4x64x128, .f32⟩
  | 20 => ⟨S32x4x64x128, .f32⟩
  | 21 => ⟨S32x4x64x128, .f32⟩
  | 22 => ⟨S32x4x64x128, .f32⟩
  | 23 => ⟨S32x4x64x64, .f32⟩
  | 24 => ⟨S32x4x64x64, .f32⟩
  | 25 => ⟨S32x4x64x128, .f32⟩
  | 26 => ⟨S32x4x64x128, .f32⟩
  | 27 => ⟨S1x32x4x64x64, .f32⟩
  | 28 => ⟨S32x4x64x64, .f32⟩
  | 29 => ⟨S1x32x4x64x64, .f32⟩
  | 30 => ⟨S32x4x64x64, .f32⟩
  | 31 => ⟨S1x32x4x64x128, .f32⟩
  | 32 => ⟨S32x4x64x128, .f32⟩
  | 33 => ⟨S32x4x64x64, .f32⟩
  | 34 => ⟨S1x4x64x64, .f32⟩
  | 35 => ⟨S32x4x64x64, .f32⟩
  | 36 => ⟨S32x4x64x64, .f32⟩
  | 37 => ⟨S32x4x64x128, .f32⟩
  | 38 => ⟨S32x4x64x64, .f32⟩
  | 39 => ⟨S32x4x64x64, .f32⟩
  | 40 => ⟨S32x4x64x128, .f32⟩
  | 41 => ⟨S32x4x64x128, .f32⟩
  | 42 => ⟨S32x4x64x128, .f32⟩
  | 43 => ⟨S32x4x64x128, .f32⟩
  | 44 => ⟨S32x4x64x64, .f32⟩
  | 45 => ⟨S32x4x64x64, .f32⟩
  | 46 => ⟨S32x4x64x128, .f32⟩
  | 47 => ⟨S32x4x64x128, .f32⟩
  | 48 => ⟨S1x32x4x64x128, .f32⟩
  | 49 => ⟨S1x32x4x64x128, .f32⟩
  | 50 => ⟨S1x32x4x64x128, .f32⟩
  | 51 => ⟨S1x32x4x64x128, .f32⟩
  | 52 => ⟨S4x32x4x64x128, .f32⟩
  | 53 => ⟨S32x4x4x64x128, .f32⟩
  | 54 => ⟨S32x4x256x128, .f32⟩
  | 55 => ⟨S32x4x256x64, .f32⟩
  | 56 => ⟨S32x4x256x64, .f32⟩
  | 57 => ⟨S32x4x256x128, .f32⟩
  | 58 => ⟨S1x4, .f32⟩
  | 59 => ⟨S4, .f32⟩
  | 60 => ⟨S_, .f32⟩
  | 61 => ⟨S32x4x256x64, .f32⟩
  | 62 => ⟨S32x4x256x64, .f32⟩
  | 63 => ⟨S64, .f32⟩
  | 64 => ⟨S4x1, .f32⟩
  | 65 => ⟨S64x1, .f32⟩
  | 66 => ⟨S1x64, .f32⟩
  | 67 => ⟨S64x64, .f32⟩
  | 68 => ⟨S64x64, .f32⟩
  | 69 => ⟨S64x64, .f32⟩
  | 70 => ⟨S_, .f32⟩
  | 71 => ⟨S64x64, .f32⟩
  | 72 => ⟨S64x64, .i1⟩
  | 73 => ⟨S4x1x1, .f32⟩
  | 74 => ⟨S_, .f32⟩
  | 75 => ⟨S64x64, .f32⟩
  | 76 => ⟨S64x64, .f32⟩
  | 77 => ⟨S1x64x64, .f32⟩
  | 78 => ⟨S4x64x64, .f32⟩
  | 79 => ⟨S4x64x64, .f32⟩
  | 80 => ⟨S4x64x64, .f32⟩
  | 81 => ⟨S4x64x64, .f32⟩
  | 82 => ⟨S_, .f32⟩
  | 83 => ⟨S_, .f32⟩
  | 84 => ⟨S4x64x64, .i1⟩
  | 85 => ⟨S4x64x64, .f32⟩
  | 86 => ⟨S4x64x64, .f32⟩
  | 87 => ⟨S_, .f32⟩
  | 88 => ⟨S64, .f32⟩
  | 89 => ⟨S64, .f32⟩
  | 90 => ⟨S1x64, .f32⟩
  | 91 => ⟨S4x64, .f32⟩
  | 92 => ⟨S4x64, .f32⟩
  | 93 => ⟨S4x64, .f32⟩
  | 94 => ⟨S4x64, .f32⟩
  | 95 => ⟨S1x4x64x1, .f32⟩
  | 96 => ⟨S_, .f32⟩
  | 97 => ⟨S64, .f32⟩
  | 98 => ⟨S64, .f32⟩
  | 99 => ⟨S1x64, .f32⟩
  | 100 => ⟨S4x64, .f32⟩
  | 101 => ⟨S4x64, .f32⟩
  | 102 => ⟨S4x64, .f32⟩
  | 103 => ⟨S4x64, .f32⟩
  | 104 => ⟨S1x4x64x1, .f32⟩
  | 105 => ⟨S_, .f32⟩
  | 106 => ⟨S4x1, .f32⟩
  | 107 => ⟨S4x1, .f32⟩
  | 108 => ⟨S4x1, .f32⟩
  | 109 => ⟨S1x4x1x1, .f32⟩
  | 110 => ⟨S32x4x4x64x64, .f32⟩
  | 111 => ⟨S4x32x4x64x64, .f32⟩
  | 112 => ⟨S32x4x4x64x64, .f32⟩
  | 113 => ⟨S4x32x4x64x64, .f32⟩
  | 114 => ⟨S32x4x4x64x128, .f32⟩
  | 115 => ⟨S4x32x4x64x128, .f32⟩
  | 116 => ⟨S1x32x4x64x64, .f32⟩
  | 117 => ⟨S32x4x64x64, .f32⟩
  | 118 => ⟨S1x32x4x64x64, .f32⟩
  | 119 => ⟨S32x4x64x64, .f32⟩
  | 120 => ⟨S1x32x4x64x128, .f32⟩
  | 121 => ⟨S32x4x64x128, .f32⟩
  | 122 => ⟨S32x4x64x64, .f32⟩
  | 123 => ⟨S1x4x64x64, .f32⟩
  | 124 => ⟨S32x4x64x64, .f32⟩
  | 125 => ⟨S32x4x64x64, .f32⟩
  | 126 => ⟨S32x4x64x128, .f32⟩
  | 127 => ⟨S32x4x64x64, .f32⟩
  | _ => ⟨S32x256x8192, .f32⟩

abbrev hbmTy0_2 (i : Nat) : BufTy := match i % 128 with
  | 0 => ⟨S32x4x64x64, .f32⟩
  | 1 => ⟨S32x4x64x128, .f32⟩
  | 2 => ⟨S32x4x64x128, .f32⟩
  | 3 => ⟨S32x4x64x128, .f32⟩
  | 4 => ⟨S32x4x64x128, .f32⟩
  | 5 => ⟨S32x4x64x64, .f32⟩
  | 6 => ⟨S32x4x64x64, .f32⟩
  | 7 => ⟨S32x4x64x128, .f32⟩
  | 8 => ⟨S32x4x64x128, .f32⟩
  | 9 => ⟨S1x32x4x64x64, .f32⟩
  | 10 => ⟨S32x4x64x64, .f32⟩
  | 11 => ⟨S1x32x4x64x64, .f32⟩
  | 12 => ⟨S32x4x64x64, .f32⟩
  | 13 => ⟨S1x32x4x64x128, .f32⟩
  | 14 => ⟨S32x4x64x128, .f32⟩
  | 15 => ⟨S32x4x64x64, .f32⟩
  | 16 => ⟨S1x4x64x64, .f32⟩
  | 17 => ⟨S32x4x64x64, .f32⟩
  | 18 => ⟨S32x4x64x64, .f32⟩
  | 19 => ⟨S32x4x64x128, .f32⟩
  | 20 => ⟨S32x4x64x64, .f32⟩
  | 21 => ⟨S32x4x64x64, .f32⟩
  | 22 => ⟨S32x4x64x128, .f32⟩
  | 23 => ⟨S32x4x64x128, .f32⟩
  | 24 => ⟨S32x4x64x128, .f32⟩
  | 25 => ⟨S32x4x64x128, .f32⟩
  | 26 => ⟨S32x4x64x64, .f32⟩
  | 27 => ⟨S32x4x64x64, .f32⟩
  | 28 => ⟨S32x4x64x128, .f32⟩
  | 29 => ⟨S32x4x64x128, .f32⟩
  | 30 => ⟨S1x32x4x64x64, .f32⟩
  | 31 => ⟨S32x4x64x64, .f32⟩
  | 32 => ⟨S1x32x4x64x64, .f32⟩
  | 33 => ⟨S32x4x64x64, .f32⟩
  | 34 => ⟨S1x32x4x64x128, .f32⟩
  | 35 => ⟨S32x4x64x128, .f32⟩
  | 36 => ⟨S32x4x64x64, .f32⟩
  | 37 => ⟨S1x4x64x64, .f32⟩
  | 38 => ⟨S32x4x64x64, .f32⟩
  | 39 => ⟨S32x4x64x64, .f32⟩
  | 40 => ⟨S32x4x64x128, .f32⟩
  | 41 => ⟨S32x4x64x64, .f32⟩
  | 42 => ⟨S32x4x64x64, .f32⟩
  | 43 => ⟨S32x4x64x128, .f32⟩
  | 44 => ⟨S32x4x64x128, .f32⟩
  | 45 => ⟨S32x4x64x128, .f32⟩
  | 46 => ⟨S32x4x64x128, .f32⟩
  | 47 => ⟨S32x4x64x64, .f32⟩
  | 48 => ⟨S32x4x64x64, .f32⟩
  | 49 => ⟨S32x4x64x128, .f32⟩
  | 50 => ⟨S32x4x64x128, .f32⟩
  | 51 => ⟨S1x32x4x64x64, .f32⟩
  | 52 => ⟨S32x4x64x64, .f32⟩
  | 53 => ⟨S1x32x4x64x64, .f32⟩
  | 54 => ⟨S32x4x64x64, .f32⟩
  | 55 => ⟨S1x32x4x64x128, .f32⟩
  | 56 => ⟨S32x4x64x128, .f32⟩
  | 57 => ⟨S32x4x64x64, .f32⟩
  | 58 => ⟨S1x4x64x64, .f32⟩
  | 59 => ⟨S32x4x64x64, .f32⟩
  | 60 => ⟨S32x4x64x64, .f32⟩
  | 61 => ⟨S32x4x64x128, .f32⟩
  | 62 => ⟨S32x4x64x64, .f32⟩
  | 63 => ⟨S32x4x64x64, .f32⟩
  | 64 => ⟨S32x4x64x128, .f32⟩
  | 65 => ⟨S32x4x64x128, .f32⟩
  | 66 => ⟨S32x4x64x128, .f32⟩
  | 67 => ⟨S32x4x64x128, .f32⟩
  | 68 => ⟨S32x4x64x64, .f32⟩
  | 69 => ⟨S32x4x64x64, .f32⟩
  | 70 => ⟨S32x4x64x128, .f32⟩
  | 71 => ⟨S32x4x64x128, .f32⟩
  | 72 => ⟨S1x32x4x64x128, .f32⟩
  | 73 => ⟨S1x32x4x64x128, .f32⟩
  | 74 => ⟨S1x32x4x64x128, .f32⟩
  | 75 => ⟨S1x32x4x64x128, .f32⟩
  | 76 => ⟨S4x32x4x64x128, .f32⟩
  | 77 => ⟨S32x4x4x64x128, .f32⟩
  | 78 => ⟨S32x4x256x128, .f32⟩
  | 79 => ⟨S32x4x256x128, .f32⟩
  | 80 => ⟨S32x256x512, .f32⟩
  | 81 => ⟨S32x256x512, .f32⟩
  | 82 => ⟨S32x256x512, .f32⟩
  | 83 => ⟨S32x256x512, .f32⟩
  | 84 => ⟨S_, .f32⟩
  | 85 => ⟨S32x256x512, .f32⟩
  | 86 => ⟨S32x256x512, .f32⟩
  | 87 => ⟨S_, .f32⟩
  | 88 => ⟨S32x256x512, .f32⟩
  | 89 => ⟨S32x256x512, .f32⟩
  | 90 => ⟨S32x256x512, .f32⟩
  | 91 => ⟨S32x4x256x128, .f32⟩
  | 92 => ⟨S_, .f32⟩
  | 93 => ⟨S32x4x256, .f32⟩
  | 94 => ⟨S32x4x256x1, .f32⟩
  | 95 => ⟨S_, .f32⟩
  | 96 => ⟨S32x4x256x1, .f32⟩
  | 97 => ⟨S32x4x256x1, .f32⟩
  | 98 => ⟨S_, .f32⟩
  | 99 => ⟨S32x4x256x1, .f32⟩
  | 100 => ⟨S32x4x256x1, .f32⟩
  | 101 => ⟨S32x4x256x1, .f32⟩
  | 102 => ⟨S32x4x256x128, .f32⟩
  | 103 => ⟨S32x4x256x128, .f32⟩
  | 104 => ⟨S1x1x1x128, .f32⟩
  | 105 => ⟨S32x4x256x128, .f32⟩
  | 106 => ⟨S32x4x256x128, .f32⟩
  | 107 => ⟨S32x256x4x128, .f32⟩
  | 108 => ⟨S32x256x512, .f32⟩
  | 109 => ⟨S32x256x512, .f32⟩
  | 110 => ⟨S32x256x512, .f32⟩
  | 111 => ⟨S32x256x512, .f32⟩
  | 112 => ⟨S_, .f32⟩
  | 113 => ⟨S32x256x512, .f32⟩
  | 114 => ⟨S32x256x512, .f32⟩
  | 115 => ⟨S_, .f32⟩
  | 116 => ⟨S32x256x512, .f32⟩
  | 117 => ⟨S32x256x512, .f32⟩
  | 118 => ⟨S32x256x512, .f32⟩
  | 119 => ⟨S32x4x256x128, .f32⟩
  | 120 => ⟨S_, .f32⟩
  | 121 => ⟨S32x4x256, .f32⟩
  | 122 => ⟨S32x4x256x1, .f32⟩
  | 123 => ⟨S_, .f32⟩
  | 124 => ⟨S32x4x256x1, .f32⟩
  | 125 => ⟨S32x4x256x1, .f32⟩
  | 126 => ⟨S_, .f32⟩
  | 127 => ⟨S32x4x256x1, .f32⟩
  | _ => ⟨S32x256x8192, .f32⟩

abbrev hbmTy0_3 (i : Nat) : BufTy := match i % 128 with
  | 0 => ⟨S32x4x256x1, .f32⟩
  | 1 => ⟨S32x4x256x1, .f32⟩
  | 2 => ⟨S32x4x256x128, .f32⟩
  | 3 => ⟨S32x4x256x128, .f32⟩
  | 4 => ⟨S1x1x1x128, .f32⟩
  | 5 => ⟨S32x4x256x128, .f32⟩
  | 6 => ⟨S32x4x256x128, .f32⟩
  | 7 => ⟨S32x256x4x128, .f32⟩
  | 8 => ⟨S32x256x512, .f32⟩
  | 9 => ⟨S32x256x512, .f32⟩
  | 10 => ⟨S32x256x512, .f32⟩
  | 11 => ⟨S32x1x4x64x128, .f32⟩
  | 12 => ⟨S32x1x4x64x128, .f32⟩
  | 13 => ⟨S32x2x4x64x128, .f32⟩
  | 14 => ⟨S32x1x2x4x64x128, .f32⟩
  | 15 => ⟨S32x1x2x4x64x128, .f32⟩
  | 16 => ⟨S32x2x2x4x64x128, .f32⟩
  | _ => ⟨S32x256x8192, .f32⟩

abbrev hbmTy (i : Nat) : BufTy := match i / 128 with
  | 0 => hbmTy0_0 i
  | 1 => hbmTy0_1 i
  | 2 => hbmTy0_2 i
  | 3 => hbmTy0_3 i
  | _ => ⟨S32x256x8192, .f32⟩

abbrev bufTy : (tb : Table) → Fin (tcTables nBuf tb) → BufTy
  | .hbm, ⟨i, _⟩ => hbmTy i
  | _, _ => ⟨S32x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_cst_8 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_cst_9 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_cst_10 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_cst_11 : Ref sig .tc := ⟨.hbm, 210, rfl⟩
abbrev main_call5_v0 : Ref sig .tc := ⟨.hbm, 211, rfl⟩
abbrev main_call5_v1 : Ref sig .tc := ⟨.hbm, 212, rfl⟩
abbrev main_call5_v2 : Ref sig .tc := ⟨.hbm, 213, rfl⟩
abbrev main_v176 : Ref sig .tc := ⟨.hbm, 214, rfl⟩
abbrev main_cst_12 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_cst_13 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_cst_14 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_call7_v0 : Ref sig .tc := ⟨.hbm, 338, rfl⟩
abbrev main_call7_v1 : Ref sig .tc := ⟨.hbm, 339, rfl⟩
abbrev main_call7_cst : Ref sig .tc := ⟨.hbm, 340, rfl⟩
abbrev main_call7_v2 : Ref sig .tc := ⟨.hbm, 341, rfl⟩
abbrev main_call7_v3 : Ref sig .tc := ⟨.hbm, 342, rfl⟩
abbrev main_call7_cst_0 : Ref sig .tc := ⟨.hbm, 343, rfl⟩
abbrev main_call7_v4 : Ref sig .tc := ⟨.hbm, 344, rfl⟩
abbrev main_call7_v5 : Ref sig .tc := ⟨.hbm, 345, rfl⟩
abbrev main_v297 : Ref sig .tc := ⟨.hbm, 346, rfl⟩
abbrev main_v298 : Ref sig .tc := ⟨.hbm, 347, rfl⟩
abbrev main_cst_15 : Ref sig .tc := ⟨.hbm, 348, rfl⟩
abbrev main_v299 : Ref sig .tc := ⟨.hbm, 349, rfl⟩
abbrev main_v300 : Ref sig .tc := ⟨.hbm, 350, rfl⟩
abbrev main_cst_16 : Ref sig .tc := ⟨.hbm, 351, rfl⟩
abbrev main_v301 : Ref sig .tc := ⟨.hbm, 352, rfl⟩
abbrev main_v302 : Ref sig .tc := ⟨.hbm, 353, rfl⟩
abbrev main_cst_17 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_call8_v0 : Ref sig .tc := ⟨.hbm, 366, rfl⟩
abbrev main_call8_v1 : Ref sig .tc := ⟨.hbm, 367, rfl⟩
abbrev main_call8_cst : Ref sig .tc := ⟨.hbm, 368, rfl⟩
abbrev main_call8_v2 : Ref sig .tc := ⟨.hbm, 369, rfl⟩
abbrev main_call8_v3 : Ref sig .tc := ⟨.hbm, 370, rfl⟩
abbrev main_call8_cst_0 : Ref sig .tc := ⟨.hbm, 371, rfl⟩
abbrev main_call8_v4 : Ref sig .tc := ⟨.hbm, 372, rfl⟩
abbrev main_call8_v5 : Ref sig .tc := ⟨.hbm, 373, rfl⟩
abbrev main_v314 : Ref sig .tc := ⟨.hbm, 374, rfl⟩
abbrev main_v315 : Ref sig .tc := ⟨.hbm, 375, rfl⟩
abbrev main_cst_18 : Ref sig .tc := ⟨.hbm, 376, rfl⟩
abbrev main_v316 : Ref sig .tc := ⟨.hbm, 377, rfl⟩
abbrev main_v317 : Ref sig .tc := ⟨.hbm, 378, rfl⟩
abbrev main_cst_19 : Ref sig .tc := ⟨.hbm, 379, rfl⟩
abbrev main_v318 : Ref sig .tc := ⟨.hbm, 380, rfl⟩
abbrev main_v319 : Ref sig .tc := ⟨.hbm, 381, rfl⟩
abbrev main_cst_20 : Ref sig .tc := ⟨.hbm, 382, rfl⟩
abbrev main_v320 : Ref sig .tc := ⟨.hbm, 383, rfl⟩
abbrev main_v321 : Ref sig .tc := ⟨.hbm, 384, rfl⟩
abbrev main_v322 : Ref sig .tc := ⟨.hbm, 385, rfl⟩
abbrev main_v323 : Ref sig .tc := ⟨.hbm, 386, rfl⟩
abbrev main_v324 : Ref sig .tc := ⟨.hbm, 387, rfl⟩
abbrev main_v325 : Ref sig .tc := ⟨.hbm, 388, rfl⟩
abbrev main_v326 : Ref sig .tc := ⟨.hbm, 389, rfl⟩
abbrev main_v327 : Ref sig .tc := ⟨.hbm, 390, rfl⟩
abbrev main_v328 : Ref sig .tc := ⟨.hbm, 391, rfl⟩
abbrev main_v329 : Ref sig .tc := ⟨.hbm, 392, rfl⟩
abbrev main_v330 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩

abbrev nD : Nat := 1
abbrev τ : Topo := Topo.v7x

variable {F : FTy → Type} [FloatOps F]
-- ==== Merge.lean ====
abbrev S32x256x512 : Shape := ⟨3, ![32, 256, 512]⟩
abbrev S32x256x8192 : Shape := ⟨3, ![32, 256, 8192]⟩
abbrev S32x256x1024 : Shape := ⟨3, ![32, 256, 1024]⟩
abbrev S1x1x1024 : Shape := ⟨3, ![1, 1, 1024]⟩
abbrev S3x512x1024 : Shape := ⟨3, ![3, 512, 1024]⟩
abbrev S1024x1024 : Shape := ⟨2, ![1024, 1024]⟩
abbrev S8192x512 : Shape := ⟨2, ![8192, 512]⟩
abbrev S8192x8192 : Shape := ⟨2, ![8192, 8192]⟩
abbrev S8192x1024 : Shape := ⟨2, ![8192, 1024]⟩
abbrev S256x512 : Shape := ⟨2, ![256, 512]⟩
abbrev S256x1024 : Shape := ⟨2, ![256, 1024]⟩
abbrev S1x512x1024 : Shape := ⟨3, ![1, 512, 1024]⟩
abbrev S512x1024 : Shape := ⟨2, ![512, 1024]⟩
abbrev S1x1024 : Shape := ⟨2, ![1, 1024]⟩

abbrev nBuf : Space → Nat
  | .hbm => 16
  | .vmem => 20
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S32x256x512, .f32⟩
  | .hbm, ⟨3, _⟩ => ⟨S32x256x8192, .f32⟩
  | .hbm, ⟨4, _⟩ => ⟨S32x256x1024, .f32⟩
  | .hbm, ⟨5, _⟩ => ⟨S1x1x1024, .f32⟩
  | .hbm, ⟨6, _⟩ => ⟨S3x512x1024, .f32⟩
  | .hbm, ⟨7, _⟩ => ⟨S1024x1024, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x8192, .f32⟩
  | .hbm, ⟨12, _⟩ => ⟨S8192x1024, .f32⟩
  | .hbm, ⟨13, _⟩ => ⟨S3x512x1024, .bf16⟩
  | .hbm, ⟨14, _⟩ => ⟨S1024x1024, .bf16⟩
  | .hbm, ⟨15, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1x1024, .f32⟩
  | .local _ .vmem, ⟨15, _⟩ => ⟨S1x1x1024, .f32⟩
  | .local _ .vmem, ⟨16, _⟩ => ⟨S3x512x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S32x256x512 : Shape := ⟨3, ![32, 256, 512]⟩
abbrev S32x256x8192 : Shape := ⟨3, ![32, 256, 8192]⟩
abbrev S32x256x1024 : Shape := ⟨3, ![32, 256, 1024]⟩
abbrev S1x1x1024 : Shape := ⟨3, ![1, 1, 1024]⟩
abbrev S3x512x1024 : Shape := ⟨3, ![3, 512, 1024]⟩
abbrev S1024x1024 : Shape := ⟨2, ![1024, 1024]⟩
abbrev S32x256x3072 : Shape := ⟨3, ![32, 256, 3072]⟩
abbrev S_ : Shape := ⟨0, ![]⟩
abbrev S1x512x1024 : Shape := ⟨3, ![1, 512, 1024]⟩
abbrev S512x1024 : Shape := ⟨2, ![512, 1024]⟩
abbrev S8192x1024 : Shape := ⟨2, ![8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S32x256x512, .f32⟩
  | .hbm, ⟨3, _⟩ => ⟨S32x256x8192, .f32⟩
  | .hbm, ⟨4, _⟩ => ⟨S32x256x1024, .f32⟩
  | .hbm, ⟨5, _⟩ => ⟨S1x1x1024, .f32⟩
  | .hbm, ⟨6, _⟩ => ⟨S3x512x1024, .f32⟩
  | .hbm, ⟨7, _⟩ => ⟨S1024x1024, .f32⟩
  | .hbm, ⟨8, _⟩ => ⟨S32x256x3072, .f32⟩
  | .hbm, ⟨9, _⟩ => ⟨S32x256x3072, .f32⟩
  | .hbm, ⟨10, _⟩ => ⟨S32x256x3072, .f32⟩
  | .hbm, ⟨11, _⟩ => ⟨S_, .f32⟩
  | .hbm, ⟨12, _⟩ => ⟨S32x256x3072, .f32⟩
  | .hbm, ⟨13, _⟩ => ⟨S32x256x3072, .f32⟩
  | .hbm, ⟨14, _⟩ => ⟨S_, .f32⟩
  | .hbm, ⟨15, _⟩ => ⟨S32x256x3072, .f32⟩
  | .hbm, ⟨16, _⟩ => ⟨S32x256x3072, .f32⟩
  | .hbm, ⟨17, _⟩ => ⟨S32x256x1024, .f32⟩
  | .hbm, ⟨18, _⟩ => ⟨S32x256x1024, .f32⟩
  | .hbm, ⟨19, _⟩ => ⟨S32x256x1024, .f32⟩
  | .hbm, ⟨20, _⟩ => ⟨S1x512x1024, .f32⟩
  | .hbm, ⟨21, _⟩ => ⟨S512x1024, .f32⟩
  | .hbm, ⟨22, _⟩ => ⟨S32x256x1024, .f32⟩
  | .hbm, ⟨23, _⟩ => ⟨S32x256x1024, .f32⟩
  | .hbm, ⟨24, _⟩ => ⟨S1x512x1024, .f32⟩
  | .hbm, ⟨25, _⟩ => ⟨S512x1024, .f32⟩
  | .hbm, ⟨26, _⟩ => ⟨S32x256x1024, .f32⟩
  | .hbm, ⟨27, _⟩ => ⟨S32x256x1024, .f32⟩
  | .hbm, ⟨28, _⟩ => ⟨S32x256x1024, .f32⟩
  | .hbm, ⟨29, _⟩ => ⟨S1x512x1024, .f32⟩
  | .hbm, ⟨30, _⟩ => ⟨S512x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S8192x1024, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Final.lean ====
abbrev S32x256x1024 : Shape := ⟨3, ![32, 256, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalIdeal.lean ====
abbrev S32x256x1024 : Shape := ⟨3, ![32, 256, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S32x256x1024 : Shape := ⟨3, ![32, 256, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S8192x1024 : Shape := ⟨2, ![8192, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S32x256x1024, .f32⟩
  | .hbm, ⟨3, _⟩ => ⟨S_, .f32⟩
  | .hbm, ⟨4, _⟩ => ⟨S32x256, .f32⟩
  | .hbm, ⟨5, _⟩ => ⟨S32x256x1, .f32⟩
  | .hbm, ⟨6, _⟩ => ⟨S_, .f32⟩
  | .hbm, ⟨7, _⟩ => ⟨S32x256x1, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S32x256x1, .f32⟩
  | .hbm, ⟨13, _⟩ => ⟨S32x256x1024, .f32⟩
  | .hbm, ⟨14, _⟩ => ⟨S32x256x1024, .f32⟩
  | .hbm, ⟨15, _⟩ => ⟨S1x1x1024, .f32⟩
  | .hbm, ⟨16, _⟩ => ⟨S32x256x1024, .f32⟩
  | .hbm, ⟨17, _⟩ => ⟨S32x256x1024, .f32⟩
  | .hbm, ⟨18, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinalS.lean ====
abbrev S2x1024x1024 : Shape := ⟨3, ![2, 1024, 1024]⟩
abbrev S1024 : Shape := ⟨1, ![1024]⟩
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x1024x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalSRefIdeal.lean ====
abbrev S2x1024x1024 : Shape := ⟨3, ![2, 1024, 1024]⟩
abbrev S1024 : Shape := ⟨1, ![1024]⟩
abbrev S_ : Shape := ⟨0, ![]⟩
abbrev S2x1024 : Shape := ⟨2, ![2, 1024]⟩
abbrev S2x1024x1 : Shape := ⟨3, ![2, 1024, 1]⟩
abbrev S1x1x1024 : Shape := ⟨3, ![1, 1, 1024]⟩
abbrev S2048x1024 : Shape := ⟨2, ![2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024, .f32⟩
  | .hbm, ⟨2, _⟩ => ⟨S2x1024x1024, .f32⟩
  | .hbm, ⟨3, _⟩ => ⟨S_, .f32⟩
  | .hbm, ⟨4, _⟩ => ⟨S2x1024, .f32⟩
  | .hbm, ⟨5, _⟩ => ⟨S2x1024x1, .f32⟩
  | .hbm, ⟨6, _⟩ => ⟨S_, .f32⟩
  | .hbm, ⟨7, _⟩ => ⟨S2x1024x1, .f32⟩
  | .hbm, ⟨8, _⟩ => ⟨S2x1024x1, .f32⟩
  | .hbm, ⟨9, _⟩ => ⟨S_, .f32⟩
  | .hbm, ⟨10, _⟩ => ⟨S2x1024x1, .f32⟩
  | .hbm, ⟨11, _⟩ => ⟨S2x1024x1, .f32⟩
  | .hbm, ⟨12, _⟩ => ⟨S2x1024x1, .f32⟩
  | .hbm, ⟨13, _⟩ => ⟨S2x1024x1024, .f32⟩
  | .hbm, ⟨14, _⟩ => ⟨S2x1024x1024, .f32⟩
  | .hbm, ⟨15, _⟩ => ⟨S1x1x1024, .f32⟩
  | .hbm, ⟨16, _⟩ => ⟨S2x1024x1024, .f32⟩
  | .hbm, ⟨17, _⟩ => ⟨S2x1024x1024, .f32⟩
  | .hbm, ⟨18, _⟩ => ⟨S2048x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Query.lean ====
abbrev S32x256x1024 : Shape := ⟨3, ![32, 256, 1024]⟩
abbrev S1024 : Shape := ⟨1, ![1024]⟩
abbrev S1x1x1024 : Shape := ⟨3, ![1, 1, 1024]⟩
abbrev S1024x2048 : Shape := ⟨2, ![1024, 2048]⟩
abbrev S1024x2x1024 : Shape := ⟨3, ![1024, 2, 1024]⟩
abbrev S2x1024x1024 : Shape := ⟨3, ![2, 1024, 1024]⟩
abbrev S8192x1024 : Shape := ⟨2, ![8192, 1024]⟩
abbrev S1x1024 : Shape := ⟨2, ![1, 1024]⟩
abbrev S16x8192x128 : Shape := ⟨3, ![16, 8192, 128]⟩
abbrev S512x1024 : Shape := ⟨2, ![512, 1024]⟩
abbrev S8x512x128 : Shape := ⟨3, ![8, 512, 128]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S512x128 : Shape := ⟨2, ![512, 128]⟩
abbrev S1x512x128 : Shape := ⟨3, ![1, 512, 128]⟩

abbrev nBuf : Space → Nat
  | .hbm => 12
  | .vmem => 13
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x2048, .f32⟩
  | .hbm, ⟨5, _⟩ => ⟨S1024x2x1024, .f32⟩
  | .hbm, ⟨6, _⟩ => ⟨S2x1024x1024, .f32⟩
  | .hbm, ⟨7, _⟩ => ⟨S2x1024x1024, .bf16⟩
  | .hbm, ⟨8, _⟩ => ⟨S8192x1024, .f32⟩
  | .hbm, ⟨9, _⟩ => ⟨S1x1024, .f32⟩
  | .hbm, ⟨10, _⟩ => ⟨S16x8192x128, .f32⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S2x1024x1024, .bf16⟩
  | .local _ .vmem, ⟨8, _⟩ => ⟨S8x512x128, .f32⟩
  | .local _ .vmem, ⟨9, _⟩ => ⟨S8x512x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let arg1 : BitVec 32 := BitVec.ofNat 32 (i 1).val
  let v6 : Index := Scalar.indexCast arg1
  let c0_6 : Index := 0#32
  let c0_7 : Index := 0#32
  ![v6.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== QueryRefIdeal.lean ====
abbrev S32x256x1024 : Shape := ⟨3, ![32, 256, 1024]⟩
abbrev S1024 : Shape := ⟨1, ![1024]⟩
abbrev S1x1x1024 : Shape := ⟨3, ![1, 1, 1024]⟩
abbrev S1024x2048 : Shape := ⟨2, ![1024, 2048]⟩
abbrev S_ : Shape := ⟨0, ![]⟩
abbrev S32x256 : Shape := ⟨2, ![32, 256]⟩
abbrev S32x256x1 : Shape := ⟨3, ![32, 256, 1]⟩
abbrev S8192x1024 : Shape := ⟨2, ![8192, 1024]⟩
abbrev S8192x2048 : Shape := ⟨2, ![8192, 2048]⟩
abbrev S8192x16x128 : Shape := ⟨3, ![8192, 16, 128]⟩
abbrev S16x8192x128 : Shape := ⟨3, ![16, 8192, 128]⟩

abbrev nBuf : Space → Nat
  | .hbm => 33
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x2048, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S_, .f32⟩
  | .hbm, ⟨22, _⟩ => ⟨S1x1x1024, .f32⟩
  | .hbm, ⟨23, _⟩ => ⟨S1x1x1024, .f32⟩
  | .hbm, ⟨24, _⟩ => ⟨S32x256x1024, .f32⟩
  | .hbm, ⟨25, _⟩ => ⟨S32x256x1024, .f32⟩
  | .hbm, ⟨26, _⟩ => ⟨S32x256x1024, .f32⟩
  | .hbm, ⟨27, _⟩ => ⟨S32x256x1024, .f32⟩
  | .hbm, ⟨28, _⟩ => ⟨S8192x1024, .f32⟩
  | .hbm, ⟨29, _⟩ => ⟨S8192x2048, .f32⟩
  | .hbm, ⟨30, _⟩ => ⟨S8192x16x128, .f32⟩
  | .hbm, ⟨31, _⟩ => ⟨S16x8192x128, .f32⟩
  | .hbm, ⟨32, _⟩ => ⟨S8192x1024, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Mod.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Lat.lean ====
abbrev S2x1024x8192 : Shape := ⟨3, ![2, 1024, 8192]⟩
abbrev S2x4x256x128 : Shape := ⟨4, ![2, 4, 256, 128]⟩
abbrev S4x64 : Shape := ⟨2, ![4, 64]⟩
abbrev S128 : Shape := ⟨1, ![128]⟩
abbrev S1x128 : Shape := ⟨2, ![1, 128]⟩
abbrev S1024 : Shape := ⟨1, ![1024]⟩
abbrev S_ : Shape := ⟨0, ![]⟩
abbrev S16 : Shape := ⟨1, ![16]⟩
abbrev S128x1 : Shape := ⟨2, ![128, 1]⟩
abbrev S1024x1 : Shape := ⟨2, ![1024, 1]⟩
abbrev S1024x128 : Shape := ⟨2, ![1024, 128]⟩
abbrev S2x1024x512 : Shape := ⟨3, ![2, 1024, 512]⟩
abbrev S1x256x128 : Shape := ⟨3, ![1, 256, 128]⟩
abbrev S1x1024x128 : Shape := ⟨3, ![1, 1024, 128]⟩
abbrev S1x1x256x128 : Shape := ⟨4, ![1, 1, 256, 128]⟩
abbrev S256x128 : Shape := ⟨2, ![256, 128]⟩
abbrev S1280x128 : Shape := ⟨2, ![1280, 128]⟩
abbrev S256x1280 : Shape := ⟨2, ![256, 1280]⟩
abbrev S256 : Shape := ⟨1, ![256]⟩
abbrev S256x1 : Shape := ⟨2, ![256, 1]⟩
abbrev S1x64 : Shape := ⟨2, ![1, 64]⟩
abbrev S1 : Shape := ⟨1, ![1]⟩
abbrev S1x1 : Shape := ⟨2, ![1, 1]⟩

abbrev nBuf : Space → Nat
  | .hbm => 100
  | .vmem => 25
  | .smem => 0
  | _ => 0

abbrev bufTy : (tb : Table) → Fin (tcTables nBuf tb) → BufTy
  | .hbm, ⟨0, _⟩ => ⟨S2x1024x8192, .f32⟩
  | .hbm, ⟨1, _⟩ => ⟨S2x4x256x128, .f32⟩
  | .hbm, ⟨2, _⟩ => ⟨S2x4x256x128, .f32⟩
  | .hbm, ⟨3, _⟩ => ⟨S4x64, .f32⟩
  | .hbm, ⟨4, _⟩ => ⟨S128, .f32⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S1x128, .i1⟩
  | .hbm, ⟨9, _⟩ => ⟨S128, .i1⟩
  | .hbm, ⟨10, _⟩ => ⟨S1x128, .i1⟩
  | .hbm, ⟨11, _⟩ => ⟨S128, .i1⟩
  | .hbm, ⟨12, _⟩ => ⟨S1x128, .i1⟩
  | .hbm, ⟨13, _⟩ => ⟨S1024, .i32⟩
  | .hbm, ⟨14, _⟩ => ⟨S_, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S_, .i32⟩
  | .hbm, ⟨48, _⟩ => ⟨S_, .i1⟩
  | .hbm, ⟨49, _⟩ => ⟨S1024, .i1⟩
  | .hbm, ⟨50, _⟩ => ⟨S1024, .i1⟩
  | .hbm, ⟨51, _⟩ => ⟨S1024, .i1⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S1024, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .i32⟩
  | .hbm, ⟨71, _⟩ => ⟨S128, .i32⟩
  | .hbm, ⟨72, _⟩ => ⟨S128, .i32⟩
  | .hbm, ⟨73, _⟩ => ⟨S128, .i32⟩
  | .hbm, ⟨74, _⟩ => ⟨S128x1, .i32⟩
  | .hbm, ⟨75, _⟩ => ⟨S128, .f32⟩
  | .hbm, ⟨76, _⟩ => ⟨S1024x1, .f32⟩
  | .hbm, ⟨77, _⟩ => ⟨S1024x1, .f32⟩
  | .hbm, ⟨78, _⟩ => ⟨S1024x128, .i1⟩
  | .hbm, ⟨79, _⟩ => ⟨S1024x128, .f32⟩
  | .hbm, ⟨80, _⟩ => ⟨S1024x128, .f32⟩
  | .hbm, ⟨81, _⟩ => ⟨S1024x128, .f32⟩
  | .hbm, ⟨82, _⟩ => ⟨S1x128, .f32⟩
  | .hbm, ⟨83, _⟩ => ⟨S1024x128, .f32⟩
  | .hbm, ⟨84, _⟩ => ⟨S1024x128, .f32⟩
  | .hbm, ⟨85, _⟩ => ⟨S1024x128, .f32⟩
  | .hbm, ⟨86, _⟩ => ⟨S1024x128, .f32⟩
  | .hbm, ⟨87, _⟩ => ⟨S_, .f32⟩
  | .hbm, ⟨88, _⟩ => ⟨S_, .f32⟩
  | .hbm, ⟨89, _⟩ => ⟨S1024x128, .i1⟩
  | .hbm, ⟨90, _⟩ => ⟨S1024x128, .f32⟩
  | .hbm, ⟨91, _⟩ => ⟨S1024x128, .f32⟩
  | .hbm, ⟨92, _⟩ => ⟨S1024x128, .f32⟩
  | .hbm, ⟨93, _⟩ => ⟨S_, .f32⟩
  | .hbm, ⟨94, _⟩ => ⟨S_, .f32⟩
  | .hbm, ⟨95, _⟩ => ⟨S1024x128, .i1⟩
  | .hbm, ⟨96, _⟩ => ⟨S1024x128, .f32⟩
  | .hbm, ⟨97, _⟩ => ⟨S1024x128, .f32⟩
  | .hbm, ⟨98, _⟩ => ⟨S1x128, .f32⟩
  | .hbm, ⟨99, _⟩ => ⟨S2x1024x512, .f32⟩
  | .local _ .vmem, ⟨0, _⟩ => ⟨S1x256x128, .f32⟩
  | .local _ .vmem, ⟨1, _⟩ => ⟨S1x256x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1x256x128, .f32⟩
  | .local _ .vmem, ⟨7, _⟩ => ⟨S1x1x256x128, .f32⟩
  | .local _ .vmem, ⟨8, _⟩ => ⟨S1x1x256x128, .f32⟩
  | .local _ .vmem, ⟨9, _⟩ => ⟨S1x1x256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S4x64, .f32⟩
  | .local _ .vmem, ⟨20, _⟩ => ⟨S1x128, .f32⟩
  | .local _ .vmem, ⟨21, _⟩ => ⟨S1x256x128, .f32⟩
  | .local _ .vmem, ⟨22, _⟩ => ⟨S1x256x128, .f32⟩
  | .local _ .vmem, ⟨23, _⟩ => ⟨S1280x128, .bf16⟩
  | .local _ .vmem, ⟨24, _⟩ => ⟨S1280x128, .bf16⟩
  | _, _ => ⟨S2x1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_c_2 : Ref sig .tc := ⟨.hbm, 9, rfl⟩
abbrev main_v1 : Ref sig .tc := ⟨.hbm, 10, rfl⟩
abbrev main_c_3 : Ref sig .tc := ⟨.hbm, 11, rfl⟩
abbrev main_v2 : Ref sig .tc := ⟨.hbm, 12, rfl⟩
abbrev main_v3 : Ref sig .tc := ⟨.hbm, 13, rfl⟩
abbrev main_c_4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_v5 : Ref sig .tc := ⟨.hbm, 32, rfl⟩
abbrev main_c_5 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_cst : Ref sig .tc := ⟨.hbm, 57, rfl⟩
abbrev main_v9 : Ref sig .tc := ⟨.hbm, 58, rfl⟩
abbrev main_v10 : Ref sig .tc := ⟨.hbm, 59, rfl⟩
abbrev main_cst_6 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_cst_7 : Ref sig .tc := ⟨.hbm, 64, rfl⟩
abbrev main_v14 : Ref sig .tc := ⟨.hbm, 65, rfl⟩
abbrev main_v15 : Ref sig .tc := ⟨.hbm, 66, rfl⟩
abbrev main_cst_8 : Ref sig .tc := ⟨.hbm, 67, rfl⟩
abbrev main_v16 : Ref sig .tc := ⟨.hbm, 68, rfl⟩
abbrev main_v17 : Ref sig .tc := ⟨.hbm, 69, rfl⟩
abbrev main_c_9 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_cst_10 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v31 : Ref sig .tc := ⟨.hbm, 91, rfl⟩
abbrev main_v32 : Ref sig .tc := ⟨.hbm, 92, rfl⟩
abbrev main_cst_11 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== LatRefIdeal.lean ====
abbrev S2x1024x8192 : Shape := ⟨3, ![2, 1024, 8192]⟩
abbrev S2x4x256x128 : Shape := ⟨4, ![2, 4, 256, 128]⟩
abbrev S4x64 : Shape := ⟨2, ![4, 64]⟩
abbrev S128 : Shape := ⟨1, ![128]⟩
abbrev S2x1024x512 : Shape := ⟨3, ![2, 1024, 512]⟩
abbrev S2x1024x4x128 : Shape := ⟨4, ![2, 1024, 4, 128]⟩
abbrev S2x4x1024x128 : Shape := ⟨4, ![2, 4, 1024, 128]⟩
abbrev S1x64 : Shape := ⟨2, ![1, 64]⟩
abbrev S64 : Shape := ⟨1, ![64]⟩
abbrev S_ : Shape := ⟨0, ![]⟩
abbrev S2x4x1024x64 : Shape := ⟨4, ![2, 4, 1024, 64]⟩
abbrev S1024 : Shape := ⟨1, ![1024]⟩
abbrev S16 : Shape := ⟨1, ![16]⟩
abbrev S2x4x1024x32 : Shape := ⟨4, ![2, 4, 1024, 32]⟩
abbrev S1024x1 : Shape := ⟨2, ![1024, 1]⟩
abbrev S1x16 : Shape := ⟨2, ![1, 16]⟩
abbrev S1024x16 : Shape := ⟨2, ![1024, 16]⟩
abbrev S2x4x1024x16 : Shape := ⟨4, ![2, 4, 1024, 16]⟩
abbrev S1x1x1024x16 : Shape := ⟨4, ![1, 1, 1024, 16]⟩
abbrev S2x4x256x64 : Shape := ⟨4, ![2, 4, 256, 64]⟩
abbrev S2x4x1280x64 : Shape := ⟨4, ![2, 4, 1280, 64]⟩
abbrev S2x4x1280x128 : Shape := ⟨4, ![2, 4, 1280, 128]⟩
abbrev S2x4x1024x1280 : Shape := ⟨4, ![2, 4, 1024, 1280]⟩
abbrev S2x4x1024 : Shape := ⟨3, ![2, 4, 1024]⟩
abbrev S2x4x1024x1 : Shape := ⟨4, ![2, 4, 1024, 1]⟩
abbrev S1x1x1x128 : Shape := ⟨4, ![1, 1, 1, 128]⟩

abbrev nBuf : Space → Nat
  | .hbm => 536
  | .vmem => 0
  | .smem => 0
  | _ => 0

abbrev hbmTy0_0 (i : Nat) : BufTy := match i % 128 with
  | 0 => ⟨S2x1024x8192, .f32⟩
  | 1 => ⟨S2x4x256x128, .f32⟩
  | 2 => ⟨S2x4x256x128, .f32⟩
  | 3 => ⟨S4x64, .f32⟩
  | 4 => ⟨S128, .f32⟩
  | 5 => ⟨S2x1024x512, .f32⟩
  | 6 => ⟨S2x1024x512, .f32⟩
  | 7 => ⟨S2x1024x512, .f32⟩
  | 8 => ⟨S2x1024x4x128, .f32⟩
  | 9 => ⟨S2x4x1024x128, .f32⟩
  | 10 => ⟨S2x1024x4x128, .f32⟩
  | 11 => ⟨S2x4x1024x128, .f32⟩
  | 12 => ⟨S2x1024x4x128, .f32⟩
  | 13 => ⟨S2x4x1024x128, .f32⟩
  | 14 => ⟨S1x64, .f32⟩
  | 15 => ⟨S64, .f32⟩
  | 16 => ⟨S1x64, .f32⟩
  | 17 => ⟨S64, .f32⟩
  | 18 => ⟨S1x64, .f32⟩
  | 19 => ⟨S64, .f32⟩
  | 20 => ⟨S1x64, .f32⟩
  | 21 => ⟨S64, .f32⟩
  | 22 => ⟨S64, .f32⟩
  | 23 => ⟨S_, .f32⟩
  | 24 => ⟨S_, .f32⟩
  | 25 => ⟨S_, .f32⟩
  | 26 => ⟨S64, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S2x4x1024x64, .f32⟩
  | 34 => ⟨S1024, .i32⟩
  | 35 => ⟨S_, .i32⟩
  | 36 => ⟨S_, .i32⟩
  | 37 => ⟨S1024, .i32⟩
  | 38 => ⟨S1024, .i32⟩
  | 39 => ⟨S1024, .i32⟩
  | 40 => ⟨S_, .i32⟩
  | 41 => ⟨S1024, .i32⟩
  | 42 => ⟨S1024, .i1⟩
  | 43 => ⟨S1024, .i32⟩
  | 44 => ⟨S1024, .i32⟩
  | 45 => ⟨S_, .i32⟩
  | 46 => ⟨S1024, .i32⟩
  | 47 => ⟨S1024, .i1⟩
  | 48 => ⟨S1024, .i1⟩
  | 49 => ⟨S_, .i32⟩
  | 50 => ⟨S1024, .i32⟩
  | 51 => ⟨S1024, .i32⟩
  | 52 => ⟨S1024, .i32⟩
  | 53 => ⟨S1024, .f32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S1024, .i32⟩
  | 61 => ⟨S1024, .i32⟩
  | 62 => ⟨S_, .i32⟩
  | 63 => ⟨S1024, .i32⟩
  | 64 => ⟨S1024, .i1⟩
  | 65 => ⟨S_, .i32⟩
  | 66 => ⟨S1024, .i32⟩
  | 67 => ⟨S1024, .i1⟩
  | 68 => ⟨S_, .i32⟩
  | 69 => ⟨S_, .i1⟩
  | 70 => ⟨S1024, .i1⟩
  | 71 => ⟨S1024, .i1⟩
  | 72 => ⟨S1024, .i1⟩
  | 73 => ⟨S1024, .i32⟩
  | 74 => ⟨S1024, .i32⟩
  | 75 => ⟨S1024, .i32⟩
  | 76 => ⟨S1024, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S16, .f32⟩
  | 85 => ⟨S_, .f32⟩
  | 86 => ⟨S16, .f32⟩
  | 87 => ⟨S16, .f32⟩
  | 88 => ⟨S_, .f32⟩
  | 89 => ⟨S16, .f32⟩
  | 90 => ⟨S16, .f32⟩
  | 91 => ⟨S2x4x1024x32, .f32⟩
  | 92 => ⟨S1024x1, .f32⟩
  | 93 => ⟨S1x16, .f32⟩
  | 94 => ⟨S1024x16, .f32⟩
  | 95 => ⟨S1024x16, .f32⟩
  | 96 => ⟨S1024x16, .f32⟩
  | 97 => ⟨S2x4x1024x16, .f32⟩
  | 98 => ⟨S2x4x1024x16, .f32⟩
  | 99 => ⟨S1024x16, .f32⟩
  | 100 => ⟨S1024x16, .f32⟩
  | 101 => ⟨S1x1x1024x16, .f32⟩
  | 102 => ⟨S2x4x1024x16, .f32⟩
  | 103 => ⟨S2x4x1024x16, .f32⟩
  | 104 => ⟨S1x1x1024x16, .f32⟩
  | 105 => ⟨S2x4x1024x16, .f32⟩
  | 106 => ⟨S2x4x1024x16, .f32⟩
  | 107 => ⟨S2x4x1024x16, .f32⟩
  | 108 => ⟨S1x1x1024x16, .f32⟩
  | 109 => ⟨S2x4x1024x16, .f32⟩
  | 110 => ⟨S2x4x1024x16, .f32⟩
  | 111 => ⟨S1x1x1024x16, .f32⟩
  | 112 => ⟨S2x4x1024x16, .f32⟩
  | 113 => ⟨S2x4x1024x16, .f32⟩
  | 114 => ⟨S2x4x1024x16, .f32⟩
  | 115 => ⟨S2x4x1024x32, .f32⟩
  | 116 => ⟨S2x4x1024x32, .f32⟩
  | 117 => ⟨S1024x1, .f32⟩
  | 118 => ⟨S1x16, .f32⟩
  | 119 => ⟨S1024x16, .f32⟩
  | 120 => ⟨S1024x16, .f32⟩
  | 121 => ⟨S1024x16, .f32⟩
  | 122 => ⟨S2x4x1024x16, .f32⟩
  | 123 => ⟨S2x4x1024x16, .f32⟩
  | 124 => ⟨S1024x16, .f32⟩
  | 125 => ⟨S1024x16, .f32⟩
  | 126 => ⟨S1x1x1024x16, .f32⟩
  | 127 => ⟨S2x4x1024x16, .f32⟩
  | _ => ⟨S2x1024x8192, .f32⟩

abbrev hbmTy0_1 (i : Nat) : BufTy := match i % 128 with
  | 0 => ⟨S2x4x1024x16, .f32⟩
  | 1 => ⟨S1x1x1024x16, .f32⟩
  | 2 => ⟨S2x4x1024x16, .f32⟩
  | 3 => ⟨S2x4x1024x16, .f32⟩
  | 4 => ⟨S2x4x1024x16, .f32⟩
  | 5 => ⟨S1x1x1024x16, .f32⟩
  | 6 => ⟨S2x4x1024x16, .f32⟩
  | 7 => ⟨S2x4x1024x16, .f32⟩
  | 8 => ⟨S1x1x1024x16, .f32⟩
  | 9 => ⟨S2x4x1024x16, .f32⟩
  | 10 => ⟨S2x4x1024x16, .f32⟩
  | 11 => ⟨S2x4x1024x16, .f32⟩
  | 12 => ⟨S2x4x1024x32, .f32⟩
  | 13 => ⟨S2x4x1024x64, .f32⟩
  | 14 => ⟨S2x4x1024x64, .f32⟩
  | 15 => ⟨S1024, .i32⟩
  | 16 => ⟨S_, .i32⟩
  | 17 => ⟨S_, .i32⟩
  | 18 => ⟨S1024, .i32⟩
  | 19 => ⟨S1024, .i32⟩
  | 20 => ⟨S1024, .i32⟩
  | 21 => ⟨S_, .i32⟩
  | 22 => ⟨S1024, .i32⟩
  | 23 => ⟨S1024, .i1⟩
  | 24 => ⟨S1024, .i32⟩
  | 25 => ⟨S1024, .i32⟩
  | 26 => ⟨S_, .i32⟩
  | 27 => ⟨S1024, .i32⟩
  | 28 => ⟨S1024, .i1⟩
  | 29 => ⟨S1024, .i1⟩
  | 30 => ⟨S_, .i32⟩
  | 31 => ⟨S1024, .i32⟩
  | 32 => ⟨S1024, .i32⟩
  | 33 => ⟨S1024, .i32⟩
  | 34 => ⟨S1024, .f32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S1024, .i32⟩
  | 42 => ⟨S1024, .i32⟩
  | 43 => ⟨S_, .i32⟩
  | 44 => ⟨S1024, .i32⟩
  | 45 => ⟨S1024, .i1⟩
  | 46 => ⟨S_, .i32⟩
  | 47 => ⟨S1024, .i32⟩
  | 48 => ⟨S1024, .i1⟩
  | 49 => ⟨S_, .i32⟩
  | 50 => ⟨S_, .i1⟩
  | 51 => ⟨S1024, .i1⟩
  | 52 => ⟨S1024, .i1⟩
  | 53 => ⟨S1024, .i1⟩
  | 54 => ⟨S1024, .i32⟩
  | 55 => ⟨S1024, .i32⟩
  | 56 => ⟨S1024, .i32⟩
  | 57 => ⟨S1024, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S2x4x1024x32, .f32⟩
  | 73 => ⟨S1024x1, .f32⟩
  | 74 => ⟨S1x16, .f32⟩
  | 75 => ⟨S1024x16, .f32⟩
  | 76 => ⟨S1024x16, .f32⟩
  | 77 => ⟨S1024x16, .f32⟩
  | 78 => ⟨S2x4x1024x16, .f32⟩
  | 79 => ⟨S2x4x1024x16, .f32⟩
  | 80 => ⟨S1024x16, .f32⟩
  | 81 => ⟨S1024x16, .f32⟩
  | 82 => ⟨S1x1x1024x16, .f32⟩
  | 83 => ⟨S2x4x1024x16, .f32⟩
  | 84 => ⟨S2x4x1024x16, .f32⟩
  | 85 => ⟨S1x1x1024x16, .f32⟩
  | 86 => ⟨S2x4x1024x16, .f32⟩
  | 87 => ⟨S2x4x1024x16, .f32⟩
  | 88 => ⟨S2x4x1024x16, .f32⟩
  | 89 => ⟨S1x1x1024x16, .f32⟩
  | 90 => ⟨S2x4x1024x16, .f32⟩
  | 91 => ⟨S2x4x1024x16, .f32⟩
  | 92 => ⟨S1x1x1024x16, .f32⟩
  | 93 => ⟨S2x4x1024x16, .f32⟩
  | 94 => ⟨S2x4x1024x16, .f32⟩
  | 95 => ⟨S2x4x1024x16, .f32⟩
  | 96 => ⟨S2x4x1024x32, .f32⟩
  | 97 => ⟨S2x4x1024x32, .f32⟩
  | 98 => ⟨S1024x1, .f32⟩
  | 99 => ⟨S1x16, .f32⟩
  | 100 => ⟨S1024x16, .f32⟩
  | 101 => ⟨S1024x16, .f32⟩
  | 102 => ⟨S1024x16, .f32⟩
  | 103 => ⟨S2x4x1024x16, .f32⟩
  | 104 => ⟨S2x4x1024x16, .f32⟩
  | 105 => ⟨S1024x16, .f32⟩
  | 106 => ⟨S1024x16, .f32⟩
  | 107 => ⟨S1x1x1024x16, .f32⟩
  | 108 => ⟨S2x4x1024x16, .f32⟩
  | 109 => ⟨S2x4x1024x16, .f32⟩
  | 110 => ⟨S1x1x1024x16, .f32⟩
  | 111 => ⟨S2x4x1024x16, .f32⟩
  | 112 => ⟨S2x4x1024x16, .f32⟩
  | 113 => ⟨S2x4x1024x16, .f32⟩
  | 114 => ⟨S1x1x1024x16, .f32⟩
  | 115 => ⟨S2x4x1024x16, .f32⟩
  | 116 => ⟨S2x4x1024x16, .f32⟩
  | 117 => ⟨S1x1x1024x16, .f32⟩
  | 118 => ⟨S2x4x1024x16, .f32⟩
  | 119 => ⟨S2x4x1024x16, .f32⟩
  | 120 => ⟨S2x4x1024x16, .f32⟩
  | 121 => ⟨S2x4x1024x32, .f32⟩
  | 122 => ⟨S2x4x1024x64, .f32⟩
  | 123 => ⟨S2x4x256x64, .f32⟩
  | 124 => ⟨S2x4x1024x64, .f32⟩
  | 125 => ⟨S1024, .i32⟩
  | 126 => ⟨S_, .i32⟩
  | 127 => ⟨S_, .i32⟩
  | _ => ⟨S2x1024x8192, .f32⟩

abbrev hbmTy0_2 (i : Nat) : BufTy := match i % 128 with
  | 0 => ⟨S1024, .i32⟩
  | 1 => ⟨S1024, .i32⟩
  | 2 => ⟨S1024, .i32⟩
  | 3 => ⟨S_, .i32⟩
  | 4 => ⟨S1024, .i32⟩
  | 5 => ⟨S1024, .i1⟩
  | 6 => ⟨S1024, .i32⟩
  | 7 => ⟨S1024, .i32⟩
  | 8 => ⟨S_, .i32⟩
  | 9 => ⟨S1024, .i32⟩
  | 10 => ⟨S1024, .i1⟩
  | 11 => ⟨S1024, .i1⟩
  | 12 => ⟨S_, .i32⟩
  | 13 => ⟨S1024, .i32⟩
  | 14 => ⟨S1024, .i32⟩
  | 15 => ⟨S1024, .i32⟩
  | 16 => ⟨S1024, .f32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S1024, .i32⟩
  | 24 => ⟨S1024, .i32⟩
  | 25 => ⟨S_, .i32⟩
  | 26 => ⟨S1024, .i32⟩
  | 27 => ⟨S1024, .i1⟩
  | 28 => ⟨S_, .i32⟩
  | 29 => ⟨S1024, .i32⟩
  | 30 => ⟨S1024, .i1⟩
  | 31 => ⟨S_, .i32⟩
  | 32 => ⟨S_, .i1⟩
  | 33 => ⟨S1024, .i1⟩
  | 34 => ⟨S1024, .i1⟩
  | 35 => ⟨S1024, .i1⟩
  | 36 => ⟨S1024, .i32⟩
  | 37 => ⟨S1024, .i32⟩
  | 38 => ⟨S1024, .i32⟩
  | 39 => ⟨S1024, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S2x4x1024x32, .f32⟩
  | 55 => ⟨S1024x1, .f32⟩
  | 56 => ⟨S1x16, .f32⟩
  | 57 => ⟨S1024x16, .f32⟩
  | 58 => ⟨S1024x16, .f32⟩
  | 59 => ⟨S1024x16, .f32⟩
  | 60 => ⟨S2x4x1024x16, .f32⟩
  | 61 => ⟨S2x4x1024x16, .f32⟩
  | 62 => ⟨S1024x16, .f32⟩
  | 63 => ⟨S1024x16, .f32⟩
  | 64 => ⟨S1x1x1024x16, .f32⟩
  | 65 => ⟨S2x4x1024x16, .f32⟩
  | 66 => ⟨S2x4x1024x16, .f32⟩
  | 67 => ⟨S1x1x1024x16, .f32⟩
  | 68 => ⟨S2x4x1024x16, .f32⟩
  | 69 => ⟨S2x4x1024x16, .f32⟩
  | 70 => ⟨S2x4x1024x16, .f32⟩
  | 71 => ⟨S1x1x1024x16, .f32⟩
  | 72 => ⟨S2x4x1024x16, .f32⟩
  | 73 => ⟨S2x4x1024x16, .f32⟩
  | 74 => ⟨S1x1x1024x16, .f32⟩
  | 75 => ⟨S2x4x1024x16, .f32⟩
  | 76 => ⟨S2x4x1024x16, .f32⟩
  | 77 => ⟨S2x4x1024x16, .f32⟩
  | 78 => ⟨S2x4x1024x32, .f32⟩
  | 79 => ⟨S2x4x1024x32, .f32⟩
  | 80 => ⟨S1024x1, .f32⟩
  | 81 => ⟨S1x16, .f32⟩
  | 82 => ⟨S1024x16, .f32⟩
  | 83 => ⟨S1024x16, .f32⟩
  | 84 => ⟨S1024x16, .f32⟩
  | 85 => ⟨S2x4x1024x16, .f32⟩
  | 86 => ⟨S2x4x1024x16, .f32⟩
  | 87 => ⟨S1024x16, .f32⟩
  | 88 => ⟨S1024x16, .f32⟩
  | 89 => ⟨S1x1x1024x16, .f32⟩
  | 90 => ⟨S2x4x1024x16, .f32⟩
  | 91 => ⟨S2x4x1024x16, .f32⟩
  | 92 => ⟨S1x1x1024x16, .f32⟩
  | 93 => ⟨S2x4x1024x16, .f32⟩
  | 94 => ⟨S2x4x1024x16, .f32⟩
  | 95 => ⟨S2x4x1024x16, .f32⟩
  | 96 => ⟨S1x1x1024x16, .f32⟩
  | 97 => ⟨S2x4x1024x16, .f32⟩
  | 98 => ⟨S2x4x1024x16, .f32⟩
  | 99 => ⟨S1x1x1024x16, .f32⟩
  | 100 => ⟨S2x4x1024x16, .f32⟩
  | 101 => ⟨S2x4x1024x16, .f32⟩
  | 102 => ⟨S2x4x1024x16, .f32⟩
  | 103 => ⟨S2x4x1024x32, .f32⟩
  | 104 => ⟨S2x4x1024x64, .f32⟩
  | 105 => ⟨S2x4x1280x64, .f32⟩
  | 106 => ⟨S2x4x256x64, .f32⟩
  | 107 => ⟨S2x4x1024x64, .f32⟩
  | 108 => ⟨S1024, .i32⟩
  | 109 => ⟨S_, .i32⟩
  | 110 => ⟨S_, .i32⟩
  | 111 => ⟨S1024, .i32⟩
  | 112 => ⟨S1024, .i32⟩
  | 113 => ⟨S1024, .i32⟩
  | 114 => ⟨S_, .i32⟩
  | 115 => ⟨S1024, .i32⟩
  | 116 => ⟨S1024, .i1⟩
  | 117 => ⟨S1024, .i32⟩
  | 118 => ⟨S1024, .i32⟩
  | 119 => ⟨S_, .i32⟩
  | 120 => ⟨S1024, .i32⟩
  | 121 => ⟨S1024, .i1⟩
  | 122 => ⟨S1024, .i1⟩
  | 123 => ⟨S_, .i32⟩
  | 124 => ⟨S1024, .i32⟩
  | 125 => ⟨S1024, .i32⟩
  | 126 => ⟨S1024, .i32⟩
  | 127 => ⟨S1024, .f32⟩
  | _ => ⟨S2x1024x8192, .f32⟩

abbrev hbmTy0_3 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S1024, .i32⟩
  | 7 => ⟨S1024, .i32⟩
  | 8 => ⟨S_, .i32⟩
  | 9 => ⟨S1024, .i32⟩
  | 10 => ⟨S1024, .i1⟩
  | 11 => ⟨S_, .i32⟩
  | 12 => ⟨S1024, .i32⟩
  | 13 => ⟨S1024, .i1⟩
  | 14 => ⟨S_, .i32⟩
  | 15 => ⟨S_, .i1⟩
  | 16 => ⟨S1024, .i1⟩
  | 17 => ⟨S1024, .i1⟩
  | 18 => ⟨S1024, .i1⟩
  | 19 => ⟨S1024, .i32⟩
  | 20 => ⟨S1024, .i32⟩
  | 21 => ⟨S1024, .i32⟩
  | 22 => ⟨S1024, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S2x4x1024x32, .f32⟩
  | 38 => ⟨S1024x1, .f32⟩
  | 39 => ⟨S1x16, .f32⟩
  | 40 => ⟨S1024x16, .f32⟩
  | 41 => ⟨S1024x16, .f32⟩
  | 42 => ⟨S1024x16, .f32⟩
  | 43 => ⟨S2x4x1024x16, .f32⟩
  | 44 => ⟨S2x4x1024x16, .f32⟩
  | 45 => ⟨S1024x16, .f32⟩
  | 46 => ⟨S1024x16, .f32⟩
  | 47 => ⟨S1x1x1024x16, .f32⟩
  | 48 => ⟨S2x4x1024x16, .f32⟩
  | 49 => ⟨S2x4x1024x16, .f32⟩
  | 50 => ⟨S1x1x1024x16, .f32⟩
  | 51 => ⟨S2x4x1024x16, .f32⟩
  | 52 => ⟨S2x4x1024x16, .f32⟩
  | 53 => ⟨S2x4x1024x16, .f32⟩
  | 54 => ⟨S1x1x1024x16, .f32⟩
  | 55 => ⟨S2x4x1024x16, .f32⟩
  | 56 => ⟨S2x4x1024x16, .f32⟩
  | 57 => ⟨S1x1x1024x16, .f32⟩
  | 58 => ⟨S2x4x1024x16, .f32⟩
  | 59 => ⟨S2x4x1024x16, .f32⟩
  | 60 => ⟨S2x4x1024x16, .f32⟩
  | 61 => ⟨S2x4x1024x32, .f32⟩
  | 62 => ⟨S2x4x1024x32, .f32⟩
  | 63 => ⟨S1024x1, .f32⟩
  | 64 => ⟨S1x16, .f32⟩
  | 65 => ⟨S1024x16, .f32⟩
  | 66 => ⟨S1024x16, .f32⟩
  | 67 => ⟨S1024x16, .f32⟩
  | 68 => ⟨S2x4x1024x16, .f32⟩
  | 69 => ⟨S2x4x1024x16, .f32⟩
  | 70 => ⟨S1024x16, .f32⟩
  | 71 => ⟨S1024x16, .f32⟩
  | 72 => ⟨S1x1x1024x16, .f32⟩
  | 73 => ⟨S2x4x1024x16, .f32⟩
  | 74 => ⟨S2x4x1024x16, .f32⟩
  | 75 => ⟨S1x1x1024x16, .f32⟩
  | 76 => ⟨S2x4x1024x16, .f32⟩
  | 77 => ⟨S2x4x1024x16, .f32⟩
  | 78 => ⟨S2x4x1024x16, .f32⟩
  | 79 => ⟨S1x1x1024x16, .f32⟩
  | 80 => ⟨S2x4x1024x16, .f32⟩
  | 81 => ⟨S2x4x1024x16, .f32⟩
  | 82 => ⟨S1x1x1024x16, .f32⟩
  | 83 => ⟨S2x4x1024x16, .f32⟩
  | 84 => ⟨S2x4x1024x16, .f32⟩
  | 85 => ⟨S2x4x1024x16, .f32⟩
  | 86 => ⟨S2x4x1024x32, .f32⟩
  | 87 => ⟨S2x4x1024x64, .f32⟩
  | 88 => ⟨S2x4x1280x64, .f32⟩
  | 89 => ⟨S2x4x1280x128, .f32⟩
  | 90 => ⟨S2x4x1024x1280, .f32⟩
  | 91 => ⟨S_, .f32⟩
  | 92 => ⟨S2x4x1024x1280, .f32⟩
  | 93 => ⟨S2x4x1024x1280, .f32⟩
  | 94 => ⟨S_, .f32⟩
  | 95 => ⟨S2x4x1024, .f32⟩
  | 96 => ⟨S_, .f32⟩
  | 97 => ⟨S2x4x1024, .f32⟩
  | 98 => ⟨S2x4x1024, .f32⟩
  | 99 => ⟨S2x4x1024x1, .f32⟩
  | 100 => ⟨S2x4x1024x1280, .f32⟩
  | 101 => ⟨S2x4x1024x1280, .f32⟩
  | 102 => ⟨S2x4x1024x1280, .f32⟩
  | 103 => ⟨S_, .f32⟩
  | 104 => ⟨S2x4x1024, .f32⟩
  | 105 => ⟨S2x4x1024x1, .f32⟩
  | 106 => ⟨S2x4x1024x1280, .f32⟩
  | 107 => ⟨S2x4x1024x1280, .f32⟩
  | 108 => ⟨S2x4x1024x128, .f32⟩
  | 109 => ⟨S2x4x1024x1280, .f32⟩
  | 110 => ⟨S_, .f32⟩
  | 111 => ⟨S2x4x1024x1280, .f32⟩
  | 112 => ⟨S2x4x1024x1280, .f32⟩
  | 113 => ⟨S_, .f32⟩
  | 114 => ⟨S2x4x1024, .f32⟩
  | 115 => ⟨S_, .f32⟩
  | 116 => ⟨S2x4x1024, .f32⟩
  | 117 => ⟨S2x4x1024, .f32⟩
  | 118 => ⟨S2x4x1024x1, .f32⟩
  | 119 => ⟨S2x4x1024x1280, .f32⟩
  | 120 => ⟨S2x4x1024x1280, .f32⟩
  | 121 => ⟨S2x4x1024x1280, .f32⟩
  | 122 => ⟨S_, .f32⟩
  | 123 => ⟨S2x4x1024, .f32⟩
  | 124 => ⟨S2x4x1024x1, .f32⟩
  | 125 => ⟨S2x4x1024x1280, .f32⟩
  | 126 => ⟨S2x4x1024x1280, .f32⟩
  | 127 => ⟨S2x4x1024x128, .f32⟩
  | _ => ⟨S2x1024x8192, .f32⟩

abbrev hbmTy0_4 (i : Nat) : BufTy := match i % 128 with
  | 0 => ⟨S2x4x1024x128, .f32⟩
  | 1 => ⟨S2x4x1024x128, .f32⟩
  | 2 => ⟨S2x4x1024x128, .f32⟩
  | 3 => ⟨S2x4x1024x128, .f32⟩
  | 4 => ⟨S_, .f32⟩
  | 5 => ⟨S2x4x1024, .f32⟩
  | 6 => ⟨S2x4x1024x1, .f32⟩
  | 7 => ⟨S_, .f32⟩
  | 8 => ⟨S2x4x1024x1, .f32⟩
  | 9 => ⟨S2x4x1024x1, .f32⟩
  | 10 => ⟨S_, .f32⟩
  | 11 => ⟨S2x4x1024x1, .f32⟩
  | 12 => ⟨S2x4x1024x1, .f32⟩
  | 13 => ⟨S2x4x1024x1, .f32⟩
  | 14 => ⟨S2x4x1024x128, .f32⟩
  | 15 => ⟨S2x4x1024x128, .f32⟩
  | 16 => ⟨S1x1x1x128, .f32⟩
  | 17 => ⟨S2x4x1024x128, .f32⟩
  | 18 => ⟨S2x4x1024x128, .f32⟩
  | 19 => ⟨S_, .f32⟩
  | 20 => ⟨S2x4x1024x128, .f32⟩
  | 21 => ⟨S2x4x1024x128, .f32⟩
  | 22 => ⟨S2x1024x4x128, .f32⟩
  | 23 => ⟨S2x1024x512, .f32⟩
  | _ => ⟨S2x1024x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x1024x8192, .f32⟩

abbrev bufTy : (tb : Table) → Fin (tcTables nBuf tb) → BufTy
  | .hbm, ⟨i, _⟩ => hbmTy i
  | _, _ => ⟨S2x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v27 : Ref sig .tc := ⟨.hbm, 52, rfl⟩
abbrev main_v28 : Ref sig .tc := ⟨.hbm, 53, rfl⟩
abbrev main_c_2 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_3 : Ref sig .tc := ⟨.hbm, 78, rfl⟩
abbrev main_v32 : Ref sig .tc := ⟨.hbm, 79, rfl⟩
abbrev main_v33 : Ref sig .tc := ⟨.hbm, 80, rfl⟩
abbrev main_cst_4 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_5 : Ref sig .tc := ⟨.hbm, 85, rfl⟩
abbrev main_v37 : Ref sig .tc := ⟨.hbm, 86, rfl⟩
abbrev main_v38 : Ref sig .tc := ⟨.hbm, 87, rfl⟩
abbrev main_cst_6 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_c_7 : Ref sig .tc := ⟨.hbm, 144, rfl⟩
abbrev main_call2_v0 : Ref sig .tc := ⟨.hbm, 145, rfl⟩
abbrev main_call2_v1 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_call2_v5 : Ref sig .tc := ⟨.hbm, 150, rfl⟩
abbrev main_call2_v6 : Ref sig .tc := ⟨.hbm, 151, rfl⟩
abbrev main_call2_v7 : Ref sig .tc := ⟨.hbm, 152, rfl⟩
abbrev main_call2_v8 : Ref sig .tc := ⟨.hbm, 153, rfl⟩
abbrev main_call2_c : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_c_0 : Ref sig .tc := ⟨.hbm, 158, rfl⟩
abbrev main_call2_v12 : Ref sig .tc := ⟨.hbm, 159, rfl⟩
abbrev main_call2_v13 : Ref sig .tc := ⟨.hbm, 160, rfl⟩
abbrev main_v94 : Ref sig .tc := ⟨.hbm, 161, rfl⟩
abbrev main_v95 : Ref sig .tc := ⟨.hbm, 162, rfl⟩
abbrev main_c_8 : Ref sig .tc := ⟨.hbm, 163, rfl⟩
abbrev main_call3_v0 : Ref sig .tc := ⟨.hbm, 164, rfl⟩
abbrev main_call3_c : Ref sig .tc := ⟨.hbm, 165, rfl⟩
abbrev main_call3_v1 : Ref sig .tc := ⟨.hbm, 166, rfl⟩
abbrev main_call3_c_0 : Ref sig .tc := ⟨.hbm, 167, rfl⟩
abbrev main_call3_v2 : Ref sig .tc := ⟨.hbm, 168, rfl⟩
abbrev main_call3_v3 : Ref sig .tc := ⟨.hbm, 169, rfl⟩
abbrev main_call3_v4 : Ref sig .tc := ⟨.hbm, 170, rfl⟩
abbrev main_call3_c_1 : Ref sig .tc := ⟨.hbm, 171, rfl⟩
abbrev main_call3_v5 : Ref sig .tc := ⟨.hbm, 172, rfl⟩
abbrev main_call3_v6 : Ref sig .tc := ⟨.hbm, 173, rfl⟩
abbrev main_call3_c_2 : Ref sig .tc := ⟨.hbm, 174, rfl⟩
abbrev main_call3_v7 : Ref sig .tc := ⟨.hbm, 175, rfl⟩
abbrev main_call3_v8 : Ref sig .tc := ⟨.hbm, 176, rfl⟩
abbrev main_call3_c_3 : Ref sig .tc := ⟨.hbm, 177, rfl⟩
abbrev main_call3_v9 : Ref sig .tc := ⟨.hbm, 178, rfl⟩
abbrev main_call3_v10 : Ref sig .tc := ⟨.hbm, 179, rfl⟩
abbrev main_call3_v11 : Ref sig .tc := ⟨.hbm, 180, rfl⟩
abbrev main_call3_v12 : Ref sig .tc := ⟨.hbm, 181, rfl⟩
abbrev main_call3_v13 : Ref sig .tc := ⟨.hbm, 182, rfl⟩
abbrev main_call3_v14 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_cst_9 : Ref sig .tc := ⟨.hbm, 187, rfl⟩
abbrev main_v99 : Ref sig .tc := ⟨.hbm, 188, rfl⟩
abbrev main_v100 : Ref sig .tc := ⟨.hbm, 189, rfl⟩
abbrev main_cst_10 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_cst_11 : Ref sig .tc := ⟨.hbm, 194, rfl⟩
abbrev main_v104 : Ref sig .tc := ⟨.hbm, 195, rfl⟩
abbrev main_v105 : Ref sig .tc := ⟨.hbm, 196, rfl⟩
abbrev main_cst_12 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_c_13 : Ref sig .tc := ⟨.hbm, 254, rfl⟩
abbrev main_call4_v0 : Ref sig .tc := ⟨.hbm, 255, rfl⟩
abbrev main_call4_v1 : Ref sig .tc := ⟨.hbm, 256, rfl⟩
abbrev main_call4_v2 : Ref sig .tc := ⟨.hbm, 257, rfl⟩
abbrev main_call4_v3 : Ref sig .tc := ⟨.hbm, 258, rfl⟩
abbrev main_call4_v4 : Ref sig .tc := ⟨.hbm, 259, rfl⟩
abbrev main_call4_v5 : Ref sig .tc := ⟨.hbm, 260, rfl⟩
abbrev main_call4_v6 : Ref sig .tc := ⟨.hbm, 261, rfl⟩
abbrev main_call4_v7 : Ref sig .tc := ⟨.hbm, 262, rfl⟩
abbrev main_call4_v8 : Ref sig .tc := ⟨.hbm, 263, rfl⟩
abbrev main_call4_c : Ref sig .tc := ⟨.hbm, 264, rfl⟩
abbrev main_call4_v9 : Ref sig .tc := ⟨.hbm, 265, rfl⟩
abbrev main_call4_v10 : Ref sig .tc := ⟨.hbm, 266, rfl⟩
abbrev main_call4_v11 : Ref sig .tc := ⟨.hbm, 267, rfl⟩
abbrev main_call4_c_0 : Ref sig .tc := ⟨.hbm, 268, rfl⟩
abbrev main_call4_v12 : Ref sig .tc := ⟨.hbm, 269, rfl⟩
abbrev main_call4_v13 : Ref sig .tc := ⟨.hbm, 270, rfl⟩
abbrev main_v162 : Ref sig .tc := ⟨.hbm, 271, rfl⟩
abbrev main_v163 : Ref sig .tc := ⟨.hbm, 272, rfl⟩
abbrev main_c_14 : Ref sig .tc := ⟨.hbm, 273, rfl⟩
abbrev main_call5_v0 : Ref sig .tc := ⟨.hbm, 274, rfl⟩
abbrev main_call5_c : Ref sig .tc := ⟨.hbm, 275, rfl⟩
abbrev main_call5_v1 : Ref sig .tc := ⟨.hbm, 276, rfl⟩
abbrev main_call5_c_0 : Ref sig .tc := ⟨.hbm, 277, rfl⟩
abbrev main_call5_v2 : Ref sig .tc := ⟨.hbm, 278, rfl⟩
abbrev main_call5_v3 : Ref sig .tc := ⟨.hbm, 279, rfl⟩
abbrev main_call5_v4 : Ref sig .tc := ⟨.hbm, 280, rfl⟩
abbrev main_call5_c_1 : Ref sig .tc := ⟨.hbm, 281, rfl⟩
abbrev main_call5_v5 : Ref sig .tc := ⟨.hbm, 282, rfl⟩
abbrev main_call5_v6 : Ref sig .tc := ⟨.hbm, 283, rfl⟩
abbrev main_call5_c_2 : Ref sig .tc := ⟨.hbm, 284, rfl⟩
abbrev main_call5_v7 : Ref sig .tc := ⟨.hbm, 285, rfl⟩
abbrev main_call5_v8 : Ref sig .tc := ⟨.hbm, 286, rfl⟩
abbrev main_call5_c_3 : Ref sig .tc := ⟨.hbm, 287, rfl⟩
abbrev main_call5_v9 : Ref sig .tc := ⟨.hbm, 288, rfl⟩
abbrev main_call5_v10 : Ref sig .tc := ⟨.hbm, 289, rfl⟩
abbrev main_call5_v11 : Ref sig .tc := ⟨.hbm, 290, rfl⟩
abbrev main_call5_v12 : Ref sig .tc := ⟨.hbm, 291, rfl⟩
abbrev main_call5_v13 : Ref sig .tc := ⟨.hbm, 292, rfl⟩
abbrev main_call5_v14 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_cst_15 : Ref sig .tc := ⟨.hbm, 297, rfl⟩
abbrev main_v167 : Ref sig .tc := ⟨.hbm, 298, rfl⟩
abbrev main_v168 : Ref sig .tc := ⟨.hbm, 299, rfl⟩
abbrev main_cst_16 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_cst_17 : Ref sig .tc := ⟨.hbm, 304, rfl⟩
abbrev main_v172 : Ref sig .tc := ⟨.hbm, 305, rfl⟩
abbrev main_v173 : Ref sig .tc := ⟨.hbm, 306, rfl⟩
abbrev main_cst_18 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_v177 : Ref sig .tc := ⟨.hbm, 311, rfl⟩
abbrev main_v178 : Ref sig .tc := ⟨.hbm, 312, rfl⟩
abbrev main_v179 : Ref sig .tc := ⟨.hbm, 313, rfl⟩
abbrev main_v180 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_v187 : Ref sig .tc := ⟨.hbm, 321, rfl⟩
abbrev main_v188 : Ref sig .tc := ⟨.hbm, 322, rfl⟩
abbrev main_v189 : Ref sig .tc := ⟨.hbm, 323, rfl⟩
abbrev main_v190 : Ref sig .tc := ⟨.hbm, 324, rfl⟩
abbrev main_v191 : Ref sig .tc := ⟨.hbm, 325, rfl⟩
abbrev main_v192 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩
abbrev main_v204 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_v210 : Ref sig .tc := ⟨.hbm, 344, rfl⟩
abbrev main_v211 : Ref sig .tc := ⟨.hbm, 345, rfl⟩
abbrev main_v212 : Ref sig .tc := ⟨.hbm, 346, rfl⟩
abbrev main_v213 : Ref sig .tc := ⟨.hbm, 347, rfl⟩
abbrev main_v214 : Ref sig .tc := ⟨.hbm, 348, rfl⟩
abbrev main_v215 : Ref sig .tc := ⟨.hbm, 349, rfl⟩
abbrev main_v216 : Ref sig .tc := ⟨.hbm, 350, rfl⟩
abbrev main_v217 : Ref sig .tc := ⟨.hbm, 351, rfl⟩
abbrev main_v218 : Ref sig .tc := ⟨.hbm, 352, rfl⟩
abbrev main_v219 : Ref sig .tc := ⟨.hbm, 353, rfl⟩
abbrev main_v220 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_v224 : Ref sig .tc := ⟨.hbm, 358, rfl⟩
abbrev main_v225 : Ref sig .tc := ⟨.hbm, 359, rfl⟩
abbrev main_v226 : Ref sig .tc := ⟨.hbm, 360, rfl⟩
abbrev main_v227 : Ref sig .tc := ⟨.hbm, 361, rfl⟩
abbrev main_v228 : Ref sig .tc := ⟨.hbm, 362, rfl⟩
abbrev main_v229 : Ref sig .tc := ⟨.hbm, 363, rfl⟩
abbrev main_v230 : Ref sig .tc := ⟨.hbm, 364, rfl⟩
abbrev main_c_19 : Ref sig .tc := ⟨.hbm, 365, rfl⟩
abbrev main_call6_v0 : Ref sig .tc := ⟨.hbm, 366, rfl⟩
abbrev main_call6_v1 : Ref sig .tc := ⟨.hbm, 367, rfl⟩
abbrev main_call6_v2 : Ref sig .tc := ⟨.hbm, 368, rfl⟩
abbrev main_call6_v3 : Ref sig .tc := ⟨.hbm, 369, rfl⟩
abbrev main_call6_v4 : Ref sig .tc := ⟨.hbm, 370, rfl⟩
abbrev main_call6_v5 : Ref sig .tc := ⟨.hbm, 371, rfl⟩
abbrev main_call6_v6 : Ref sig .tc := ⟨.hbm, 372, rfl⟩
abbrev main_call6_v7 : Ref sig .tc := ⟨.hbm, 373, rfl⟩
abbrev main_call6_v8 : Ref sig .tc := ⟨.hbm, 374, rfl⟩
abbrev main_call6_c : Ref sig .tc := ⟨.hbm, 375, rfl⟩
abbrev main_call6_v9 : Ref sig .tc := ⟨.hbm, 376, rfl⟩
abbrev main_call6_v10 : Ref sig .tc := ⟨.hbm, 377, rfl⟩
abbrev main_call6_v11 : Ref sig .tc := ⟨.hbm, 378, rfl⟩
abbrev main_call6_c_0 : Ref sig .tc := ⟨.hbm, 379, rfl⟩
abbrev main_call6_v12 : Ref sig .tc := ⟨.hbm, 380, rfl⟩
abbrev main_call6_v13 : Ref sig .tc := ⟨.hbm, 381, rfl⟩
abbrev main_v231 : Ref sig .tc := ⟨.hbm, 382, rfl⟩
abbrev main_v232 : Ref sig .tc := ⟨.hbm, 383, rfl⟩
abbrev main_c_20 : Ref sig .tc := ⟨.hbm, 384, rfl⟩
abbrev main_call7_v0 : Ref sig .tc := ⟨.hbm, 385, rfl⟩
abbrev main_call7_c : Ref sig .tc := ⟨.hbm, 386, rfl⟩
abbrev main_call7_v1 : Ref sig .tc := ⟨.hbm, 387, rfl⟩
abbrev main_call7_c_0 : Ref sig .tc := ⟨.hbm, 388, rfl⟩
abbrev main_call7_v2 : Ref sig .tc := ⟨.hbm, 389, rfl⟩
abbrev main_call7_v3 : Ref sig .tc := ⟨.hbm, 390, rfl⟩
abbrev main_call7_v4 : Ref sig .tc := ⟨.hbm, 391, rfl⟩
abbrev main_call7_c_1 : Ref sig .tc := ⟨.hbm, 392, rfl⟩
abbrev main_call7_v5 : Ref sig .tc := ⟨.hbm, 393, rfl⟩
abbrev main_call7_v6 : Ref sig .tc := ⟨.hbm, 394, rfl⟩
abbrev main_call7_c_2 : Ref sig .tc := ⟨.hbm, 395, rfl⟩
abbrev main_call7_v7 : Ref sig .tc := ⟨.hbm, 396, rfl⟩
abbrev main_call7_v8 : Ref sig .tc := ⟨.hbm, 397, rfl⟩
abbrev main_call7_c_3 : Ref sig .tc := ⟨.hbm, 398, rfl⟩
abbrev main_call7_v9 : Ref sig .tc := ⟨.hbm, 399, rfl⟩
abbrev main_call7_v10 : Ref sig .tc := ⟨.hbm, 400, rfl⟩
abbrev main_call7_v11 : Ref sig .tc := ⟨.hbm, 401, rfl⟩
abbrev main_call7_v12 : Ref sig .tc := ⟨.hbm, 402, rfl⟩
abbrev main_call7_v13 : Ref sig .tc := ⟨.hbm, 403, rfl⟩
abbrev main_call7_v14 : Ref sig .tc := ⟨.hbm, 404, rfl⟩
abbrev main_v233 : Ref sig .tc := ⟨.hbm, 405, rfl⟩
abbrev main_v234 : Ref sig .tc := ⟨.hbm, 406, rfl⟩
abbrev main_v235 : Ref sig .tc := ⟨.hbm, 407, rfl⟩
abbrev main_cst_21 : Ref sig .tc := ⟨.hbm, 408, rfl⟩
abbrev main_v236 : Ref sig .tc := ⟨.hbm, 409, rfl⟩
abbrev main_v237 : Ref sig .tc := ⟨.hbm, 410, rfl⟩
abbrev main_cst_22 : Ref sig .tc := ⟨.hbm, 411, rfl⟩
abbrev main_v238 : Ref sig .tc := ⟨.hbm, 412, rfl⟩
abbrev main_v239 : Ref sig .tc := ⟨.hbm, 413, rfl⟩
abbrev main_v240 : Ref sig .tc := ⟨.hbm, 414, rfl⟩
abbrev main_cst_23 : Ref sig .tc := ⟨.hbm, 415, rfl⟩
abbrev main_v241 : Ref sig .tc := ⟨.hbm, 416, rfl⟩
abbrev main_v242 : Ref sig .tc := ⟨.hbm, 417, rfl⟩
abbrev main_cst_24 : Ref sig .tc := ⟨.hbm, 418, rfl⟩
abbrev main_v243 : Ref sig .tc := ⟨.hbm, 419, rfl⟩
abbrev main_v244 : Ref sig .tc := ⟨.hbm, 420, rfl⟩
abbrev main_v245 : Ref sig .tc := ⟨.hbm, 421, rfl⟩
abbrev main_v246 : Ref sig .tc := ⟨.hbm, 422, rfl⟩
abbrev main_v247 : Ref sig .tc := ⟨.hbm, 423, rfl⟩
abbrev main_v248 : Ref sig .tc := ⟨.hbm, 424, rfl⟩
abbrev main_v249 : Ref sig .tc := ⟨.hbm, 425, rfl⟩
abbrev main_v250 : Ref sig .tc := ⟨.hbm, 426, rfl⟩
abbrev main_v251 : Ref sig .tc := ⟨.hbm, 427, rfl⟩
abbrev main_v252 : Ref sig .tc := ⟨.hbm, 428, rfl⟩
abbrev main_v253 : Ref sig .tc := ⟨.hbm, 429, rfl⟩
abbrev main_v254 : Ref sig .tc := ⟨.hbm, 430, rfl⟩
abbrev main_v255 : Ref sig .tc := ⟨.hbm, 431, rfl⟩
abbrev main_v256 : Ref sig .tc := ⟨.hbm, 432, rfl⟩
abbrev main_v257 : Ref sig .tc := ⟨.hbm, 433, rfl⟩
abbrev main_v258 : Ref sig .tc := ⟨.hbm, 434, rfl⟩
abbrev main_v259 : Ref sig .tc := ⟨.hbm, 435, rfl⟩
abbrev main_v260 : Ref sig .tc := ⟨.hbm, 436, rfl⟩
abbrev main_v261 : Ref sig .tc := ⟨.hbm, 437, rfl⟩
abbrev main_v262 : Ref sig .tc := ⟨.hbm, 438, rfl⟩
abbrev main_v263 : Ref sig .tc := ⟨.hbm, 439, rfl⟩
abbrev main_v264 : Ref sig .tc := ⟨.hbm, 440, rfl⟩
abbrev main_v265 : Ref sig .tc := ⟨.hbm, 441, rfl⟩
abbrev main_v266 : Ref sig .tc := ⟨.hbm, 442, rfl⟩
abbrev main_v267 : Ref sig .tc := ⟨.hbm, 443, rfl⟩
abbrev main_v268 : Ref sig .tc := ⟨.hbm, 444, rfl⟩
abbrev main_v269 : Ref sig .tc := ⟨.hbm, 445, rfl⟩
abbrev main_v270 : Ref sig .tc := ⟨.hbm, 446, rfl⟩
abbrev main_v271 : Ref sig .tc := ⟨.hbm, 447, rfl⟩
abbrev main_v272 : Ref sig .tc := ⟨.hbm, 448, rfl⟩
abbrev main_v273 : Ref sig .tc := ⟨.hbm, 449, rfl⟩
abbrev main_v274 : Ref sig .tc := ⟨.hbm, 450, rfl⟩
abbrev main_v275 : Ref sig .tc := ⟨.hbm, 451, rfl⟩
abbrev main_v276 : Ref sig .tc := ⟨.hbm, 452, rfl⟩
abbrev main_v277 : Ref sig .tc := ⟨.hbm, 453, rfl⟩
abbrev main_v278 : Ref sig .tc := ⟨.hbm, 454, rfl⟩
abbrev main_v279 : Ref sig .tc := ⟨.hbm, 455, rfl⟩
abbrev main_v280 : Ref sig .tc := ⟨.hbm, 456, rfl⟩
abbrev main_v281 : Ref sig .tc := ⟨.hbm, 457, rfl⟩
abbrev main_v282 : Ref sig .tc := ⟨.hbm, 458, rfl⟩
abbrev main_v283 : Ref sig .tc := ⟨.hbm, 459, rfl⟩
abbrev main_v284 : Ref sig .tc := ⟨.hbm, 460, rfl⟩
abbrev main_v285 : Ref sig .tc := ⟨.hbm, 461, rfl⟩
abbrev main_v286 : Ref sig .tc := ⟨.hbm, 462, rfl⟩
abbrev main_v287 : Ref sig .tc := ⟨.hbm, 463, rfl⟩
abbrev main_v288 : Ref sig .tc := ⟨.hbm, 464, rfl⟩
abbrev main_v289 : Ref sig .tc := ⟨.hbm, 465, rfl⟩
abbrev main_v290 : Ref sig .tc := ⟨.hbm, 466, rfl⟩
abbrev main_v291 : Ref sig .tc := ⟨.hbm, 467, rfl⟩
abbrev main_v292 : Ref sig .tc := ⟨.hbm, 468, rfl⟩
abbrev main_v293 : Ref sig .tc := ⟨.hbm, 469, rfl⟩
abbrev main_v294 : Ref sig .tc := ⟨.hbm, 470, rfl⟩
abbrev main_v295 : Ref sig .tc := ⟨.hbm, 471, rfl⟩
abbrev main_v296 : Ref sig .tc := ⟨.hbm, 472, rfl⟩
abbrev main_v297 : Ref sig .tc := ⟨.hbm, 473, rfl⟩
abbrev main_v298 : Ref sig .tc := ⟨.hbm, 474, rfl⟩
abbrev main_cst_25 : Ref sig .tc := ⟨.hbm, 475, rfl⟩
abbrev main_v299 : Ref sig .tc := ⟨.hbm, 476, rfl⟩
abbrev main_v300 : Ref sig .tc := ⟨.hbm, 477, rfl⟩
abbrev main_cst_26 : Ref sig .tc := ⟨.hbm, 478, rfl⟩
abbrev main_v301 : Ref sig .tc := ⟨.hbm, 479, rfl⟩
abbrev main_cst_27 : Ref sig .tc := ⟨.hbm, 480, rfl⟩
abbrev main_v302 : Ref sig .tc := ⟨.hbm, 481, rfl⟩
abbrev main_v303 : Ref sig .tc := ⟨.hbm, 482, rfl⟩
abbrev main_v304 : Ref sig .tc := ⟨.hbm, 483, rfl⟩
abbrev main_v305 : Ref sig .tc := ⟨.hbm, 484, rfl⟩
abbrev main_v306 : Ref sig .tc := ⟨.hbm, 485, rfl⟩
abbrev main_v307 : Ref sig .tc := ⟨.hbm, 486, rfl⟩
abbrev main_cst_28 : Ref sig .tc := ⟨.hbm, 487, rfl⟩
abbrev main_v308 : Ref sig .tc := ⟨.hbm, 488, rfl⟩
abbrev main_v309 : Ref sig .tc := ⟨.hbm, 489, rfl⟩
abbrev main_v310 : Ref sig .tc := ⟨.hbm, 490, rfl⟩
abbrev main_v311 : Ref sig .tc := ⟨.hbm, 491, rfl⟩
abbrev main_v312 : Ref sig .tc := ⟨.hbm, 492, rfl⟩
abbrev main_v313 : Ref sig .tc := ⟨.hbm, 493, rfl⟩
abbrev main_cst_29 : Ref sig .tc := ⟨.hbm, 494, rfl⟩
abbrev main_v314 : Ref sig .tc := ⟨.hbm, 495, rfl⟩
abbrev main_v315 : Ref sig .tc := ⟨.hbm, 496, rfl⟩
abbrev main_cst_30 : Ref sig .tc := ⟨.hbm, 497, rfl⟩
abbrev main_v316 : Ref sig .tc := ⟨.hbm, 498, rfl⟩
abbrev main_cst_31 : Ref sig .tc := ⟨.hbm, 499, rfl⟩
abbrev main_v317 : Ref sig .tc := ⟨.hbm, 500, rfl⟩
abbrev main_v318 : Ref sig .tc := ⟨.hbm, 501, rfl⟩
abbrev main_v319 : Ref sig .tc := ⟨.hbm, 502, rfl⟩
abbrev main_v320 : Ref sig .tc := ⟨.hbm, 503, rfl⟩
abbrev main_v321 : Ref sig .tc := ⟨.hbm, 504, rfl⟩
abbrev main_v322 : Ref sig .tc := ⟨.hbm, 505, rfl⟩
abbrev main_cst_32 : Ref sig .tc := ⟨.hbm, 506, rfl⟩
abbrev main_v323 : Ref sig .tc := ⟨.hbm, 507, rfl⟩
abbrev main_v324 : Ref sig .tc := ⟨.hbm, 508, rfl⟩
abbrev main_v325 : Ref sig .tc := ⟨.hbm, 509, rfl⟩
abbrev main_v326 : Ref sig .tc := ⟨.hbm, 510, rfl⟩
abbrev main_v327 : Ref sig .tc := ⟨.hbm, 511, rfl⟩
abbrev main_v328 : Ref sig .tc := ⟨.hbm, 512, rfl⟩
abbrev main_v329 : Ref sig .tc := ⟨.hbm, 513, rfl⟩
abbrev main_v330 : Ref sig .tc := ⟨.hbm, 514, rfl⟩
abbrev main_v331 : Ref sig .tc := ⟨.hbm, 515, rfl⟩
abbrev main_cst_33 : Ref sig .tc := ⟨.hbm, 516, rfl⟩
abbrev main_v332 : Ref sig .tc := ⟨.hbm, 517, rfl⟩
abbrev main_v333 : Ref sig .tc := ⟨.hbm, 518, rfl⟩
abbrev main_cst_34 : Ref sig .tc := ⟨.hbm, 519, rfl⟩
abbrev main_v334 : Ref sig .tc := ⟨.hbm, 520, rfl⟩
abbrev main_v335 : Ref sig .tc := ⟨.hbm, 521, rfl⟩
abbrev main_cst_35 : Ref sig .tc := ⟨.hbm, 522, rfl⟩
abbrev main_v336 : Ref sig .tc := ⟨.hbm, 523, rfl⟩
abbrev main_v337 : Ref sig .tc := ⟨.hbm, 524, rfl⟩
abbrev main_v338 : Ref sig .tc := ⟨.hbm, 525, rfl⟩
abbrev main_v339 : Ref sig .tc := ⟨.hbm, 526, rfl⟩
abbrev main_v340 : Ref sig .tc := ⟨.hbm, 527, rfl⟩
abbrev main_v341 : Ref sig .tc := ⟨.hbm, 528, rfl⟩
abbrev main_v342 : Ref sig .tc := ⟨.hbm, 529, rfl⟩
abbrev main_v343 : Ref sig .tc := ⟨.hbm, 530, rfl⟩
abbrev main_cst_36 : Ref sig .tc := ⟨.hbm, 531, rfl⟩
abbrev main_v344 : Ref sig .tc := ⟨.hbm, 532, rfl⟩
abbrev main_v345 : Ref sig .tc := ⟨.hbm, 533, rfl⟩
abbrev main_v346 : Ref sig .tc := ⟨.hbm, 534, rfl⟩
abbrev main_v347 : Ref sig .tc := ⟨.hbm, 535, rfl⟩

abbrev nD : Nat := 1
abbrev τ : Topo := Topo.v7x

variable {F : FTy → Type} [FloatOps F]
-- ==== Proof.Common.Softmax.lean ====
module

public import Idealize.ShloMosaic.PureOps
public import Idealize.ShloMosaic.Lib.Pointwise

/-! Rows of extended reals: which of them hold numbers only, and the softmax of such a row, written with the
division by the sum and with the product by the sum's reciprocal. -/

@[expose] public section

set_option maxRecDepth 16384

noncomputable section

namespace Cert.Common

open Idealize.ShloMosaic

/-- An extended real that is a number. -/
def IsNum (x : EReal) : Prop := ∃ r : ℝ, x = (r : EReal)

theorem IsNum.mul {x y : EReal} : IsNum x → IsNum y → IsNum (x * y)
  | ⟨a, ha⟩, ⟨b, hb⟩ => ⟨a * b, by rw [ha, hb, EReal.coe_mul]⟩

theorem IsNum.add {x y : EReal} : IsNum x → IsNum y → IsNum (x + y)
  | ⟨a, ha⟩, ⟨b, hb⟩ => ⟨a + b, by rw [ha, hb, EReal.coe_add]⟩

theorem IsNum.zero : IsNum 0 := ⟨0, EReal.coe_zero.symm⟩

theorem IsNum.sum {ι : Type*} (s : Finset ι) (f : ι → EReal) (h : ∀ i, IsNum (f i)) : IsNum (∑ i ∈ s, f i) := by
  classical
  induction s using Finset.induction_on with
  | empty => rw [Finset.sum_empty]; exact IsNum.zero
  | insert a s ha ih => rw [Finset.sum_insert ha]; exact (h a).add ih

/-- The word of minus infinity is the least extended real. -/
theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

/-- The eighth is a number. -/
theorem isNum_eighth : IsNum (Ideal.ofBits .f32 0x3E000000#32) := by
  simp only [Ideal.ofBits, Ideal.ieee, BitVec.extractLsb'_toNat, BitVec.toNat_ofNat]
  norm_num
  exact ⟨_, rfl⟩

variable {n : Nat}

/-- The largest entry of a row, minus infinity of an empty one. -/
def top (s : Fin n → EReal) : EReal := Finset.univ.fold max (Ideal.ofBits .f32 0xFF800000#32) s

/-- The unnormalised weights: the exponential of each entry less the largest. -/
def weight (s : Fin n → EReal) (c : Fin n) : EReal := Ideal.exp (s c - top s)

/-- The softmax of a row. -/
def soft (s : Fin n → EReal) (c : Fin n) : EReal := Ideal.div (weight s c) (∑ x, weight s x)

theorem top_eq_sup (s : Fin n → EReal) : top s = Finset.univ.sup s := by
  rw [top, word_bot]; rfl

theorem max_bot_top (s : Fin n → EReal) : max (Ideal.ofBits .f32 0xFF800000#32) (top s) = top s := by
  rw [word_bot]; exact max_eq_right bot_le

theorem exp_nonneg (x : EReal) : 0 ≤ Ideal.exp x := by
  induction x with
  | bot => simp
  | top => simp
  | coe r => rw [Ideal.exp_coe]; exact_mod_cast (Real.exp_pos r).le

/-- A row of numbers has a weight equal to one, so its weights do not sum to zero. -/
theorem sum_weight_ne_zero (s : Fin n → EReal) (c : Fin n) (h : ∀ x, IsNum (s x)) : (∑ x, weight s x) ≠ 0 := by
  obtain ⟨i, -, hi⟩ := Finset.exists_max_image Finset.univ s ⟨c, Finset.mem_univ c⟩
  have ht : top s = s i := by
    rw [top_eq_sup]
    exact le_antisymm (Finset.sup_le fun b hb => hi b hb) (Finset.le_sup (Finset.mem_univ i))
  have hw : weight s i = 1 := by
    obtain ⟨r, hr⟩ := h i
    rw [weight, ht, hr, ← EReal.coe_sub, sub_self, Ideal.exp_coe, Real.exp_zero, EReal.coe_one]
  have hle : weight s i ≤ ∑ x, weight s x :=
    Finset.single_le_sum (f := weight s) (fun x _ => exp_nonneg _) (Finset.mem_univ i)
  rw [hw] at hle
  exact (lt_of_lt_of_le zero_lt_one hle).ne'

/-- Off a zero sum, the product by the reciprocal is the quotient. -/
theorem mul_recip (x y : EReal) (h : y ≠ 0) : x * Ideal.div 1 y = Ideal.div x y := by
  rw [Ideal.div, Ideal.div, if_neg h, if_neg h, one_mul]

/-- The weights times the reciprocal of their sum are the softmax, of a row of numbers. -/
theorem soft_of_recip (s : Fin n → EReal) (c : Fin n) (h : ∀ x, IsNum (s x)) :
    weight s c * Ideal.div 1 (∑ x, weight s x) = soft s c :=
  mul_recip _ _ (sum_weight_ne_zero s c h)

end Cert.Common
-- ==== Proof.Common.Finite.lean ====
module

public import proofs.«01_k».proof.Proof.Common.Softmax

/-! A magnitude below the word of infinity belongs to a number. -/

@[expose] public section

noncomputable section

namespace Cert.Common

open Idealize.ShloMosaic

/-- A value whose magnitude is below infinity is a real number. -/
theorem isNum_of_abs_lt (x : EReal)
    (h : BitVec.ofBool (decide ((FloatOps.absf (F := Ideal) (φ := .f32) x : EReal) < Ideal.ofBits .f32 0x7F800000#32)) = 1#1) : IsNum x := by
  rw [word_top] at h
  have h' : max x (-x) < ⊤ := by
    by_contra hn
    have e : decide ((FloatOps.absf (F := Ideal) (φ := .f32) x : EReal) < ⊤) = false := decide_eq_false hn
    rw [e] at h
    exact absurd h (by decide)
  induction x using EReal.rec with
  | bot => simp at h'
  | coe r => exact ⟨r, rfl⟩
  | top => simp at h'

end Cert.Common
-- ==== Proof.Diff.Spec.lean ====
module

public import proofs.«01_k».proof.Proof.Common.Softmax
public import Idealize.ShloMosaic.Lib.Pipeline.ValueKit

/-! One head of differential attention over one prompt, entry by entry: two score maps from the two halves of the
head's lanes, their softmaxes, the difference of the two mixtures of the values, and its root-mean-square norm. -/

@[expose] public section

set_option maxRecDepth 16384

noncomputable section

namespace Cert.Diff

open Idealize.ShloMosaic Cert.Common

/-- Lane `d` of the lower half of a head's 128 lanes. -/
def lo (d : Fin 64) : Fin 128 := ⟨d.val, by omega⟩
/-- Lane `d` of the upper half. -/
def hi (d : Fin 64) : Fin 128 := ⟨64 + d.val, by omega⟩

/-- The scaled product of query row `r` and key row `c` over the lanes `p` names. -/
def score (q k : Fin 256 → Fin 128 → EReal) (p : Fin 64 → Fin 128) (r c : Fin 256) : EReal :=
  (∑ d : Fin 64, q r (p d) * k c (p d)) * Ideal.ofBits .f32 0x3E000000#32

/-- The weight of the second map, from the four learned vectors. -/
def lam (m : Fin 4 → Fin 64 → EReal) : EReal :=
  Ideal.exp (∑ x, m 0 x * m 1 x) - Ideal.exp (∑ x, m 2 x * m 3 x) + Ideal.ofBits .f32 0x3EB60549#32

/-- The difference of the two mixtures. -/
def mix (q k v : Fin 256 → Fin 128 → EReal) (m : Fin 4 → Fin 64 → EReal) (r : Fin 256) (l : Fin 128) : EReal :=
  (∑ c, soft (score q k lo r) c * v c l) - lam m * ∑ c, soft (score q k hi r) c * v c l

/-- A row over its root mean square, times a gain and the constant `1 - lambda_init`. -/
def normed (o : Fin 128 → EReal) (g : Fin 128 → EReal) (l : Fin 128) : EReal :=
  o l * Ideal.rsqrt (Ideal.div (∑ x, o x * o x) (Ideal.ofBits .f32 0x43000000#32) + Ideal.ofBits .f32 0x358637BD#32)
    * g l * Ideal.ofBits .f32 0x3F24FD5C#32

/-- The head's result. -/
def head (q k v : Fin 256 → Fin 128 → EReal) (m : Fin 4 → Fin 64 → EReal) (g : Fin 128 → EReal) (r : Fin 256)
    (l : Fin 128) : EReal :=
  normed (mix q k v m r) g l

theorem isNum_score (q k : Fin 256 → Fin 128 → EReal) (p : Fin 64 → Fin 128) (hq : ∀ r d, IsNum (q r d))
    (hk : ∀ r d, IsNum (k r d)) (r c : Fin 256) : IsNum (score q k p r c) :=
  (IsNum.sum _ _ fun _ => (hq _ _).mul (hk _ _)).mul isNum_eighth

/-- A sum over 128 lanes with the upper half zero is the sum over the lower half. -/
theorem sum_lo (f : Fin 128 → EReal) (h : ∀ x : Fin 128, ¬ x.val < 64 → f x = 0) : ∑ x, f x = ∑ d, f (lo d) := by
  rw [show (∑ x, f x) = ∑ x : Fin (64 + 64), f x from rfl, Fin.sum_univ_add]
  rw [Finset.sum_eq_zero (s := Finset.univ) (f := fun i : Fin 64 => f (Fin.natAdd 64 i)), add_zero]
  · rfl
  · intro i _
    exact h _ (by show ¬ (64 + i.val < 64); omega)

/-- A sum over 128 lanes with the lower half zero is the sum over the upper half. -/
theorem sum_hi (f : Fin 128 → EReal) (h : ∀ x : Fin 128, x.val < 64 → f x = 0) : ∑ x, f x = ∑ d, f (hi d) := by
  rw [show (∑ x, f x) = ∑ x : Fin (64 + 64), f x from rfl, Fin.sum_univ_add]
  rw [Finset.sum_eq_zero (s := Finset.univ) (f := fun i : Fin 64 => f (Fin.castAdd 64 i)), zero_add]
  · rfl
  · intro i _
    exact h _ i.isLt

/-- Lane `d` of head `h` in the slab that starts at column `o`. -/
def slab (o : Nat) (ho : o ≤ 7680) (h : Fin 4) (d : Fin 128) : Fin 8192 := ⟨o + (128 * h.val + d.val), by omega⟩

/-- The head a lane of the merged result belongs to. -/
def headOf (j : Fin 512) : Fin 4 := ⟨j.val / 128, by omega⟩
/-- The lane's place in its head. -/
def laneOf (j : Fin 512) : Fin 128 := ⟨j.val % 128, by omega⟩

/-- The projected tokens of all prompts. -/
abbrev Tokens := FVec Ideal (⟨3, ![32, 256, 8192]⟩ : Shape) .f32
/-- One layer's keys or values, by head. -/
abbrev Heads := FVec Ideal (⟨4, ![32, 4, 256, 128]⟩ : Shape) .f32

/-- What the slab at column `o` holds for prompt `b` and head `h`. -/
def slabOf (x : Tokens) (o : Nat) (ho : o ≤ 7680) (b : Fin 32) (h : Fin 4) (r : Fin 256) (d : Fin 128) : EReal :=
  x (ix3 b r (slab o ho h d))

/-- The attention's result of all prompts, the heads side by side. -/
def attn (x : Tokens) (m : FVec Ideal (⟨2, ![4, 64]⟩ : Shape) .f32) (g : FVec Ideal (⟨1, ![128]⟩ : Shape) .f32) :
    FVec Ideal (⟨3, ![32, 256, 512]⟩ : Shape) .f32 := fun i =>
  head (slabOf x 0 (by omega) (i 0) (headOf (i 2))) (slabOf x 512 (by omega) (i 0) (headOf (i 2)))
    (slabOf x 1024 (by omega) (i 0) (headOf (i 2))) (fun a d => m (ix2 a d)) (fun d => g (ix1 d)) (i 1) (laneOf (i 2))

/-- The earlier layer's keys (or values), and under them this layer's, from the slab at column `o`. -/
def stacked (p : Heads) (x : Tokens) (o : Nat) (ho : o ≤ 7680) : FVec Ideal (⟨5, ![32, 2, 4, 256, 128]⟩ : Shape) .f32 := fun i =>
  if (i 1).val = 0 then p (ix4 (i 0) (i 2) (i 3) (i 4)) else slabOf x o ho (i 0) (i 2) (i 3) (i 4)

end Cert.Diff
-- ==== Proof.Diff.Kernel.lean ====
module

public import proofs.«01_k».proof.Proof.Gen.KernelIdeal.Value
public import proofs.«01_k».proof.Proof.Diff.Spec
public import Idealize.ShloMosaic.Lib.Pointwise

/-! The vectors the kernel computes for one head, stage by stage, read at an entry. -/

@[expose] public section

set_option maxRecDepth 16384

noncomputable section

namespace Cert.Diff

open Cert.KernelIdeal Cert.KernelIdeal.Gen Idealize.ShloMosaic Idealize.ShloMosaic.TcCoe Idealize.SL.Sem Cert.Common

/-- The lanes of the lower half. -/
def lanes : IVec S1x128 1 := cmpi .slt (iota .tc S1x128 32 [1] iota_S1x128_d1_w32) (broadcast S1x128 64#32)

/-- The queries with the upper half of their lanes zero. -/
def qLo (q : FVec Ideal S256x128 .f32) : FVec Ideal S256x128 .bf16 :=
  truncf .bf16 (select (broadcastTo S256x128 (shapeCast S1x128 lanes shapeCasts_S1x128_S1x128) broadcasts_S1x128_S256x128) q
    (broadcast S256x128 (Scalar.ofBits .f32 0x00000000#32))) bitsLt_bf16_f32

/-- The queries with the lower half of their lanes zero. -/
def qHi (q : FVec Ideal S256x128 .f32) : FVec Ideal S256x128 .bf16 :=
  truncf .bf16 (select (broadcastTo S256x128 (shapeCast S1x128 lanes shapeCasts_S1x128_S1x128) broadcasts_S1x128_S256x128)
    (broadcast S256x128 (Scalar.ofBits .f32 0x00000000#32)) q) bitsLt_bf16_f32

/-- The scaled products of the queries and the keys. -/
def scores (q k : FVec Ideal S256x128 .bf16) : FVec Ideal S256x256 .f32 :=
  mulf (matmul dot_S256x128_S256x128_S256x256_1_1_0_0_n_n none q k (constant S256x256 .f32 0x00000000#32))
    (broadcast S256x256 (Scalar.ofBits .f32 0x3E000000#32))

/-- The exponentials of a block of scores, each row less its maximum. -/
def expRows (s : FVec Ideal S256x256 .f32) : FVec Ideal S256x256 .f32 :=
  exp (subf s (broadcastTo S256x256 (shapeCast S256x1
    (multiReduction .maximumf [1] S256 s 0xFF800000#32 reduces_S256x256_S256 (.inl rfl) rfl) shapeCasts_S256_S256x1)
    broadcasts_S256x1_S256x256))

/-- Each row times the reciprocal of its sum. -/
def normRows (e : FVec Ideal S256x256 .f32) : FVec Ideal S256x256 .bf16 :=
  truncf .bf16 (mulf e (broadcastTo S256x256 (divf (broadcast S256x1 (Scalar.ofBits .f32 0x3F800000#32)) (shapeCast S256x1
    (multiReduction .add [1] S256 e 0x00000000#32 reduces_S256x256_S256 (.inl rfl) rfl) shapeCasts_S256_S256x1))
    broadcasts_S256x1_S256x256)) bitsLt_bf16_f32

/-- The second map's weight. -/
def lamV (m : FVec Ideal S4x64 .f32) : FVec Ideal S1x1 .f32 :=
  addf (subf
    (exp (shapeCast S1x1 (multiReduction .add [1] S1 (mulf (extractStridedSlice S1x64 ![0, 0] m slices_S4x64_o0_0_S1x64)
      (extractStridedSlice S1x64 ![1, 0] m slices_S4x64_o1_0_S1x64)) 0x00000000#32 reduces_S1x64_S1 (.inl rfl) rfl) shapeCasts_S1_S1x1))
    (exp (shapeCast S1x1 (multiReduction .add [1] S1 (mulf (extractStridedSlice S1x64 ![2, 0] m slices_S4x64_o2_0_S1x64)
      (extractStridedSlice S1x64 ![3, 0] m slices_S4x64_o3_0_S1x64)) 0x00000000#32 reduces_S1x64_S1 (.inl rfl) rfl) shapeCasts_S1_S1x1)))
    (broadcast S1x1 (Scalar.ofBits .f32 0x3EB60549#32))

/-- The difference of the two mixtures of the values. -/
def mixV (p1 p2 : FVec Ideal S256x256 .bf16) (v : FVec Ideal S256x128 .bf16) (w : FVec Ideal S1x1 .f32) : FVec Ideal S256x128 .f32 :=
  subf (matmul dot_S256x256_S256x128_S256x128_1_0_0_1_n_n none p1 v (constant S256x128 .f32 0x00000000#32))
    (mulf (broadcastTo S256x128 w broadcasts_S1x1_S256x128)
      (matmul dot_S256x256_S256x128_S256x128_1_0_0_1_n_n none p2 v (constant S256x128 .f32 0x00000000#32)))

/-- Each row over its root mean square, times the gain and the constant. -/
def normV (o : FVec Ideal S256x128 .f32) (g : FVec Ideal S1x128 .f32) : FVec Ideal S256x128 .f32 :=
  mulf (mulf (mulf o (broadcastTo S256x128 (rsqrt (addf (divf (shapeCast S256x1
      (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128))
    (broadcastTo S256x128 (shapeCast S1x128 g shapeCasts_S1x128_S1x128) broadcasts_S1x128_S256x128))
    (broadcast S256x128 (Scalar.ofBits .f32 0x3F24FD5C#32))

/-- One head, from its queries, keys and values. -/
def headV (q k v : Vec Ideal S1x256x128 .f32) (m : Vec Ideal S4x64 .f32) (g : Vec Ideal S1x128 .f32) : FVec Ideal S1x256x128 .f32 :=
  shapeCast S1x256x128 (normV (mixV
    (normRows (expRows (scores (qLo (shapeCast S256x128 q shapeCasts_S1x256x128_S256x128))
      (truncf .bf16 (shapeCast S256x128 k shapeCasts_S1x256x128_S256x128) bitsLt_bf16_f32))))
    (normRows (expRows (scores (qHi (shapeCast S256x128 q shapeCasts_S1x256x128_S256x128))
      (truncf .bf16 (shapeCast S256x128 k shapeCasts_S1x256x128_S256x128) bitsLt_bf16_f32))))
    (truncf .bf16 (shapeCast S256x128 v shapeCasts_S1x256x128_S256x128) bitsLt_bf16_f32) (lamV m)) g) shapeCasts_S256x128_S1x256x128

theorem scores_apply (q k : FVec Ideal S256x128 .bf16) (r c : Fin 256) :
    scores q k (ix2 r c) = (∑ x : Fin 128, q (ix2 r x) * k (ix2 c x)) * Ideal.ofBits .f32 0x3E000000#32 := by
  pointwise [scores]

theorem expRows_apply (s : FVec Ideal S256x256 .f32) (r c : Fin 256) :
    expRows s (ix2 r c) = weight (fun x : Fin 256 => s (ix2 r x)) c := by
  pointwise [expRows]
  rfl

theorem normRows_apply (s : FVec Ideal S256x256 .f32) (r c : Fin 256) :
    normRows s (ix2 r c) = s (ix2 r c) * Ideal.div 1 (∑ x : Fin 256, s (ix2 r x)) := by
  pointwise [normRows]

theorem lane_word (c : Fin 128) : IntOp.cmpi CmpIPredicate.slt (BitVec.ofNat 32 c.val) 64#32 = if c.val < 64 then 1#1 else 0#1 :=
  (by decide +kernel : ∀ c : Fin 128, IntOp.cmpi CmpIPredicate.slt (BitVec.ofNat 32 c.val) 64#32 = if c.val < 64 then 1#1 else 0#1) c

theorem qLo_apply (q : FVec Ideal S256x128 .f32) (r : Fin 256) (c : Fin 128) :
    qLo q (ix2 r c) = if c.val < 64 then q (ix2 r c) else 0 := by
  pointwise [qLo, lanes]
  rw [lane_word]
  split <;> rfl

theorem qHi_apply (q : FVec Ideal S256x128 .f32) (r : Fin 256) (c : Fin 128) :
    qHi q (ix2 r c) = if c.val < 64 then 0 else q (ix2 r c) := by
  pointwise [qHi, lanes]
  rw [lane_word]
  split <;> rfl

theorem lamV_apply (m : FVec Ideal S4x64 .f32) (a b : Fin 1) : lamV m (ix2 a b) = lam fun i x => m (ix2 i x) := by
  pointwise [lamV]
  rfl

theorem mixV_apply (p1 p2 : FVec Ideal S256x256 .bf16) (v : FVec Ideal S256x128 .bf16) (w : FVec Ideal S1x1 .f32)
    (r : Fin 256) (l : Fin 128) :
    mixV p1 p2 v w (ix2 r l) = (∑ c : Fin 256, p1 (ix2 r c) * v (ix2 c l)) - w (ix2 0 0) * ∑ c : Fin 256, p2 (ix2 r c) * v (ix2 c l) := by
  pointwise [mixV]

theorem normV_apply (o : FVec Ideal S256x128 .f32) (g : FVec Ideal S1x128 .f32) (r : Fin 256) (l : Fin 128) :
    normV o g (ix2 r l) = normed (fun x => o (ix2 r x)) (fun x => g (ix2 0 x)) l := by
  pointwise [normV]
  rfl

/-- The lower half's scores. -/
theorem scores_lo (q k : FVec Ideal S256x128 .f32) (r c : Fin 256) :
    scores (qLo q) (truncf .bf16 k bitsLt_bf16_f32) (ix2 r c) = score (fun r d => q (ix2 r d)) (fun r d => k (ix2 r d)) lo r c := by
  rw [scores_apply, score, sum_lo]
  · refine congrArg (· * _) (Finset.sum_congr rfl fun d _ => ?_)
    rw [qLo_apply, if_pos (show (lo d).val < 64 from d.isLt)]
    rfl
  · intro x hx
    rw [qLo_apply, if_neg hx, zero_mul]

/-- The upper half's scores. -/
theorem scores_hi (q k : FVec Ideal S256x128 .f32) (r c : Fin 256) :
    scores (qHi q) (truncf .bf16 k bitsLt_bf16_f32) (ix2 r c) = score (fun r d => q (ix2 r d)) (fun r d => k (ix2 r d)) hi r c := by
  rw [scores_apply, score, sum_hi]
  · refine congrArg (· * _) (Finset.sum_congr rfl fun d _ => ?_)
    rw [qHi_apply, if_neg (show ¬ (hi d).val < 64 by show ¬ (64 + d.val < 64); omega)]
    rfl
  · intro x hx
    rw [qHi_apply, if_pos hx, zero_mul]

/-- The normalised rows of scores that are numbers are their softmax. -/
theorem soft_apply (s : FVec Ideal S256x256 .f32) (f : Fin 256 → Fin 256 → EReal) (hs : ∀ r c, s (ix2 r c) = f r c)
    (hf : ∀ r c, IsNum (f r c)) (r c : Fin 256) : normRows (expRows s) (ix2 r c) = soft (f r) c := by
  rw [normRows_apply, expRows_apply]
  simp only [expRows_apply, hs]
  exact soft_of_recip (f r) c (hf r)

/-- One head at an entry. -/
theorem headV_apply (q k v : Vec Ideal S1x256x128 .f32) (m : Vec Ideal S4x64 .f32) (g : Vec Ideal S1x128 .f32)
    (hq : ∀ r d, IsNum (q (ix3 0 r d))) (hk : ∀ r d, IsNum (k (ix3 0 r d))) (a : Fin 1) (r : Fin 256) (l : Fin 128) :
    headV q k v m g (ix3 a r l) = head (fun r d => q (ix3 0 r d)) (fun r d => k (ix3 0 r d)) (fun r d => v (ix3 0 r d))
      (fun i x => m (ix2 i x)) (fun x => g (ix2 0 x)) r l := by
  have cast : ∀ (y : Vec Ideal S1x256x128 .f32) (r : Fin 256) (d : Fin 128),
      shapeCast S256x128 y shapeCasts_S1x256x128_S256x128 (ix2 r d) = y (ix3 0 r d) := fun y r d => by pointwise
  have key : headV q k v m g (ix3 a r l) = normV (mixV
    (normRows (expRows (scores (qLo (shapeCast S256x128 q shapeCasts_S1x256x128_S256x128))
      (truncf .bf16 (shapeCast S256x128 k shapeCasts_S1x256x128_S256x128) bitsLt_bf16_f32))))
    (normRows (expRows (scores (qHi (shapeCast S256x128 q shapeCasts_S1x256x128_S256x128))
      (truncf .bf16 (shapeCast S256x128 k shapeCasts_S1x256x128_S256x128) bitsLt_bf16_f32))))
    (truncf .bf16 (shapeCast S256x128 v shapeCasts_S1x256x128_S256x128) bitsLt_bf16_f32) (lamV m)) g (ix2 r l) := by
    unfold headV
    generalize normV _ _ = y
    pointwise
  rw [key, normV_apply, head]
  refine congrArg (fun o => normed o _ l) (funext fun x => ?_)
  rw [mixV_apply, mix, lamV_apply]
  have nq : ∀ p r c, IsNum (score (fun r d => shapeCast S256x128 q shapeCasts_S1x256x128_S256x128 (ix2 r d))
      (fun r d => shapeCast S256x128 k shapeCasts_S1x256x128_S256x128 (ix2 r d)) p r c) := fun p r c =>
    isNum_score _ _ p (fun r d => (cast q r d).symm ▸ hq r d) (fun r d => (cast k r d).symm ▸ hk r d) r c
  have cv : ∀ (r : Fin 256) (d : Fin 128),
      (truncf .bf16 (shapeCast S256x128 v shapeCasts_S1x256x128_S256x128) bitsLt_bf16_f32 : FVec Ideal S256x128 .bf16) (ix2 r d)
        = (v (ix3 0 r d) : EReal) := fun r d => by pointwise
  simp only [soft_apply _ _ (scores_lo _ _) (nq lo), soft_apply _ _ (scores_hi _ _) (nq hi), cast, cv]

end Cert.Diff
-- ==== Proof.Diff.Pieces.lean ====
module

public import proofs.«01_k».proof.Proof.Diff.Kernel
public import Idealize.ShloMosaic.Lib.Pipeline.ValueKit

/-! The kernel's three output windows after one run of its body: four heads side by side in the first, and the stacked
keys and values in the others. -/

@[expose] public section

set_option maxRecDepth 16384

noncomputable section

namespace Cert.Diff

open Cert.KernelIdeal Cert.KernelIdeal.Gen Idealize.ShloMosaic Idealize.ShloMosaic.TcCoe Idealize.SL.Sem Cert.Common

variable (x0 x1 x2 : Vec Ideal S1x256x512 .f32) (x3 x4 : Vec Ideal S1x4x256x128 .f32) (x5 : Vec Ideal S4x64 .f32)
  (x6 : Vec Ideal S1x128 .f32)

/-- The attention's window holds the four heads' results. -/
theorem out7_heads : out0_7 x0 x1 x2 x3 x4 x5 x6 = View.canon
    [⟨r0_14, headV (View.ld x0 r0_14) (View.ld x1 r0_14) (View.ld x2 r0_14) (View.ld x5 r0_4) (View.ld x6 r0_5)⟩,
     ⟨r0_10, headV (View.ld x0 r0_10) (View.ld x1 r0_10) (View.ld x2 r0_10) (View.ld x5 r0_4) (View.ld x6 r0_5)⟩,
     ⟨r0_6, headV (View.ld x0 r0_6) (View.ld x1 r0_6) (View.ld x2 r0_6) (View.ld x5 r0_4) (View.ld x6 r0_5)⟩,
     ⟨r0_0, headV (View.ld x0 r0_0) (View.ld x1 r0_0) (View.ld x2 r0_0) (View.ld x5 r0_4) (View.ld x6 r0_5)⟩] := rfl

/-- Lane `d` of head `h` among the 512 lanes of the four heads. -/
def lane (h : Fin 4) (d : Fin 128) : Fin 512 := ⟨128 * h.val + d.val, by omega⟩

/-- One head's piece, its three slabs and its place known. -/
theorem piece_apply (h : Fin 4) (r : Fin 256) (l : Fin 128) (q k v : Vec Ideal S1x256x128 .f32)
    (m : Vec Ideal S4x64 .f32) (g : Vec Ideal S1x128 .f32) (x : S1x256x128.Idx) (hr : (x 1).val = r.val) (hl : (x 2).val = l.val)
    (hq : ∀ r d, q (ix3 0 r d) = x0 (ix3 0 r (lane h d))) (hk : ∀ r d, k (ix3 0 r d) = x1 (ix3 0 r (lane h d)))
    (hv : ∀ r d, v (ix3 0 r d) = x2 (ix3 0 r (lane h d))) (hm : ∀ i d, m (ix2 i d) = x5 (ix2 i d))
    (hg : ∀ d, g (ix2 0 d) = x6 (ix2 0 d)) (nq : ∀ r d, IsNum (x0 (ix3 0 r d))) (nk : ∀ r d, IsNum (x1 (ix3 0 r d))) :
    headV q k v m g x = head (fun r d => x0 (ix3 0 r (lane h d))) (fun r d => x1 (ix3 0 r (lane h d)))
      (fun r d => x2 (ix3 0 r (lane h d))) (fun i d => x5 (ix2 i d)) (fun d => x6 (ix2 0 d)) r l := by
  have e : x = ix3 (0 : Fin 1) r l := by blk_ext
  rw [e, headV_apply q k v m g (fun r d => (hq r d).symm ▸ nq r _) (fun r d => (hk r d).symm ▸ nk r _)]
  simp only [hq, hk, hv, hm, hg]

/-- The attention's window at a lane of a head. -/
theorem out7_apply (nq : ∀ r d, IsNum (x0 (ix3 0 r d))) (nk : ∀ r d, IsNum (x1 (ix3 0 r d))) (y : S1x256x512.Idx)
    (h : Fin 4) (r : Fin 256) (l : Fin 128) (hr : (y 1).val = r.val) (hl : (y 2).val = (lane h l).val) :
    out0_7 x0 x1 x2 x3 x4 x5 x6 y = head (fun r d => x0 (ix3 0 r (lane h d))) (fun r d => x1 (ix3 0 r (lane h d)))
      (fun r d => x2 (ix3 0 r (lane h d))) (fun i d => x5 (ix2 i d)) (fun d => x6 (ix2 0 d)) r l := by
  rw [out7_heads]
  have hl' : (y 2).val = 128 * h.val + l.val := hl
  have hh := h.isLt
  have hl2 := l.isLt
  canon_tiles x hx using cover0_7 ..
  all_goals
    refine piece_apply x0 x1 x2 x5 x6 h r l _ _ _ _ _ x (hx1.symm.trans hr) (by omega) ?_ ?_ ?_ ?_ ?_ nq nk
    all_goals
      intros
      pointwise
      blk_ext [lane]

/-- The stacked keys' window: the earlier layer's keys under 0, this layer's under 1. -/
theorem out8_apply (y : S1x2x4x256x128.Idx) (s : Fin 2) (h : Fin 4) (r : Fin 256) (d : Fin 128) (hs : (y 1).val = s.val)
    (hh : (y 2).val = h.val) (hr : (y 3).val = r.val) (hd : (y 4).val = d.val) :
    out0_8 x0 x1 x2 x3 x4 x5 x6 y = if s.val = 0 then x3 (ix4 0 h r d) else x1 (ix3 0 r (lane h d)) := by
  unfold_out out0_8
  canon_tiles x hx using cover0_8 ..
  all_goals
    open_payloads
    idx_vars x
    split <;> first | (exfalso; omega) | skip
    pointwise
    blk_ext [lane]

/-- The stacked values' window: the earlier layer's values under 0, this layer's under 1. -/
theorem out9_apply (y : S1x2x4x256x128.Idx) (s : Fin 2) (h : Fin 4) (r : Fin 256) (d : Fin 128) (hs : (y 1).val = s.val)
    (hh : (y 2).val = h.val) (hr : (y 3).val = r.val) (hd : (y 4).val = d.val) :
    out0_9 x0 x1 x2 x3 x4 x5 x6 y = if s.val = 0 then x4 (ix4 0 h r d) else x2 (ix3 0 r (lane h d)) := by
  unfold_out out0_9
  canon_tiles x hx using cover0_9 ..
  all_goals
    open_payloads
    idx_vars x
    split <;> first | (exfalso; omega) | skip
    pointwise
    blk_ext [lane]

end Cert.Diff
-- ==== Proof.Diff.Arrays.lean ====
module

public import proofs.«01_k».proof.Proof.Diff.Pieces
public import proofs.«01_k».proof.Proof.Gen.KernelIdeal.Value

/-! The kernel's three result arrays after the run, in terms of the arrays it was given. -/

@[expose] public section

set_option maxRecDepth 16384

noncomputable section

namespace Cert.Diff

open Cert.KernelIdeal Cert.KernelIdeal.Gen Idealize.ShloMosaic Idealize.ShloMosaic.TcCoe Idealize.SL.Sem Cert.Common

variable (m : (ℓ : Loc nD τ sig) → Buf (Elt Ideal) ℓ) (c : Dev nD)

/-- Where each window's block lies at a grid point. -/
theorem idx0 : ∀ t : Fin cfg0.N, win0_0.index t = ![t.val, 0, 0] ∧ win0_1.index t = ![t.val, 0, 1] ∧ win0_2.index t = ![t.val, 0, 2]
    ∧ win0_3.index t = ![t.val, 0, 0, 0] ∧ win0_4.index t = ![t.val, 0, 0, 0] ∧ win0_5.index t = ![0, 0] ∧ win0_6.index t = ![0, 0]
    ∧ win0_7.index t = ![t.val, 0, 0] ∧ win0_8.index t = ![t.val, 0, 0, 0, 0] ∧ win0_9.index t = ![t.val, 0, 0, 0, 0] :=
  (by decide +kernel : ∀ t : Fin grid0.N, _)

/-- A lane of a block of the prompt's columns is that lane of the slab. -/
theorem blk_q (t : Fin cfg0.N) (r : Fin 256) (h : Fin 4) (d : Fin 128) :
    iblk m c 0 t (ix3 0 r (lane h d)) = slabOf (m ((c : Thread nD τ).loc main_arg0)) 0 (by omega) ⟨t.val, t.isLt⟩ h r d := by
  unfold slabOf
  blk_ext [iblk, V, idx0 t, lane, slab]

theorem blk_k (t : Fin cfg0.N) (r : Fin 256) (h : Fin 4) (d : Fin 128) :
    iblk m c 1 t (ix3 0 r (lane h d)) = slabOf (m ((c : Thread nD τ).loc main_arg0)) 512 (by omega) ⟨t.val, t.isLt⟩ h r d := by
  unfold slabOf
  blk_ext [iblk, V, idx0 t, lane, slab]

theorem blk_v (t : Fin cfg0.N) (r : Fin 256) (h : Fin 4) (d : Fin 128) :
    iblk m c 2 t (ix3 0 r (lane h d)) = slabOf (m ((c : Thread nD τ).loc main_arg0)) 1024 (by omega) ⟨t.val, t.isLt⟩ h r d := by
  unfold slabOf
  blk_ext [iblk, V, idx0 t, lane, slab]

theorem blk_kPrev (t : Fin cfg0.N) (h : Fin 4) (r : Fin 256) (d : Fin 128) :
    iblk m c 3 t (ix4 0 h r d) = m ((c : Thread nD τ).loc main_arg1) (ix4 ⟨t.val, t.isLt⟩ h r d) := by
  blk_ext [iblk, V, idx0 t]

theorem blk_vPrev (t : Fin cfg0.N) (h : Fin 4) (r : Fin 256) (d : Fin 128) :
    iblk m c 4 t (ix4 0 h r d) = m ((c : Thread nD τ).loc main_arg2) (ix4 ⟨t.val, t.isLt⟩ h r d) := by
  blk_ext [iblk, V, idx0 t]

theorem blk_lam (t : Fin cfg0.N) (a : Fin 4) (x : Fin 64) :
    iblk m c 5 t (ix2 a x) = m ((c : Thread nD τ).loc main_arg3) (ix2 a x) := by
  blk_ext! [iblk, V, idx0 t]

theorem blk_gain (t : Fin cfg0.N) (x : Fin 128) :
    iblk m c 6 t (ix2 0 x) = m ((c : Thread nD τ).loc main_arg4) (ix1 x) := by
  blk_ext! [iblk, V, idx0 t]

/-- Every lane of a block is some head's lane. -/
theorem lane_eq (j : Fin 512) : j = lane (headOf j) (laneOf j) := Fin.ext (by
  show j.val = 128 * (j.val / 128) + j.val % 128
  omega)

/-- The arrays hold numbers where the scores are formed from. -/
def Numbers (x : Tokens) : Prop := ∀ b r (j : Fin 1024), IsNum (x (ix3 b r ⟨j.val, by omega⟩))

theorem numbers_q (hx : Numbers (m ((c : Thread nD τ).loc main_arg0))) (t : Fin cfg0.N) (r : Fin 256) (j : Fin 512) :
    IsNum (iblk m c 0 t (ix3 0 r j)) := by
  rw [lane_eq j, blk_q]
  exact hx _ _ ⟨0 + (128 * (headOf j).val + (laneOf j).val), by omega⟩

theorem numbers_k (hx : Numbers (m ((c : Thread nD τ).loc main_arg0))) (t : Fin cfg0.N) (r : Fin 256) (j : Fin 512) :
    IsNum (iblk m c 1 t (ix3 0 r j)) := by
  rw [lane_eq j, blk_k]
  exact hx _ _ ⟨512 + (128 * (headOf j).val + (laneOf j).val), by omega⟩

/-- What one grid point leaves in the first result's block. -/
theorem block7 (hx : Numbers (m ((c : Thread nD τ).loc main_arg0))) (t : Fin cfg0.N) (y : S1x256x512.Idx) :
    out0_7 (iblk m c 0 t) (iblk m c 1 t) (iblk m c 2 t) (iblk m c 3 t) (iblk m c 4 t) (iblk m c 5 t) (iblk m c 6 t) y
      = attn (m ((c : Thread nD τ).loc main_arg0)) (m ((c : Thread nD τ).loc main_arg3)) (m ((c : Thread nD τ).loc main_arg4))
        (ix3 ⟨t.val, t.isLt⟩ (y 1) (y 2)) := by
  rw [out7_apply _ _ _ _ _ _ _ (numbers_q m c hx t) (numbers_k m c hx t) y (headOf (y 2)) (y 1) (laneOf (y 2)) rfl
    (congrArg Fin.val (lane_eq (y 2)))]
  simp only [blk_q, blk_k, blk_v, blk_lam, blk_gain]
  rfl

/-- The first result array after the run. -/
theorem arr7 (hx : Numbers (m ((c : Thread nD τ).loc main_arg0))) : (dats m 0 c).arrAt 7 cfg0.N
    = attn (m ((c : Thread nD τ).loc main_arg0)) (m ((c : Thread nD τ).loc main_arg3)) (m ((c : Thread nD τ).loc main_arg4)) := by
  refine (dats m 0 c).arrAt_eq_of_covers 7 _ (by decide +kernel) fun t hf y => ?_
  blk_simp
  rw [after0_7]
  refine (block7 m c hx t y).trans (congrArg _ ?_)
  blk_ext [idx0 t]

/-- What one grid point leaves in the stacked keys' block. -/
theorem block8 (t : Fin cfg0.N) (y : S1x2x4x256x128.Idx) :
    out0_8 (iblk m c 0 t) (iblk m c 1 t) (iblk m c 2 t) (iblk m c 3 t) (iblk m c 4 t) (iblk m c 5 t) (iblk m c 6 t) y
      = stacked (m ((c : Thread nD τ).loc main_arg1)) (m ((c : Thread nD τ).loc main_arg0)) 512 (by omega)
        (ix5 ⟨t.val, t.isLt⟩ (y 1) (y 2) (y 3) (y 4)) := by
  exact (out8_apply _ _ _ _ _ _ _ _ (y 1) (y 2) (y 3) (y 4) rfl rfl rfl rfl).trans
    (ite_congr rfl (fun _ => blk_kPrev m c t _ _ _) fun _ => blk_k m c t _ _ _)

/-- The stacked keys' array after the run. -/
theorem arr8 : (dats m 0 c).arrAt 8 cfg0.N
    = stacked (m ((c : Thread nD τ).loc main_arg1)) (m ((c : Thread nD τ).loc main_arg0)) 512 (by omega) := by
  refine (dats m 0 c).arrAt_eq_of_covers 8 _ (by decide +kernel) fun t hf y => ?_
  blk_simp
  rw [after0_8]
  refine (block8 m c t y).trans (congrArg _ ?_)
  blk_ext [idx0 t]

/-- What one grid point leaves in the stacked values' block. -/
theorem block9 (t : Fin cfg0.N) (y : S1x2x4x256x128.Idx) :
    out0_9 (iblk m c 0 t) (iblk m c 1 t) (iblk m c 2 t) (iblk m c 3 t) (iblk m c 4 t) (iblk m c 5 t) (iblk m c 6 t) y
      = stacked (m ((c : Thread nD τ).loc main_arg2)) (m ((c : Thread nD τ).loc main_arg0)) 1024 (by omega)
        (ix5 ⟨t.val, t.isLt⟩ (y 1) (y 2) (y 3) (y 4)) := by
  exact (out9_apply _ _ _ _ _ _ _ _ (y 1) (y 2) (y 3) (y 4) rfl rfl rfl rfl).trans
    (ite_congr rfl (fun _ => blk_vPrev m c t _ _ _) fun _ => blk_v m c t _ _ _)

/-- The stacked values' array after the run. -/
theorem arr9 : (dats m 0 c).arrAt 9 cfg0.N
    = stacked (m ((c : Thread nD τ).loc main_arg2)) (m ((c : Thread nD τ).loc main_arg0)) 1024 (by omega) := by
  refine (dats m 0 c).arrAt_eq_of_covers 9 _ (by decide +kernel) fun t hf y => ?_
  blk_simp
  rw [after0_9]
  refine (block9 m c t y).trans (congrArg _ ?_)
  blk_ext [idx0 t]

end Cert.Diff
-- ==== Proof.Diff.Reference.lean ====
module

public import proofs.«01_k».proof.Proof.Gen.ReferenceIdeal.Read
public import proofs.«01_k».proof.Proof.Diff.Spec
public import Idealize.ShloMosaic.Lib.Pipeline.ValueKit

/-! The reference's arrays entry by entry: its first result is `head` of the prompt's three slabs, its other two are the
earlier layer's keys and values stacked under this layer's. -/

@[expose] public section

set_option maxRecDepth 16384

noncomputable section

namespace Cert.Diff.Ref

open Cert.ReferenceIdeal Cert.ReferenceIdeal.Gen Cert.ReferenceIdeal.Value Cert.ReferenceIdeal.Read Idealize.ShloMosaic Idealize.ShloMosaic.TcCoe
open Cert.Common

variable (x0 : FVec Ideal S32x256x8192 .f32) (x1 x2 : FVec Ideal S32x4x256x128 .f32) (x3 : FVec Ideal S4x64 .f32) (x4 : FVec Ideal S128 .f32)

theorem v4_at (b : Fin 32) (h : Fin 4) (r : Fin 256) (d : Fin 128) :
    val_main_v4 (F := Ideal) x0 (ix4 b h r d) = slabOf x0 0 (by omega) b h r d := by
  rw [val_main_v4_apply, val_main_v3_apply, val_main_v0_apply]
  unfold slabOf
  blk_ext [slab]

theorem v6_at (b : Fin 32) (h : Fin 4) (r : Fin 256) (d : Fin 128) :
    val_main_v6 (F := Ideal) x0 (ix4 b h r d) = slabOf x0 512 (by omega) b h r d := by
  rw [val_main_v6_apply, val_main_v5_apply, val_main_v1_apply]
  unfold slabOf
  blk_ext [slab]

theorem v8_at (b : Fin 32) (h : Fin 4) (r : Fin 256) (d : Fin 128) :
    val_main_v8 (F := Ideal) x0 (ix4 b h r d) = slabOf x0 1024 (by omega) b h r d := by
  rw [val_main_v8_apply, val_main_v7_apply, val_main_v2_apply]
  unfold slabOf
  blk_ext [slab]

/-- The weight of the second map. -/
theorem v24_at (i : S_.Idx) : val_main_v24 (F := Ideal) x3 i = lam (fun a x => x3 (ix2 a x)) := by
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_cst_1,
    val_main_cst_0, val_main_cst]
  rfl

theorem v31_at (b : Fin 32) (h : Fin 4) (r c : Fin 256) : val_main_v31 (F := Ideal) x0 (ix4 b h r c)
    = score (slabOf x0 0 (by omega) b h) (slabOf x0 512 (by omega) b h) lo r c := by
  pointwise [val_main_v31, val_main_v30, val_main_v29, val_main_cst_2, val_main_v25, val_main_v27, v4_at, v6_at]
  rfl

theorem v46_at (b : Fin 32) (h : Fin 4) (r c : Fin 256) : val_main_v46 (F := Ideal) x0 (ix4 b h r c)
    = score (slabOf x0 0 (by omega) b h) (slabOf x0 512 (by omega) b h) hi r c := by
  pointwise [val_main_v46, val_main_v45, val_main_v44, val_main_cst_6, val_main_v26, val_main_v28, v4_at, v6_at]
  rfl

theorem rowMax_apply (s : FVec Ideal S32x4x256x256 .f32) (b : Fin 32) (h : Fin 4) (r : Fin 256) :
    Host.reduce FloatOps.maximumf s (constant S_ .f32 0xFF800000#32 : FVec Ideal S_ .f32) reducesTo_S32x4x256x256_S32x4x256_d3 h_S_ (ix3 b h r)
      = top (fun c => s (ix4 b h r c)) := by
  pointwise
  unfold top
  with_reducible rfl

/-- The exponentials of a score array's entries, each row under the entry of `z` for that row. -/
def under (s : FVec Ideal S32x4x256x256 .f32) (z : FVec Ideal S32x4x256 .f32) : FVec Ideal S32x4x256x256 .f32 :=
  Host.exp (subf s (broadcastInDim S32x4x256x256 ![0, 1, 2, 3] bcast_S32x4x256x1_S32x4x256x256_0_1_2_3
    (broadcastInDim S32x4x256x1 ![0, 1, 2] bcast_S32x4x256_S32x4x256x1_0_1_2
      (maximumf (broadcastInDim S32x4x256 ![] bcast_S_S32x4x256 (constant S_ .f32 0xFF800000#32)) z))))

theorem under_apply (s : FVec Ideal S32x4x256x256 .f32) (z : FVec Ideal S32x4x256 .f32) (b : Fin 32) (h : Fin 4) (r c : Fin 256) :
    under s z (ix4 b h r c) = Ideal.exp (s (ix4 b h r c) - max (Ideal.ofBits .f32 0xFF800000#32) (z (ix3 b h r))) := by
  pointwise [under]

/-- The exponentials of a score array's rows under their greatest entry. -/
def expV (s : FVec Ideal S32x4x256x256 .f32) : FVec Ideal S32x4x256x256 .f32 :=
  under s (Host.reduce FloatOps.maximumf s (constant S_ .f32 0xFF800000#32 : FVec Ideal S_ .f32)
    reducesTo_S32x4x256x256_S32x4x256_d3 h_S_)

theorem expV_apply (s : FVec Ideal S32x4x256x256 .f32) (b : Fin 32) (h : Fin 4) (r c : Fin 256) :
    expV s (ix4 b h r c) = weight (fun c => s (ix4 b h r c)) c := by
  unfold expV weight
  rw [under_apply, rowMax_apply, max_bot_top]

/-- The softmax of every row of a score array. -/
def softV (s : FVec Ideal S32x4x256x256 .f32) : FVec Ideal S32x4x256x256 .f32 :=
  Host.divf (expV s) (broadcastInDim S32x4x256x256 ![0, 1, 2, 3] bcast_S32x4x256x1_S32x4x256x256_0_1_2_3
    (broadcastInDim S32x4x256x1 ![0, 1, 2] bcast_S32x4x256_S32x4x256x1_0_1_2
      (Host.reduceAdd (expV s) (constant S_ .f32 0x00000000#32 : FVec Ideal S_ .f32) reducesTo_S32x4x256x256_S32x4x256_d3 h_S_)))

theorem softV_apply (s : FVec Ideal S32x4x256x256 .f32) (b : Fin 32) (h : Fin 4) (r c : Fin 256) :
    softV s (ix4 b h r c) = soft (fun c => s (ix4 b h r c)) c := by
  pointwise [softV, expV_apply]
  unfold soft
  with_reducible rfl

theorem v42_eq : val_main_v42 (F := Ideal) x0 = softV (val_main_v31 (F := Ideal) x0) := rfl
theorem v57_eq : val_main_v57 (F := Ideal) x0 = softV (val_main_v46 (F := Ideal) x0) := rfl

/-- The difference of the two mixtures. -/
theorem v61_at (b : Fin 32) (h : Fin 4) (r : Fin 256) (l : Fin 128) : val_main_v61 (F := Ideal) x0 x3 (ix4 b h r l)
    = mix (slabOf x0 0 (by omega) b h) (slabOf x0 512 (by omega) b h) (slabOf x0 1024 (by omega) b h) (fun a x => x3 (ix2 a x)) r l := by
  pointwise [val_main_v61, val_main_v60, val_main_v59, val_main_v58, val_main_v43, v42_eq, v57_eq, softV_apply, v31_at, v46_at, v8_at, v24_at]
  rfl

/-- One entry of the normed result, the heads still apart. -/
theorem v76_at (b : Fin 32) (h : Fin 4) (r : Fin 256) (l : Fin 128) : val_main_v76 (F := Ideal) x0 x3 x4 (ix4 b h r l)
    = head (slabOf x0 0 (by omega) b h) (slabOf x0 512 (by omega) b h) (slabOf x0 1024 (by omega) b h) (fun a x => x3 (ix2 a x))
      (fun d => x4 (ix1 d)) r l := by
  pointwise [val_main_v76, val_main_v75, val_main_v74, val_main_v73, val_main_v72, val_main_v71, val_main_v70, val_main_v69,
    val_main_v68, val_main_v67, val_main_v66, val_main_v65, val_main_v64, val_main_v63, val_main_v62, val_main_cst_10,
    val_main_cst_11, val_main_cst_12, val_main_cst_13, v61_at]
  rfl

/-- The first result. -/
theorem v78_eq_attn : val_main_v78 (F := Ideal) x0 x3 x4 = attn x0 x3 x4 := by
  funext i
  rw [val_main_v78_apply, val_main_v77_apply]
  refine Eq.trans (congrArg _ ?_) (v76_at x0 x3 x4 (i 0) (headOf (i 2)) (i 1) (laneOf (i 2)))
  blk_ext [headOf, laneOf]

/-- The stacked keys. -/
theorem v81_eq_stacked : val_main_v81 (F := Ideal) x0 x1 = stacked x1 x0 512 (by omega) := by
  funext i
  unfold val_main_v81 stacked
  concat_tiles x hx
  all_goals
    split <;> first | (exfalso; omega) | skip
  · rw [val_main_v79_apply]
    blk_ext
  · rw [val_main_v80_apply]
    refine Eq.trans (congrArg _ ?_) (v6_at x0 (i 0) (i 2) (i 3) (i 4))
    blk_ext

/-- The stacked values. -/
theorem v84_eq_stacked : val_main_v84 (F := Ideal) x0 x2 = stacked x2 x0 1024 (by omega) := by
  funext i
  unfold val_main_v84 stacked
  concat_tiles x hx
  all_goals
    split <;> first | (exfalso; omega) | skip
  · rw [val_main_v82_apply]
    blk_ext
  · rw [val_main_v83_apply]
    refine Eq.trans (congrArg _ ?_) (v8_at x0 (i 0) (i 2) (i 3) (i 4))
    blk_ext

end Cert.Diff.Ref
-- ==== Proof.Diff.Claim.lean ====
module

public import proofs.«01_k».proof.Defs
public import proofs.«01_k».proof.Proof.Common.Finite
public import proofs.«01_k».proof.Proof.Diff.Arrays
public import proofs.«01_k».proof.Proof.Diff.Reference
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_scores_finite

/-! Differential attention over the prompts: the claims about the call, from the arrays of its run and the reference's. -/

@[expose] public section

set_option maxRecDepth 16384

noncomputable section

namespace Cert.Diff

open Idealize.ShloMosaic Idealize.ShloMosaic.TcCoe Idealize.SL.Sem Cert.Common

/-- The stated precondition makes the query and key columns numbers. -/
theorem numbers_of_pre (x : FVec Ideal Cert.Pre_scores_finite.S32x256x8192 .f32) (x1 x2 x3 x4)
    (h : Cert.Pre_scores_finite.fn (F := Ideal) x x1 x2 x3 x4 = fun _ => 1#1) : Numbers x := by
  intro b r j
  have e := congrFun h (ix3 b r j)
  pointwise [Cert.Pre_scores_finite.fn] at e
  exact isNum_of_abs_lt _ e

theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem algebraic : Cert.algebraic_KernelIdeal_ReferenceIdeal_pre_scores_finite := by
  intro m ρ m' ρ' hpre hagree
  refine ⟨fun c => attn (m ((c.tc : Thread _ _).loc Cert.KernelIdeal.main_arg0)) (m ((c.tc : Thread _ _).loc Cert.KernelIdeal.main_arg3))
      (m ((c.tc : Thread _ _).loc Cert.KernelIdeal.main_arg4)),
    fun c => stacked (m ((c.tc : Thread _ _).loc Cert.KernelIdeal.main_arg1)) (m ((c.tc : Thread _ _).loc Cert.KernelIdeal.main_arg0)) 512 (by omega),
    fun c => stacked (m ((c.tc : Thread _ _).loc Cert.KernelIdeal.main_arg2)) (m ((c.tc : Thread _ _).loc Cert.KernelIdeal.main_arg0)) 1024 (by omega),
    (θ_run _ _ _).mono (fun r h c => ⟨(h c).1.trans (arr7 m c (numbers_of_pre _ _ _ _ _ (hpre c))), (h c).2.1.trans (arr8 m c),
      (h c).2.2.1.trans (arr9 m c), (h c).2.2.2⟩) (Cert.KernelIdeal.Value.run_blocks m ρ),
    (θ_run _ _ _).mono (fun r h c => ?_) (Cert.ReferenceIdeal.Value.run (F := Ideal) m' ρ')⟩
  obtain ⟨e0, e1, e2, e3, e4⟩ := hagree c
  refine ⟨(h c).1.trans ?_, (h c).2.1.trans ?_, (h c).2.2.1.trans ?_, (h c).2.2.2⟩
  · rw [Cert.ReferenceIdeal.Read.val_main_v78_eq, Ref.v78_eq_attn, e0, e3, e4]
  · rw [Cert.ReferenceIdeal.Read.val_main_v81_eq, Ref.v81_eq_stacked, e0, e1]
  · rw [Cert.ReferenceIdeal.Read.val_main_v84_eq, Ref.v84_eq_stacked, e0, e2]

end Cert.Diff
-- ==== Proof.Dense.Spec.lean ====
module

public import proofs.«01_k».proof.Proof.Diff.Spec

/-! One head of softmax attention over one prompt, entry by entry; the layout of the columns and of the stacked keys and
values is that of the differential attention. -/

@[expose] public section

set_option maxRecDepth 16384

noncomputable section

namespace Cert.Dense

open Idealize.ShloMosaic Cert.Common Cert.Diff

/-- The scaled product of query row `r` and key row `c`. -/
def score (q k : Fin 256 → Fin 128 → EReal) (r c : Fin 256) : EReal :=
  (∑ d : Fin 128, q r d * k c d) * Ideal.ofBits .f32 0x3DB504F3#32

/-- The head's result: the values mixed by the softmax of the scores. -/
def head (q k v : Fin 256 → Fin 128 → EReal) (r : Fin 256) (l : Fin 128) : EReal := ∑ c, soft (score q k r) c * v c l

theorem isNum_scale : IsNum (Ideal.ofBits .f32 0x3DB504F3#32) := by
  simp only [Ideal.ofBits, Ideal.ieee, BitVec.extractLsb'_toNat, BitVec.toNat_ofNat]
  norm_num
  exact ⟨_, rfl⟩

theorem isNum_score (q k : Fin 256 → Fin 128 → EReal) (hq : ∀ r d, IsNum (q r d)) (hk : ∀ r d, IsNum (k r d)) (r c : Fin 256) :
    IsNum (score q k r c) :=
  (IsNum.sum _ _ fun _ => (hq _ _).mul (hk _ _)).mul isNum_scale

/-- The attention's result of all prompts, the heads side by side. -/
def attn (x : Tokens) : FVec Ideal (⟨3, ![32, 256, 512]⟩ : Shape) .f32 := fun i =>
  head (slabOf x 3584 (by omega) (i 0) (headOf (i 2))) (slabOf x 4096 (by omega) (i 0) (headOf (i 2)))
    (slabOf x 4608 (by omega) (i 0) (headOf (i 2))) (i 1) (laneOf (i 2))

end Cert.Dense
-- ==== Proof.Dense.Kernel.lean ====
module

public import proofs.«01_k».proof.Proof.Gen.DenseIdeal.Value
public import proofs.«01_k».proof.Proof.Diff.Pieces
public import proofs.«01_k».proof.Proof.Dense.Spec
public import Idealize.ShloMosaic.Lib.Pipeline.ValueKit
public import Idealize.ShloMosaic.Lib.Pointwise

/-! What one run of the body leaves in the three results' blocks. -/

@[expose] public section

set_option maxRecDepth 16384

noncomputable section

namespace Cert.Dense

open Cert.DenseIdeal Cert.DenseIdeal.Gen Idealize.ShloMosaic Idealize.ShloMosaic.TcCoe Idealize.SL.Sem Cert.Common Cert.Diff

/-- The scaled products of the queries and the keys. -/
def scoresV (q k : Vec Ideal S1x256x128 .f32) : FVec Ideal S256x256 .f32 :=
  mulf (matmul dot_S256x128_S256x128_S256x256_1_1_0_0_n_n none
    (truncf .bf16 (shapeCast S256x128 q shapeCasts_S1x256x128_S256x128) bitsLt_bf16_f32 : FVec Ideal S256x128 .bf16)
    (truncf .bf16 (shapeCast S256x128 k shapeCasts_S1x256x128_S256x128) bitsLt_bf16_f32 : FVec Ideal S256x128 .bf16)
    (constant S256x256 .f32 0x00000000#32)) (broadcast S256x256 (Scalar.ofBits .f32 0x3DB504F3#32))

/-- One head, from its queries, keys and values. -/
def headV (q k v : Vec Ideal S1x256x128 .f32) : FVec Ideal S1x256x128 .f32 :=
  shapeCast S1x256x128 (matmul dot_S256x256_S256x128_S256x128_1_0_0_1_n_n none (normRows (expRows (scoresV q k)))
    (truncf .bf16 (shapeCast S256x128 v shapeCasts_S1x256x128_S256x128) bitsLt_bf16_f32 : FVec Ideal S256x128 .bf16)
    (constant S256x128 .f32 0x00000000#32)) shapeCasts_S256x128_S1x256x128

theorem scoresV_apply (q k : Vec Ideal S1x256x128 .f32) (r c : Fin 256) :
    scoresV q k (ix2 r c) = score (fun r d => q (ix3 0 r d)) (fun r d => k (ix3 0 r d)) r c := by
  pointwise [scoresV]
  rfl

/-- One head at an entry. -/
theorem headV_apply (q k v : Vec Ideal S1x256x128 .f32) (hq : ∀ r d, IsNum (q (ix3 0 r d))) (hk : ∀ r d, IsNum (k (ix3 0 r d)))
    (a : Fin 1) (r : Fin 256) (l : Fin 128) :
    headV q k v (ix3 a r l) = head (fun r d => q (ix3 0 r d)) (fun r d => k (ix3 0 r d)) (fun r d => v (ix3 0 r d)) r l := by
  have e := fun c => soft_apply _ _ (scoresV_apply q k) (isNum_score _ _ hq hk) r c
  unfold headV
  generalize normRows (expRows (scoresV q k)) = s at e ⊢
  pointwise
  exact Finset.sum_congr rfl fun c _ => congrArg (· * _) (e c)

variable (b0 b1 b2 : Vec Ideal S1x256x512 .f32) (b3 b4 : Vec Ideal S1x4x256x128 .f32)

/-- The attention's window holds the four heads' results. -/
theorem out5_heads : out0_5 b0 b1 b2 b3 b4 = View.canon
    [⟨r0_12, headV (View.ld b0 r0_12) (View.ld b1 r0_12) (View.ld b2 r0_12)⟩,
     ⟨r0_8, headV (View.ld b0 r0_8) (View.ld b1 r0_8) (View.ld b2 r0_8)⟩,
     ⟨r0_4, headV (View.ld b0 r0_4) (View.ld b1 r0_4) (View.ld b2 r0_4)⟩,
     ⟨r0_0, headV (View.ld b0 r0_0) (View.ld b1 r0_0) (View.ld b2 r0_0)⟩] := rfl

/-- One head's piece, its three slabs and its place known. -/
theorem piece_apply (h : Fin 4) (r : Fin 256) (l : Fin 128) (q k v : Vec Ideal S1x256x128 .f32) (x : S1x256x128.Idx)
    (hr : (x 1).val = r.val) (hl : (x 2).val = l.val)
    (hq : ∀ r d, q (ix3 0 r d) = b0 (ix3 0 r (lane h d))) (hk : ∀ r d, k (ix3 0 r d) = b1 (ix3 0 r (lane h d)))
    (hv : ∀ r d, v (ix3 0 r d) = b2 (ix3 0 r (lane h d)))
    (nq : ∀ r d, IsNum (b0 (ix3 0 r d))) (nk : ∀ r d, IsNum (b1 (ix3 0 r d))) :
    headV q k v x = head (fun r d => b0 (ix3 0 r (lane h d))) (fun r d => b1 (ix3 0 r (lane h d)))
      (fun r d => b2 (ix3 0 r (lane h d))) r l := by
  have e : x = ix3 (0 : Fin 1) r l := by blk_ext
  rw [e, headV_apply q k v (fun r d => (hq r d).symm ▸ nq r _) (fun r d => (hk r d).symm ▸ nk r _)]
  simp only [hq, hk, hv]

/-- The attention's window at a lane of a head. -/
theorem out5_apply (nq : ∀ r d, IsNum (b0 (ix3 0 r d))) (nk : ∀ r d, IsNum (b1 (ix3 0 r d))) (y : S1x256x512.Idx)
    (h : Fin 4) (r : Fin 256) (l : Fin 128) (hr : (y 1).val = r.val) (hl : (y 2).val = (lane h l).val) :
    out0_5 b0 b1 b2 b3 b4 y = head (fun r d => b0 (ix3 0 r (lane h d))) (fun r d => b1 (ix3 0 r (lane h d)))
      (fun r d => b2 (ix3 0 r (lane h d))) r l := by
  rw [out5_heads]
  have hl' : (y 2).val = 128 * h.val + l.val := hl
  have hh := h.isLt
  have hl2 := l.isLt
  canon_tiles x hx using cover0_5 ..
  all_goals
    refine piece_apply b0 b1 b2 h r l _ _ _ x (hx1.symm.trans hr) (by omega) ?_ ?_ ?_ nq nk
    all_goals
      intros
      pointwise
      blk_ext [lane]

/-- The keys' block is the differential attention's, both being stacked alike. -/
theorem out6_eq (z5 : Vec Ideal Cert.KernelIdeal.S4x64 .f32) (z6 : Vec Ideal Cert.KernelIdeal.S1x128 .f32) :
    out0_6 b0 b1 b2 b3 b4 = Cert.KernelIdeal.Gen.out0_8 b0 b1 b2 b3 b4 z5 z6 := rfl

/-- So is the values'. -/
theorem out7_eq (z5 : Vec Ideal Cert.KernelIdeal.S4x64 .f32) (z6 : Vec Ideal Cert.KernelIdeal.S1x128 .f32) :
    out0_7 b0 b1 b2 b3 b4 = Cert.KernelIdeal.Gen.out0_9 b0 b1 b2 b3 b4 z5 z6 := rfl

end Cert.Dense
-- ==== Proof.Dense.Arrays.lean ====
module

public import proofs.«01_k».proof.Proof.Dense.Kernel
public import proofs.«01_k».proof.Proof.Diff.Arrays

/-! The kernel's three result arrays after the run, in terms of the arrays it was given. -/

@[expose] public section

set_option maxRecDepth 16384

noncomputable section

namespace Cert.Dense

open Cert.DenseIdeal Cert.DenseIdeal.Gen Idealize.ShloMosaic Idealize.ShloMosaic.TcCoe Idealize.SL.Sem Cert.Common
open Cert.Diff (lane slab slabOf stacked headOf laneOf lane_eq Tokens)

variable (m : (ℓ : Loc nD τ sig) → Buf (Elt Ideal) ℓ) (c : Dev nD)

/-- Where each window's block lies at a grid point. -/
theorem idx0 : ∀ t : Fin cfg0.N, win0_0.index t = ![t.val, 0, 7] ∧ win0_1.index t = ![t.val, 0, 8] ∧ win0_2.index t = ![t.val, 0, 9]
    ∧ win0_3.index t = ![t.val, 0, 0, 0] ∧ win0_4.index t = ![t.val, 0, 0, 0]
    ∧ win0_5.index t = ![t.val, 0, 0] ∧ win0_6.index t = ![t.val, 0, 0, 0, 0] ∧ win0_7.index t = ![t.val, 0, 0, 0, 0] :=
  (by decide +kernel : ∀ t : Fin grid0.N, _)

theorem blk_q (t : Fin cfg0.N) (r : Fin 256) (h : Fin 4) (d : Fin 128) :
    iblk m c 0 t (ix3 0 r (lane h d)) = slabOf (m ((c : Thread nD τ).loc main_arg0)) 3584 (by omega) ⟨t.val, t.isLt⟩ h r d := by
  unfold slabOf
  blk_ext [iblk, V, idx0 t, lane, slab]

theorem blk_k (t : Fin cfg0.N) (r : Fin 256) (h : Fin 4) (d : Fin 128) :
    iblk m c 1 t (ix3 0 r (lane h d)) = slabOf (m ((c : Thread nD τ).loc main_arg0)) 4096 (by omega) ⟨t.val, t.isLt⟩ h r d := by
  unfold slabOf
  blk_ext [iblk, V, idx0 t, lane, slab]

theorem blk_v (t : Fin cfg0.N) (r : Fin 256) (h : Fin 4) (d : Fin 128) :
    iblk m c 2 t (ix3 0 r (lane h d)) = slabOf (m ((c : Thread nD τ).loc main_arg0)) 4608 (by omega) ⟨t.val, t.isLt⟩ h r d := by
  unfold slabOf
  blk_ext [iblk, V, idx0 t, lane, slab]

theorem blk_kPrev (t : Fin cfg0.N) (h : Fin 4) (r : Fin 256) (d : Fin 128) :
    iblk m c 3 t (ix4 0 h r d) = m ((c : Thread nD τ).loc main_arg1) (ix4 ⟨t.val, t.isLt⟩ h r d) := by
  blk_ext [iblk, V, idx0 t]

theorem blk_vPrev (t : Fin cfg0.N) (h : Fin 4) (r : Fin 256) (d : Fin 128) :
    iblk m c 4 t (ix4 0 h r d) = m ((c : Thread nD τ).loc main_arg2) (ix4 ⟨t.val, t.isLt⟩ h r d) := by
  blk_ext [iblk, V, idx0 t]

/-- The arrays hold numbers where the scores are formed from. -/
def Numbers (x : Tokens) : Prop := ∀ b r (j : Fin 1024), IsNum (x (ix3 b r ⟨3584 + j.val, by omega⟩))

theorem numbers_q (hx : Numbers (m ((c : Thread nD τ).loc main_arg0))) (t : Fin cfg0.N) (r : Fin 256) (j : Fin 512) :
    IsNum (iblk m c 0 t (ix3 0 r j)) := by
  rw [lane_eq j, blk_q]
  exact hx _ _ ⟨128 * (headOf j).val + (laneOf j).val, by omega⟩

theorem numbers_k (hx : Numbers (m ((c : Thread nD τ).loc main_arg0))) (t : Fin cfg0.N) (r : Fin 256) (j : Fin 512) :
    IsNum (iblk m c 1 t (ix3 0 r j)) := by
  rw [lane_eq j, blk_k]
  have e : slab 4096 (by omega) (headOf j) (laneOf j) = ⟨3584 + (512 + (128 * (headOf j).val + (laneOf j).val)), by omega⟩ :=
    Fin.ext (by show 4096 + _ = 3584 + _; omega)
  unfold slabOf
  rw [e]
  exact hx _ _ ⟨512 + (128 * (headOf j).val + (laneOf j).val), by omega⟩

/-- What one grid point leaves in the first result's block. -/
theorem block5 (hx : Numbers (m ((c : Thread nD τ).loc main_arg0))) (t : Fin cfg0.N) (y : S1x256x512.Idx) :
    out0_5 (iblk m c 0 t) (iblk m c 1 t) (iblk m c 2 t) (iblk m c 3 t) (iblk m c 4 t) y
      = attn (m ((c : Thread nD τ).loc main_arg0)) (ix3 ⟨t.val, t.isLt⟩ (y 1) (y 2)) := by
  rw [out5_apply _ _ _ _ _ (numbers_q m c hx t) (numbers_k m c hx t) y (headOf (y 2)) (y 1) (laneOf (y 2)) rfl
    (congrArg Fin.val (lane_eq (y 2)))]
  simp only [blk_q, blk_k, blk_v]
  rfl

/-- The first result array after the run. -/
theorem arr5 (hx : Numbers (m ((c : Thread nD τ).loc main_arg0))) : (dats m 0 c).arrAt 5 cfg0.N
    = attn (m ((c : Thread nD τ).loc main_arg0)) := by
  refine (dats m 0 c).arrAt_eq_of_covers 5 _ (by decide +kernel) fun t hf y => ?_
  blk_simp
  rw [after0_5]
  refine (block5 m c hx t y).trans (congrArg _ ?_)
  blk_ext [idx0 t]

/-- What one grid point leaves in the stacked keys' block. -/
theorem block6 (t : Fin cfg0.N) (y : S1x2x4x256x128.Idx) :
    out0_6 (iblk m c 0 t) (iblk m c 1 t) (iblk m c 2 t) (iblk m c 3 t) (iblk m c 4 t) y
      = stacked (m ((c : Thread nD τ).loc main_arg1)) (m ((c : Thread nD τ).loc main_arg0)) 4096 (by omega)
        (ix5 ⟨t.val, t.isLt⟩ (y 1) (y 2) (y 3) (y 4)) := by
  rw [out6_eq _ _ _ _ _ (fun _ => (0 : EReal)) (fun _ => (0 : EReal))]
  exact (Cert.Diff.out8_apply _ _ _ _ _ _ _ _ (y 1) (y 2) (y 3) (y 4) rfl rfl rfl rfl).trans
    (ite_congr rfl (fun _ => blk_kPrev m c t _ _ _) fun _ => blk_k m c t _ _ _)

/-- The stacked keys' array after the run. -/
theorem arr6 : (dats m 0 c).arrAt 6 cfg0.N
    = stacked (m ((c : Thread nD τ).loc main_arg1)) (m ((c : Thread nD τ).loc main_arg0)) 4096 (by omega) := by
  refine (dats m 0 c).arrAt_eq_of_covers 6 _ (by decide +kernel) fun t hf y => ?_
  blk_simp
  rw [after0_6]
  refine (block6 m c t y).trans (congrArg _ ?_)
  blk_ext [idx0 t]

/-- What one grid point leaves in the stacked values' block. -/
theorem block7 (t : Fin cfg0.N) (y : S1x2x4x256x128.Idx) :
    out0_7 (iblk m c 0 t) (iblk m c 1 t) (iblk m c 2 t) (iblk m c 3 t) (iblk m c 4 t) y
      = stacked (m ((c : Thread nD τ).loc main_arg2)) (m ((c : Thread nD τ).loc main_arg0)) 4608 (by omega)
        (ix5 ⟨t.val, t.isLt⟩ (y 1) (y 2) (y 3) (y 4)) := by
  rw [out7_eq _ _ _ _ _ (fun _ => (0 : EReal)) (fun _ => (0 : EReal))]
  exact (Cert.Diff.out9_apply _ _ _ _ _ _ _ _ (y 1) (y 2) (y 3) (y 4) rfl rfl rfl rfl).trans
    (ite_congr rfl (fun _ => blk_vPrev m c t _ _ _) fun _ => blk_v m c t _ _ _)

/-- The stacked values' array after the run. -/
theorem arr7 : (dats m 0 c).arrAt 7 cfg0.N
    = stacked (m ((c : Thread nD τ).loc main_arg2)) (m ((c : Thread nD τ).loc main_arg0)) 4608 (by omega) := by
  refine (dats m 0 c).arrAt_eq_of_covers 7 _ (by decide +kernel) fun t hf y => ?_
  blk_simp
  rw [after0_7]
  refine (block7 m c t y).trans (congrArg _ ?_)
  blk_ext [idx0 t]

end Cert.Dense
-- ==== Proof.Dense.Reference.lean ====
module

public import proofs.«01_k».proof.Proof.Gen.DenseRefIdeal.Read
public import proofs.«01_k».proof.Proof.Diff.Reference
public import proofs.«01_k».proof.Proof.Dense.Spec
public import Idealize.ShloMosaic.Lib.Pipeline.ValueKit

/-! The reference's arrays entry by entry: its first result is `head` of the prompt's three slabs, its other two are the
earlier layer's keys and values stacked under this layer's. -/

@[expose] public section

set_option maxRecDepth 16384

noncomputable section

namespace Cert.Dense.Ref

open Cert.DenseRefIdeal Cert.DenseRefIdeal.Gen Cert.DenseRefIdeal.Value Cert.DenseRefIdeal.Read Idealize.ShloMosaic Idealize.ShloMosaic.TcCoe
open Cert.Common Cert.Diff

variable (x0 : FVec Ideal S32x256x8192 .f32) (x1 x2 : FVec Ideal S32x4x256x128 .f32)

theorem v4_at (b : Fin 32) (h : Fin 4) (r : Fin 256) (d : Fin 128) :
    val_main_v4 (F := Ideal) x0 (ix4 b h r d) = slabOf x0 3584 (by omega) b h r d := by
  rw [val_main_v4_apply, val_main_v3_apply, val_main_v0_apply]
  unfold slabOf
  blk_ext [slab]

theorem v6_at (b : Fin 32) (h : Fin 4) (r : Fin 256) (d : Fin 128) :
    val_main_v6 (F := Ideal) x0 (ix4 b h r d) = slabOf x0 4096 (by omega) b h r d := by
  rw [val_main_v6_apply, val_main_v5_apply, val_main_v1_apply]
  unfold slabOf
  blk_ext [slab]

theorem v8_at (b : Fin 32) (h : Fin 4) (r : Fin 256) (d : Fin 128) :
    val_main_v8 (F := Ideal) x0 (ix4 b h r d) = slabOf x0 4608 (by omega) b h r d := by
  rw [val_main_v8_apply, val_main_v7_apply, val_main_v2_apply]
  unfold slabOf
  blk_ext [slab]

theorem v11_at (b : Fin 32) (h : Fin 4) (r c : Fin 256) : val_main_v11 (F := Ideal) x0 (ix4 b h r c)
    = Dense.score (slabOf x0 3584 (by omega) b h) (slabOf x0 4096 (by omega) b h) r c := by
  pointwise [val_main_v11, val_main_v10, val_main_v9, val_main_cst, v4_at, v6_at]
  rfl

theorem v22_eq : val_main_v22 (F := Ideal) x0 = Diff.Ref.softV (val_main_v11 (F := Ideal) x0) := rfl

theorem v22_at (b : Fin 32) (h : Fin 4) (r c : Fin 256) : val_main_v22 (F := Ideal) x0 (ix4 b h r c)
    = soft (Dense.score (slabOf x0 3584 (by omega) b h) (slabOf x0 4096 (by omega) b h) r) c := by
  rw [v22_eq]
  refine (Diff.Ref.softV_apply _ b h r c).trans ?_
  simp only [v11_at]

/-- One entry of the mixture, the heads still apart. -/
theorem v23_at (b : Fin 32) (h : Fin 4) (r : Fin 256) (l : Fin 128) : val_main_v23 (F := Ideal) x0 (ix4 b h r l)
    = Dense.head (slabOf x0 3584 (by omega) b h) (slabOf x0 4096 (by omega) b h) (slabOf x0 4608 (by omega) b h) r l := by
  pointwise [val_main_v23, v22_at, v8_at]
  rfl

/-- The first result. -/
theorem v25_eq_attn : val_main_v25 (F := Ideal) x0 = Dense.attn x0 := by
  funext i
  rw [val_main_v25_apply, val_main_v24_apply]
  refine Eq.trans (congrArg _ ?_) (v23_at x0 (i 0) (headOf (i 2)) (i 1) (laneOf (i 2)))
  blk_ext [headOf, laneOf]

/-- The stacked keys. -/
theorem v28_eq_stacked : val_main_v28 (F := Ideal) x0 x1 = stacked x1 x0 4096 (by omega) := by
  funext i
  unfold val_main_v28 stacked
  concat_tiles x hx
  all_goals
    split <;> first | (exfalso; omega) | skip
  · rw [val_main_v26_apply]
    blk_ext
  · rw [val_main_v27_apply]
    refine Eq.trans (congrArg _ ?_) (v6_at x0 (i 0) (i 2) (i 3) (i 4))
    blk_ext

/-- The stacked values. -/
theorem v31_eq_stacked : val_main_v31 (F := Ideal) x0 x2 = stacked x2 x0 4608 (by omega) := by
  funext i
  unfold val_main_v31 stacked
  concat_tiles x hx
  all_goals
    split <;> first | (exfalso; omega) | skip
  · rw [val_main_v29_apply]
    blk_ext
  · rw [val_main_v30_apply]
    refine Eq.trans (congrArg _ ?_) (v8_at x0 (i 0) (i 2) (i 3) (i 4))
    blk_ext

end Cert.Dense.Ref
-- ==== Proof.Dense.Claim.lean ====
module

public import proofs.«01_k».proof.Defs
public import proofs.«01_k».proof.Proof.Common.Finite
public import proofs.«01_k».proof.Proof.Dense.Arrays
public import proofs.«01_k».proof.Proof.Dense.Reference
public import proofs.«01_k».proof.Proof.Gen.DenseIdeal.Frame
public import proofs.«01_k».proof.Proof.Gen.DenseRefIdeal.Run
public import proofs.«01_k».proof.Proof.Gen.Pre_dense_scores_finite

/-! Softmax attention over the prompts: the claims about the call, from the arrays of its run and the reference's. -/

@[expose] public section

set_option maxRecDepth 16384

noncomputable section

namespace Cert.Dense

open Idealize.ShloMosaic Idealize.ShloMosaic.TcCoe Idealize.SL.Sem Cert.Common
open Cert.Diff (stacked)

/-- The stated precondition makes the query and key columns numbers. -/
theorem numbers_of_pre (x : FVec Ideal Cert.Pre_dense_scores_finite.S32x256x8192 .f32) (x1 x2)
    (h : Cert.Pre_dense_scores_finite.fn (F := Ideal) x x1 x2 = fun _ => 1#1) : Numbers x := by
  intro b r j
  have e := congrFun h (ix3 b r j)
  pointwise [Cert.Pre_dense_scores_finite.fn] at e
  exact isNum_of_abs_lt _ e

theorem frame_ri : Cert.quiescent_DenseRefIdeal := fun m ρ _ =>
  (θ_run Cert.DenseRefIdeal.defs _ _).mono (fun r h => ⟨fun c => (h c).2.2.2, sem_eq_zero_of_no_sems (by decide) r.2⟩)
    (Cert.DenseRefIdeal.Value.run (F := Ideal) m ρ)

theorem algebraic : Cert.algebraic_DenseIdeal_DenseRefIdeal_pre_dense_scores_finite := by
  intro m ρ m' ρ' hpre hagree
  refine ⟨fun c => attn (m ((c.tc : Thread _ _).loc Cert.DenseIdeal.main_arg0)),
    fun c => stacked (m ((c.tc : Thread _ _).loc Cert.DenseIdeal.main_arg1)) (m ((c.tc : Thread _ _).loc Cert.DenseIdeal.main_arg0)) 4096 (by omega),
    fun c => stacked (m ((c.tc : Thread _ _).loc Cert.DenseIdeal.main_arg2)) (m ((c.tc : Thread _ _).loc Cert.DenseIdeal.main_arg0)) 4608 (by omega),
    (θ_run _ _ _).mono (fun r h c => ⟨(h c).1.trans (arr5 m c (numbers_of_pre _ _ _ (hpre c))), (h c).2.1.trans (arr6 m c),
      (h c).2.2.1.trans (arr7 m c), (h c).2.2.2⟩) (Cert.DenseIdeal.Value.run_blocks m ρ),
    (θ_run _ _ _).mono (fun r h c => ?_) (Cert.DenseRefIdeal.Value.run (F := Ideal) m' ρ')⟩
  obtain ⟨e0, e1, e2⟩ := hagree c
  refine ⟨(h c).1.trans ?_, (h c).2.1.trans ?_, (h c).2.2.1.trans ?_, (h c).2.2.2⟩
  · rw [Cert.DenseRefIdeal.Read.val_main_v25_eq, Ref.v25_eq_attn, e0]
  · rw [Cert.DenseRefIdeal.Read.val_main_v28_eq, Ref.v28_eq_stacked, e0, e1]
  · rw [Cert.DenseRefIdeal.Read.val_main_v31_eq, Ref.v31_eq_stacked, e0, e2]

end Cert.Dense
-- ==== Proof.Common.Rows.lean ====
module

public import Idealize.ShloMosaic.PureOps
public import Idealize.ShloMosaic.Lib.Pipeline.ValueKit

/-! The rows of a batch of sequences, flattened into one list of tokens, and the root-mean-square norm of such a row. -/

@[expose] public section

set_option maxRecDepth 16384

noncomputable section

namespace Cert.Common

open Idealize.ShloMosaic

/-- The prompt that token `t` of the flattened list belongs to. -/
def seqOf (t : Fin 8192) : Fin 32 := ⟨t.val / 256, by omega⟩
/-- The token's place in its prompt. -/
def posOf (t : Fin 8192) : Fin 256 := ⟨t.val % 256, by omega⟩

/-- A row of 1024 entries over its root mean square, times a gain. -/
def rmsRow (o g : Fin 1024 → EReal) (k : Fin 1024) : EReal :=
  o k * Ideal.rsqrt (Ideal.div (∑ x, o x * o x) (Ideal.ofBits .f32 0x44800000#32) + Ideal.ofBits .f32 0x358637BD#32) * g k

end Cert.Common
-- ==== Proof.Proj.Spec.lean ====
module

public import proofs.«01_k».proof.Proof.Common.Rows

/-! The projection into the layer, token by token: the row over its root mean square, scaled and shifted, through the
weights. -/

@[expose] public section

set_option maxRecDepth 16384

noncomputable section

namespace Cert.Proj

open Idealize.ShloMosaic Cert.Common

/-- One token's row over its root mean square, scaled and shifted. -/
def modulated (x g sc sh : Fin 1024 → EReal) (k : Fin 1024) : EReal :=
  rmsRow x g k * (1 + sc k) + sh k

/-- The stream, its gain, its scale and its shift, and the weights. -/
abbrev Stream := FVec Ideal (⟨3, ![32, 256, 1024]⟩ : Shape) .f32
abbrev Gain := FVec Ideal (⟨1, ![1024]⟩ : Shape) .f32
abbrev Scale := FVec Ideal (⟨3, ![1, 1, 1024]⟩ : Shape) .f32
abbrev Weights := FVec Ideal (⟨2, ![1024, 8192]⟩ : Shape) .f32

/-- The token at place `r` of prompt `b`, scaled and shifted. -/
def modAt (x : Stream) (g : Gain) (sc sh : Scale) (b : Fin 32) (r : Fin 256) : Fin 1024 → EReal :=
  modulated (fun k => x (ix3 b r k)) (fun k => g (ix1 k)) (fun k => sc (ix3 0 0 k)) (fun k => sh (ix3 0 0 k))

/-- Column `n` of that token through the weights. -/
def projAt (x : Stream) (g : Gain) (sc sh : Scale) (w : Weights) (b : Fin 32) (r : Fin 256) (n : Fin 8192) : EReal :=
  ∑ k, modAt x g sc sh b r k * w (ix2 k n)

/-- Every token projected, the prompts' tokens in one list. -/
def projected (x : Stream) (g : Gain) (sc sh : Scale) (w : Weights) : FVec Ideal (⟨2, ![8192, 8192]⟩ : Shape) .f32 :=
  fun i => projAt x g sc sh w (seqOf (i 0)) (posOf (i 0)) (i 1)

end Cert.Proj
-- ==== Proof.Proj.Kernel.lean ====
module

public import proofs.«01_k».proof.Proof.Proj.Spec
public import proofs.«01_k».proof.Proof.Gen.ProjIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

/-! The array the projection call leaves. -/

@[expose] public section

set_option maxRecDepth 16384

noncomputable section

namespace Cert.Proj

open Cert.ProjIdeal Cert.ProjIdeal.Gen Idealize.ShloMosaic Idealize.ShloMosaic.TcCoe Idealize.SL.Sem Cert.Common

section Body

variable (x : Vec Ideal S512x1024 .f32) (g : Vec Ideal S1x1024 .f32) (sc sh : Vec Ideal S1x1x1024 .f32)

/-- The normalised rows of a block, which the first point of a run of eight stores. -/
theorem pay1_apply (y : S512x1024.Idx) (r : Fin 512) (l : Fin 1024) (hr : (y 0).val = r.val) (hl : (y 1).val = l.val) :
    k0_pay1 x g sc sh y
      = modulated (fun k => x (ix2 r k)) (fun k => g (ix2 0 k)) (fun k => sc (ix3 0 0 k)) (fun k => sh (ix3 0 0 k)) l := by
  unfold k0_pay1
  idx_vars y
  obtain rfl : y0 = r := Fin.ext (by omega)
  obtain rfl : y1 = l := Fin.ext (by omega)
  pointwise
  unfold modulated rmsRow
  rfl

/-- A block of rows through one slab of the weights. -/
theorem pay2_apply (h : Vec Ideal S512x1024 .bf16) (w : Vec Ideal S1x1024x1024 .bf16) (y : S512x1024.Idx) (r : Fin 512) (l : Fin 1024)
    (hr : (y 0).val = r.val) (hl : (y 1).val = l.val) :
    k0_pay2 h w y = ∑ k : Fin 1024, h (ix2 r k) * w (ix3 0 k l) := by
  unfold k0_pay2
  idx_vars y
  obtain rfl : y0 = r := Fin.ext (by omega)
  obtain rfl : y1 = l := Fin.ext (by omega)
  pointwise

end Body

variable (m : (ℓ : Loc nD τ sig) → Buf (Elt Ideal) ℓ) (c : Dev nD)

theorem idx0 : ∀ t : Fin cfg0.N, win0_0.index t = ![t.val / 8, 0] ∧ win0_1.index t = ![0, 0] ∧ win0_2.index t = ![0, 0, 0]
    ∧ win0_3.index t = ![0, 0, 0] ∧ win0_4.index t = ![0, 0, 0] ∧ win0_5.index t = ![t.val / 8, t.val % 8] :=
  (by decide +kernel : ∀ t : Fin grid0.N, _)

/-- Token `r` of block `t` in the list of all tokens. -/
def token (t : Fin cfg0.N) (r : Fin 512) : Fin 8192 := ⟨512 * (t.val / 8) + r.val, by
  have h : t.val < 128 := t.isLt
  omega⟩

/-- Column `j` of slab `n` of the weights. -/
def slabCol (n : Fin 8) (j : Fin 1024) : Fin 8192 := ⟨1024 * n.val + j.val, by omega⟩

theorem blk_x (t : Fin cfg0.N) (r : Fin 512) (k : Fin 1024) : iblk m c 0 t (ix2 r k)
    = m ((c : Thread nD τ).loc main_arg0) (ix3 (seqOf (token t r)) (posOf (token t r)) k) := by
  blk_ext! [iblk, V, idx0 t, token, seqOf, posOf]

theorem blk_g (t : Fin cfg0.N) (k : Fin 1024) : iblk m c 1 t (ix2 0 k) = m ((c : Thread nD τ).loc main_arg1) (ix1 k) := by
  blk_ext! [iblk, V, idx0 t]

theorem blk_sc (t : Fin cfg0.N) (k : Fin 1024) : iblk m c 2 t (ix3 0 0 k) = m ((c : Thread nD τ).loc main_arg2) (ix3 0 0 k) := by
  blk_ext! [iblk, V, idx0 t]

theorem blk_sh (t : Fin cfg0.N) (k : Fin 1024) : iblk m c 3 t (ix3 0 0 k) = m ((c : Thread nD τ).loc main_arg3) (ix3 0 0 k) := by
  blk_ext! [iblk, V, idx0 t]

theorem blk_w (t : Fin cfg0.N) (n : Fin 8) (k j : Fin 1024) : iblk m c 4 t (ix3 n k j)
    = m ((c : Thread nD τ).loc main_arg4) (ix2 k (slabCol n j)) := by
  blk_ext! [iblk, V, idx0 t, slabCol]

/-- What the first point of a run stores for the others. -/
def rows (t : Fin cfg0.N) : Vec Ideal S512x1024 .bf16 := fun y =>
  modAt (m ((c : Thread nD τ).loc main_arg0)) (m ((c : Thread nD τ).loc main_arg1)) (m ((c : Thread nD τ).loc main_arg2))
    (m ((c : Thread nD τ).loc main_arg3)) (seqOf (token t (y 0))) (posOf (token t (y 0))) (y 1)

theorem row_eq (t : Fin cfg0.N) (r : Fin 512) (l : Fin 1024) :
    modulated (fun k => iblk m c 0 t (ix2 r k)) (fun k => iblk m c 1 t (ix2 0 k)) (fun k => iblk m c 2 t (ix3 0 0 k))
      (fun k => iblk m c 3 t (ix3 0 0 k)) l
    = modAt (m ((c : Thread nD τ).loc main_arg0)) (m ((c : Thread nD τ).loc main_arg1)) (m ((c : Thread nD τ).loc main_arg2))
      (m ((c : Thread nD τ).loc main_arg3)) (seqOf (token t r)) (posOf (token t r)) l := by
  simp only [blk_x, blk_g, blk_sc, blk_sh]
  rfl

theorem pay1_eq (t : Fin cfg0.N) : k0_pay1 (iblk m c 0 t) (iblk m c 1 t) (iblk m c 2 t) (iblk m c 3 t) = rows m c t := by
  funext y
  exact (pay1_apply _ _ _ _ y (y 0) (y 1) rfl rfl).trans (row_eq m c t (y 0) (y 1))

/-- The first point of a run stores the rows. -/
theorem held_A (t : Fin cfg0.N) (h : t.val % 8 = 0) : (outsAt0 m c t.val t.isLt).2 = rows m c t := by
  rw [outsAt0_A m c t h]
  frame_out
  exact pay1_eq m c t

/-- At every point the scratch has the rows of the point's block. -/
theorem held (t : Fin cfg0.N) : (outsAt0 m c t.val t.isLt).2 = rows m c t := by
  rw [Pipeline.eq_of_write_hold (fun n h => (outsAt0 m c n h).2) 8 (rows m c) (held_A m c)
    (fun t h => by rw [outsAt0_B m c t h]; rfl) t]
  unfold rows token
  funext y
  have e : 8 * (t.val / 8) / 8 = t.val / 8 := by omega
  simp only [e]

/-- Where the point's slab of the weights starts. -/
theorem slab_off : ∀ t : Fin cfg0.N, k0_off1 (grid0.coords t) = ![t.val % 8, 0, 0] :=
  (by decide +kernel : ∀ t : Fin grid0.N, _)

/-- The slab a point reads. -/
def slab (t : Fin cfg0.N) : Fin 8 := ⟨t.val % 8, by omega⟩

theorem ld_apply (w : Vec Ideal S8x1024x1024 .bf16) (n : Fin 8) (off : Fin 3 → ℕ) (ho : off = ![n.val, 0, 0])
    (hb : ∀ a, off a + (![1, 1024, 1024] : Fin 3 → ℕ) a ≤ S8x1024x1024.size a) (k l : Fin 1024) :
    View.ld w (Rect.unit off ![1, 1024, 1024] hb) (ix3 0 k l) = w (ix3 n k l) := by
  subst ho
  pointwise
  blk_ext

theorem ld_slab (t : Fin cfg0.N) (w : Vec Ideal S8x1024x1024 .bf16) (k l : Fin 1024) :
    View.ld w (Rect.unit (k0_off1 (grid0.coords t)) ![1, 1024, 1024] (k0_off1_inb (grid0.coords t))) (ix3 0 k l)
      = w (ix3 (slab t) k l) := ld_apply w (slab t) _ (slab_off t) _ k l

/-- The rows of a block through the point's slab. -/
theorem slab_eq (t : Fin cfg0.N) (r : Fin 512) (l : Fin 1024) :
    (∑ k : Fin 1024, rows m c t (ix2 r k)
      * View.ld (iblk m c 4 t) (Rect.unit (k0_off1 (grid0.coords t)) ![1, 1024, 1024] (k0_off1_inb (grid0.coords t))) (ix3 0 k l))
    = projAt (m ((c : Thread nD τ).loc main_arg0)) (m ((c : Thread nD τ).loc main_arg1)) (m ((c : Thread nD τ).loc main_arg2))
      (m ((c : Thread nD τ).loc main_arg3)) (m ((c : Thread nD τ).loc main_arg4)) (seqOf (token t r)) (posOf (token t r))
      (slabCol (slab t) l) := by
  refine Finset.sum_congr rfl fun k _ => ?_
  rw [ld_slab, blk_w]
  rfl

/-- What a point stores. -/
theorem point_eq (t : Fin cfg0.N) : (outsAt0 m c t.val t.isLt).1
    = k0_pay2 (F := Ideal) (rows m c t)
      (View.ld (iblk m c 4 t) (Rect.unit (k0_off1 (grid0.coords t)) ![1, 1024, 1024] (k0_off1_inb (grid0.coords t)))) := by
  by_cases h : t.val % 8 = 0
  · rw [outsAt0_A m c t h]
    frame_out
    rw [pay1_eq]
    rfl
  · have e := held m c t
    rw [outsAt0_B m c t h] at e ⊢
    frame_out
    simp only [read_unread_whole]
    exact congrArg (fun z => k0_pay2 z _) e

theorem block5 (t : Fin cfg0.N) (y : S512x1024.Idx) : (outsAt0 m c t.val t.isLt).1 y
    = projected (m ((c : Thread nD τ).loc main_arg0)) (m ((c : Thread nD τ).loc main_arg1)) (m ((c : Thread nD τ).loc main_arg2))
      (m ((c : Thread nD τ).loc main_arg3)) (m ((c : Thread nD τ).loc main_arg4)) (ix2 (token t (y 0)) (slabCol (slab t) (y 1))) := by
  rw [point_eq]
  exact (pay2_apply _ _ y (y 0) (y 1) rfl rfl).trans (slab_eq m c t (y 0) (y 1))

/-- The array after the run. -/
theorem arr5 : (dats m 0 c).arrAt 5 cfg0.N
    = projected (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  refine (block5 m c t y).trans (congrArg _ ?_)
  blk_ext [idx0 t, token, slab, slabCol]

end Cert.Proj
-- ==== Proof.Proj.Reference.lean ====
module

public import proofs.«01_k».proof.Proof.Proj.Spec
public import proofs.«01_k».proof.Proof.Gen.ProjRefIdeal.Read
public import Idealize.ShloMosaic.Lib.Pipeline.ValueKit
public import Idealize.ShloMosaic.Lib.Pointwise

/-! The reference of the projection, entry by entry. -/

@[expose] public section

set_option maxRecDepth 16384

noncomputable section

namespace Cert.Proj.Ref

open Cert.ProjRefIdeal Cert.ProjRefIdeal.Gen Cert.ProjRefIdeal.Value Cert.ProjRefIdeal.Read Idealize.ShloMosaic Idealize.ShloMosaic.TcCoe
open Cert.Common

variable (x0 : Stream) (x1 : Gain) (x2 x3 : Scale) (x4 : Weights)

/-- A token's row, scaled and shifted. -/
theorem v18_at (b : Fin 32) (r : Fin 256) (k : Fin 1024) : val_main_v18 (F := Ideal) x0 x1 x2 x3 (ix3 b r k)
    = modAt x0 x1 x2 x3 b r k := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]
  rfl

theorem v19_at (b : Fin 32) (r : Fin 256) (n : Fin 8192) : val_main_v19 (F := Ideal) x0 x1 x2 x3 x4 (ix3 b r n)
    = projAt x0 x1 x2 x3 x4 b r n := by
  pointwise [val_main_v19, v18_at]
  rfl

theorem v20_eq : val_main_v20 (F := Ideal) x0 x1 x2 x3 x4 = projected x0 x1 x2 x3 x4 := by
  funext i
  rw [val_main_v20_apply]
  refine Eq.trans (congrArg _ ?_) (v19_at x0 x1 x2 x3 x4 (seqOf (i 0)) (posOf (i 0)) (i 1))
  blk_ext [seqOf, posOf]

end Cert.Proj.Ref
-- ==== Proof.Proj.Claim.lean ====
module

public import proofs.«01_k».proof.Defs
public import proofs.«01_k».proof.Proof.Proj.Kernel
public import proofs.«01_k».proof.Proof.Proj.Reference
public import proofs.«01_k».proof.Proof.Gen.ProjIdeal.Frame
public import proofs.«01_k».proof.Proof.Gen.ProjRefIdeal.Run

/-! The projection into the layer: the claims about the call, from the arrays of its run and the reference's. -/

@[expose] public section

set_option maxRecDepth 16384

noncomputable section

namespace Cert.Proj

open Idealize.ShloMosaic Idealize.ShloMosaic.TcCoe Idealize.SL.Sem Cert.Common

theorem frame_ri : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem algebraic : Cert.algebraic_ProjIdeal_ProjRefIdeal := by
  intro m ρ m' ρ' _ hagree
  refine ⟨fun c => projected (m ((c.tc : Thread _ _).loc Cert.ProjIdeal.main_arg0)) (m ((c.tc : Thread _ _).loc Cert.ProjIdeal.main_arg1))
      (m ((c.tc : Thread _ _).loc Cert.ProjIdeal.main_arg2)) (m ((c.tc : Thread _ _).loc Cert.ProjIdeal.main_arg3))
      (m ((c.tc : Thread _ _).loc Cert.ProjIdeal.main_arg4)),
    (θ_run _ _ _).mono (fun r h c => ⟨(h c).1.trans (arr5 m c), (h c).2⟩) (Cert.ProjIdeal.Value.run_blocks m ρ),
    (θ_run _ _ _).mono (fun r h c => ?_) (Cert.ProjRefIdeal.Value.run (F := Ideal) m' ρ')⟩
  obtain ⟨e0, e1, e2, e3, e4⟩ := hagree c
  refine ⟨(h c).1.trans ?_, (h c).2⟩
  rw [Cert.ProjRefIdeal.Read.val_main_v20_eq, Ref.v20_eq, e0, e1, e2, e3, e4]

end Cert.Proj
-- ==== Proof.Ret.Chunks.lean ====
module

public import Idealize.ShloMosaic.PureOps
public import Idealize.ShloMosaic.Lib.Pointwise

/-! A decayed sum over 256 places, taken in four chunks of 64: over the reals, the state carried from chunk to chunk
gives the sum over the places before the chunk. -/

@[expose] public section

set_option maxRecDepth 16384

noncomputable section

namespace Cert.Ret

open Finset

/-- The state before chunk `c`: each chunk decays it by 64 places and adds its own places. -/
def stR (g : ℝ) (k v : ℕ → ℝ) : ℕ → ℝ
  | 0 => 0
  | c + 1 => stR g k v c * Real.exp (g * 64)
      + ∑ j ∈ range 64, k (64 * c + j) * Real.exp (g * (63 - j)) * v (64 * c + j)

/-- The state before chunk `c` is the sum over the places before it. -/
theorem stR_eq (g : ℝ) (k v : ℕ → ℝ) (c : ℕ) :
    stR g k v c = ∑ s ∈ range (64 * c), k s * Real.exp (g * (64 * c - 1 - s)) * v s := by
  induction c with
  | zero => simp [stR]
  | succ c ih =>
    rw [stR, ih, show 64 * (c + 1) = 64 * c + 64 by ring, sum_range_add, sum_mul]
    refine congrArg₂ (· + ·) (sum_congr rfl fun s _ => ?_) (sum_congr rfl fun j _ => ?_)
    · rw [show g * (64 * ((c + 1 : ℕ) : ℝ) - 1 - s) = g * (64 * c - 1 - s) + g * 64 by push_cast; ring, Real.exp_add]
      ring
    · rw [show g * (64 * ((c + 1 : ℕ) : ℝ) - 1 - ((64 * c + j : ℕ) : ℝ)) = g * (63 - j) by push_cast; ring]

/-- The weight of place `s` at place `t`. -/
def wR (g : ℝ) (t s : ℕ) : ℝ := if s ≤ t then Real.exp (g * ((t : ℝ) - s)) else 0

/-- Chunk by chunk or at once, a place has the same decayed sum. -/
theorem outR_eq {n : ℕ} (g : ℝ) (q : Fin n → ℝ) (k : ℕ → Fin n → ℝ) (v : ℕ → ℝ) (c i : ℕ) (hc : c < 4) (hi : i < 64) :
    (∑ j ∈ range 64, (∑ d, q d * k (64 * c + j) d) * wR g i j * v (64 * c + j))
      + (∑ d, q d * Real.exp (g * (i + 1)) * stR g (fun s => k s d) v c)
    = ∑ s ∈ range 256, (∑ d, q d * k s d) * wR g (64 * c + i) s * v s := by
  rw [show 256 = 64 * c + (64 + (192 - 64 * c)) by omega, sum_range_add, sum_range_add, add_comm (∑ j ∈ range 64, _)]
  have tail : ∑ x ∈ range (192 - 64 * c), (∑ d, q d * k (64 * c + (64 + x)) d) * wR g (64 * c + i) (64 * c + (64 + x))
      * v (64 * c + (64 + x)) = 0 := sum_eq_zero fun x _ => by
    rw [wR, if_neg (by omega), mul_zero, zero_mul]
  rw [tail, add_zero]
  refine congrArg₂ (· + ·) ?_ (sum_congr rfl fun j _ => ?_)
  · simp only [stR_eq, mul_sum]
    rw [sum_comm]
    refine sum_congr rfl fun s hs => ?_
    have hs' : s < 64 * c := mem_range.mp hs
    rw [wR, if_pos (by omega), show g * (((64 * c + i : ℕ) : ℝ) - s) = g * (i + 1) + g * (64 * c - 1 - s) by push_cast; ring,
      Real.exp_add, sum_mul, sum_mul]
    exact sum_congr rfl fun d _ => by ring
  · have e : wR g (64 * c + i) (64 * c + j) = wR g i j := by
      unfold wR
      simp only [Nat.add_le_add_iff_left]
      rw [show g * (((64 * c + i : ℕ) : ℝ) - ((64 * c + j : ℕ) : ℝ)) = g * ((i : ℝ) - j) by push_cast; ring]
    rw [e]

end Cert.Ret
-- ==== Proof.Ret.Spec.lean ====
module

public import proofs.«01_k».proof.Proof.Ret.Chunks
public import proofs.«01_k».proof.Proof.Diff.Spec
public import Idealize.ShloMosaic.Lib.Pipeline.ValueKit

/-! The retention of one head in extended reals: the decayed sum over all places at once, and chunk by chunk as a
scan takes it. On numbers the two agree. -/

@[expose] public section

set_option maxRecDepth 16384

noncomputable section

namespace Cert.Ret

open Idealize.ShloMosaic Cert.Common
open Cert.Diff (slabOf headOf laneOf Tokens)

/-- The weight of place `s` at place `t`, under the decay `g` per place. -/
def w (g : EReal) (t s : ℕ) : EReal := if s ≤ t then Ideal.exp (g * (((t : ℝ) - (s : ℝ) : ℝ) : EReal)) else 0

/-- The decayed sum at a place: products of the query with the keys, weighted, over the values. -/
def mix (u : Fin 256 → Fin 256 → EReal) (q k : Fin 256 → Fin 64 → EReal) (v : Fin 256 → Fin 128 → EReal) (t : Fin 256)
    (e : Fin 128) : EReal := ∑ s : Fin 256, ((∑ d : Fin 64, q t d * k s d) * u t s) * v s e

/-- The state after all places. -/
def state (u : Fin 256 → EReal) (k : Fin 256 → Fin 64 → EReal) (v : Fin 256 → Fin 128 → EReal) (d : Fin 64) (e : Fin 128) : EReal :=
  ∑ s : Fin 256, (k s d * u s) * v s e

/-- The last place's weights. -/
def lastW (g : EReal) (s : Fin 256) : EReal := Ideal.exp (g * ((255 - (s.val : ℝ) : ℝ) : EReal))

/-- Place `j` of chunk `c`. -/
def at' (c : Fin 4) (j : Fin 64) : Fin 256 := ⟨64 * c.val + j.val, by omega⟩

variable (g : EReal) (q k : Fin 256 → Fin 64 → EReal) (v : Fin 256 → Fin 128 → EReal)

/-- One step of the scan's state. -/
def next (S : Fin 64 → Fin 128 → EReal) (c : Fin 4) (d : Fin 64) (e : Fin 128) : EReal :=
  S d e * Ideal.exp (g * ((64 : ℝ) : EReal))
    + ∑ j : Fin 64, (k (at' c j) d * Ideal.exp (g * ((63 - (j.val : ℝ) : ℝ) : EReal))) * v (at' c j) e

/-- The state before chunk `c`. -/
def st : ℕ → Fin 64 → Fin 128 → EReal
  | 0 => fun _ _ => 0
  | n + 1 => if h : n < 4 then next g k v (st n) ⟨n, h⟩ else fun _ _ => 0

/-- One step of the scan's result. -/
def out (S : Fin 64 → Fin 128 → EReal) (c : Fin 4) (i : Fin 64) (e : Fin 128) : EReal :=
  (∑ j : Fin 64, ((∑ d : Fin 64, q (at' c i) d * k (at' c j) d) * w g i.val j.val) * v (at' c j) e)
    + ∑ d : Fin 64, (q (at' c i) d * Ideal.exp (g * ((i.val + 1 : ℝ) : EReal))) * S d e

theorem coe_sum {n : ℕ} (f : Fin n → ℝ) : ((∑ i, f i : ℝ) : EReal) = ∑ i, (f i : EReal) := by
  induction n with
  | zero => simp
  | succ n ih => rw [Fin.sum_univ_castSucc, Fin.sum_univ_castSucc, EReal.coe_add, ih]

theorem w_coe (g : ℝ) (t s : ℕ) : w (g : EReal) t s = (wR g t s : EReal) := by
  unfold w wR
  split
  · rw [← EReal.coe_mul, Ideal.exp_coe]
  · exact EReal.coe_zero.symm

/-- A function on the first `n` numbers, continued by zero. -/
def ext {n : ℕ} (f : Fin n → ℝ) (s : ℕ) : ℝ := if h : s < n then f ⟨s, h⟩ else 0

theorem ext_val {n : ℕ} (f : Fin n → ℝ) (s : ℕ) (h : s < n) : ext f s = f ⟨s, h⟩ := dif_pos h

section Real

variable (g : ℝ) (q k : Fin 256 → Fin 64 → ℝ) (v : Fin 256 → Fin 128 → ℝ)

theorem st_coe (n : ℕ) (hn : n ≤ 4) (d : Fin 64) (e : Fin 128) :
    st (g : EReal) (fun s d => (k s d : EReal)) (fun s e => (v s e : EReal)) n d e
      = (stR g (ext fun s => k s d) (ext fun s => v s e) n : EReal) := by
  induction n with
  | zero => exact EReal.coe_zero.symm
  | succ n ih =>
    rw [st, dif_pos (show n < 4 by omega), next, stR, ih (by omega), ← Fin.sum_univ_eq_sum_range
      (fun j => ext (fun s => k s d) (64 * n + j) * Real.exp (g * (63 - j)) * ext (fun s => v s e) (64 * n + j)) 64,
      EReal.coe_add, coe_sum, ← EReal.coe_mul, Ideal.exp_coe, EReal.coe_mul]
    refine congrArg₂ (· + ·) rfl (Finset.sum_congr rfl fun j _ => ?_)
    rw [ext_val _ _ (show 64 * n + j.val < 256 by omega), ext_val _ _ (show 64 * n + j.val < 256 by omega), ← EReal.coe_mul,
      Ideal.exp_coe, EReal.coe_mul, EReal.coe_mul]
    rfl

theorem out_coe (c : Fin 4) (i : Fin 64) (e : Fin 128) :
    out (g : EReal) (fun s d => (q s d : EReal)) (fun s d => (k s d : EReal)) (fun s e => (v s e : EReal))
      (st (g : EReal) (fun s d => (k s d : EReal)) (fun s e => (v s e : EReal)) c.val) c i e
      = mix (fun t s => w (g : EReal) t.val s.val) (fun s d => (q s d : EReal)) (fun s d => (k s d : EReal))
        (fun s e => (v s e : EReal)) (at' c i) e := by
  have h := outR_eq g (q (at' c i)) (fun s d => ext (fun s => k s d) s) (ext fun s => v s e) c.val i.val c.isLt i.isLt
  rw [← Fin.sum_univ_eq_sum_range (fun j => (∑ d, q (at' c i) d * ext (fun s => k s d) (64 * c.val + j)) * wR g i.val j
      * ext (fun s => v s e) (64 * c.val + j)) 64,
    ← Fin.sum_univ_eq_sum_range (fun s => (∑ d, q (at' c i) d * ext (fun s => k s d) s) * wR g (64 * c.val + i.val) s
      * ext (fun s => v s e) s) 256] at h
  have h' := congrArg (fun r : ℝ => (r : EReal)) h
  rw [EReal.coe_add] at h'
  simp only [coe_sum, EReal.coe_mul] at h'
  refine Eq.trans (congrArg₂ (· + ·) (Finset.sum_congr rfl fun j _ => ?_) (Finset.sum_congr rfl fun d _ => ?_))
    (h'.trans (Finset.sum_congr rfl fun s _ => ?_))
  · rw [ext_val _ _ (show 64 * c.val + j.val < 256 by omega), w_coe]
    simp only [ext_val _ _ (show 64 * c.val + j.val < 256 by omega)]
    rfl
  · rw [st_coe g k v c.val c.isLt.le, ← EReal.coe_mul, Ideal.exp_coe]
  · rw [ext_val _ _ s.isLt, ← w_coe]
    simp only [ext_val _ _ s.isLt]
    rfl

theorem last_coe (d : Fin 64) (e : Fin 128) :
    st (g : EReal) (fun s d => (k s d : EReal)) (fun s e => (v s e : EReal)) 4 d e
      = state (lastW (g : EReal)) (fun s d => (k s d : EReal)) (fun s e => (v s e : EReal)) d e := by
  rw [st_coe g k v 4 le_rfl, stR_eq, ← Fin.sum_univ_eq_sum_range
    (fun s => ext (fun s => k s d) s * Real.exp (g * (64 * (4 : ℕ) - 1 - s)) * ext (fun s => v s e) s) 256, coe_sum]
  refine Finset.sum_congr rfl fun s _ => ?_
  rw [ext_val _ _ s.isLt, ext_val _ _ s.isLt, lastW, ← EReal.coe_mul, Ideal.exp_coe, EReal.coe_mul, EReal.coe_mul]
  norm_num

end Real

variable {g q k v}

theorem out_num (hg : IsNum g) (hq : ∀ s d, IsNum (q s d)) (hk : ∀ s d, IsNum (k s d)) (hv : ∀ s e, IsNum (v s e)) (c : Fin 4)
    (i : Fin 64) (e : Fin 128) :
    out g q k v (st g k v c.val) c i e = mix (fun t s => w g t.val s.val) q k v (at' c i) e := by
  obtain ⟨g, rfl⟩ := hg
  choose q' hq using hq
  choose k' hk using hk
  choose v' hv using hv
  obtain rfl : q = fun s d => (q' s d : EReal) := funext fun s => funext (hq s)
  obtain rfl : k = fun s d => (k' s d : EReal) := funext fun s => funext (hk s)
  obtain rfl : v = fun s d => (v' s d : EReal) := funext fun s => funext (hv s)
  exact out_coe g q' k' v' c i e

theorem last_num (hg : IsNum g) (hk : ∀ s d, IsNum (k s d)) (hv : ∀ s e, IsNum (v s e)) (d : Fin 64) (e : Fin 128) :
    st g k v 4 d e = state (lastW g) k v d e := by
  obtain ⟨g, rfl⟩ := hg
  choose k' hk using hk
  choose v' hv using hv
  obtain rfl : k = fun s d => (k' s d : EReal) := funext fun s => funext (hk s)
  obtain rfl : v = fun s d => (v' s d : EReal) := funext fun s => funext (hv s)
  exact last_coe g k' v' d e

/-! Under the decay minus infinity a place keeps nothing of the others. -/

theorem exp_bot_pos {r : ℝ} (h : 0 < r) : Ideal.exp (⊥ * (r : EReal)) = 0 := by
  rw [EReal.bot_mul_coe_of_pos h]
  rfl

theorem exp_bot_zero {r : ℝ} (h : r = 0) : Ideal.exp (⊥ * (r : EReal)) = 1 := by
  rw [h, EReal.coe_zero, mul_zero, ← EReal.coe_zero, Ideal.exp_coe, Real.exp_zero, EReal.coe_one]

theorem w_bot (t s : ℕ) : w ⊥ t s = if s = t then 1 else 0 := by
  unfold w
  rcases lt_trichotomy s t with h | h | h
  · rw [if_pos h.le, if_neg h.ne, exp_bot_pos (sub_pos.2 (Nat.cast_lt.2 h))]
  · rw [if_pos h.le, if_pos h, exp_bot_zero (by rw [h, sub_self])]
  · rw [if_neg (not_le.2 h), if_neg h.ne']

/-- A sum whose weights leave one place only. -/
theorem sum_one {n : ℕ} (f u v : Fin n → EReal) (i : Fin n) (hi : u i = 1) (hu : ∀ j, j ≠ i → u j = 0) :
    ∑ j, (f j * u j) * v j = f i * v i := by
  rw [Finset.sum_eq_single i (fun j _ hj => by rw [hu j hj, mul_zero, zero_mul]) (fun h => absurd (Finset.mem_univ i) h), hi, mul_one]

theorem out_bot (c : Fin 4) (i : Fin 64) (e : Fin 128) (S : Fin 64 → Fin 128 → EReal) :
    out ⊥ q k v S c i e = mix (fun t s => w ⊥ t.val s.val) q k v (at' c i) e := by
  unfold out mix
  rw [sum_one (fun j => ∑ d, q (at' c i) d * k (at' c j) d) (fun j => w ⊥ i.val j.val) (fun j => v (at' c j) e) i
      (by rw [w_bot, if_pos rfl]) (fun j hj => by rw [w_bot, if_neg fun h => hj (Fin.ext h)]),
    sum_one (fun s => ∑ d, q (at' c i) d * k s d) (fun s => w ⊥ (at' c i).val s.val) (fun s => v s e) (at' c i)
      (by rw [w_bot, if_pos rfl]) (fun j hj => by rw [w_bot, if_neg fun h => hj (Fin.ext h)]),
    exp_bot_pos (r := (i.val : ℝ) + 1) (by positivity)]
  simp only [mul_zero, zero_mul, Finset.sum_const_zero, add_zero]

theorem last_bot (d : Fin 64) (e : Fin 128) : st ⊥ k v 4 d e = state (lastW ⊥) k v d e := by
  rw [st, dif_pos (show 3 < 4 by omega), next, exp_bot_pos (by norm_num), mul_zero, zero_add]
  unfold state
  rw [sum_one (fun j => k (at' ⟨3, by omega⟩ j) d) (fun j => Ideal.exp (⊥ * ((63 - (j.val : ℝ) : ℝ) : EReal)))
      (fun j => v (at' ⟨3, by omega⟩ j) e) 63 (exp_bot_zero (by norm_num)) (fun j hj => exp_bot_pos ?_),
    sum_one (fun s => k s d) (lastW ⊥) (fun s => v s e) 255 (exp_bot_zero (by norm_num)) (fun j hj => exp_bot_pos ?_)]
  · rfl
  · have h : j.val < 255 := by
      have := Fin.val_ne_of_ne hj
      have e : (255 : Fin 256).val = 255 := rfl
      omega
    have h' : (j.val : ℝ) < 255 := by exact_mod_cast h
    linarith
  · have h : j.val < 63 := by
      have := Fin.val_ne_of_ne hj
      have e : (63 : Fin 64).val = 63 := rfl
      omega
    have h' : (j.val : ℝ) < 63 := by exact_mod_cast h
    linarith

/-- The scan's result at a place is the decayed sum there. -/
theorem out_eq (hg : IsNum g ∨ g = ⊥) (hq : ∀ s d, IsNum (q s d)) (hk : ∀ s d, IsNum (k s d)) (hv : ∀ s e, IsNum (v s e))
    (c : Fin 4) (i : Fin 64) (e : Fin 128) :
    out g q k v (st g k v c.val) c i e = mix (fun t s => w g t.val s.val) q k v (at' c i) e := by
  rcases hg with hg | rfl
  · exact out_num hg hq hk hv c i e
  · exact out_bot c i e _

/-- The scan's last state is the state after all places. -/
theorem last_eq (hg : IsNum g ∨ g = ⊥) (hk : ∀ s d, IsNum (k s d)) (hv : ∀ s e, IsNum (v s e)) (d : Fin 64) (e : Fin 128) :
    st g k v 4 d e = state (lastW g) k v d e := by
  rcases hg with hg | rfl
  · exact last_num hg hk hv d e
  · exact last_bot d e

/-! One head. -/

/-- The logarithm of the logistic function. -/
def ls (x : EReal) : EReal := 0 - (max (0 - x) 0 + Ideal.log1p (Ideal.exp (0 - FloatOps.absf (F := Ideal) (φ := .f32) x)))

/-- The gate. -/
def silu (x : EReal) : EReal := x * Ideal.div 1 (1 + Ideal.exp (0 - x))

/-- A row over its root mean square, times the gain. -/
def normed (o n : Fin 128 → EReal) (e : Fin 128) : EReal :=
  o e * Ideal.rsqrt (Ideal.div (∑ x, o x * o x) (Ideal.ofBits .f32 0x43000000#32) + Ideal.ofBits .f32 0x358637BD#32) * n e

/-- The scaled keys. -/
def keys (k : Fin 256 → Fin 64 → EReal) (s : Fin 256) (d : Fin 64) : EReal := k s d * Ideal.ofBits .f32 0x3E000000#32

/-- The weights of the places before, and of those after. -/
def fore (g : EReal) (t s : Fin 256) : EReal := w g t.val s.val
def aft (g : EReal) (t s : Fin 256) : EReal := w g s.val t.val

/-- The first place's weights. -/
def firstW (g : EReal) (s : Fin 256) : EReal := Ideal.exp (g * ((s.val : ℝ) : EReal))

/-- The two gated directions together. -/
def head (q k : Fin 256 → Fin 64 → EReal) (v gf gb : Fin 256 → Fin 128 → EReal) (lf lb : EReal) (n : Fin 128 → EReal) (t : Fin 256)
    (e : Fin 128) : EReal :=
  silu (gf t e) * normed (mix (fore (ls lf)) q (keys k) v t) n e + silu (gb t e) * normed (mix (aft (ls lb)) q (keys k) v t) n e

/-- The weights of a direction's last state. -/
def endW (dir : Fin 2) (g : EReal) : Fin 256 → EReal := if dir.val = 0 then lastW g else firstW g

/-! All prompts and heads. -/

/-- Lane `d` of head `h` among the columns from `o` on, sixty-four to a head. -/
def col (o : Nat) (ho : o ≤ 7680) (h : Fin 4) (d : Fin 64) : Fin 8192 := ⟨o + (64 * h.val + d.val), by omega⟩

/-- What those columns hold for prompt `b`. -/
def colsOf (x : Tokens) (o : Nat) (ho : o ≤ 7680) (b : Fin 32) (h : Fin 4) (r : Fin 256) (d : Fin 64) : EReal := x (ix3 b r (col o ho h d))

/-- The queries, keys and values are numbers. -/
def Numbers (x : Tokens) : Prop := ∀ b r (j : Fin 1024), IsNum (x (ix3 b r ⟨1536 + j.val, by omega⟩))

theorem Numbers.key {x : Tokens} (hx : Numbers x) (o : Nat) (lo : 1536 ≤ o) (hi : o ≤ 2304) (b : Fin 32) (h : Fin 4) (r : Fin 256)
    (d : Fin 64) : IsNum (colsOf x o (by omega) b h r d) := by
  have e : col o (by omega) h d = ⟨1536 + (o - 1536 + (64 * h.val + d.val)), by omega⟩ :=
    Fin.ext (by show o + (64 * h.val + d.val) = 1536 + (o - 1536 + (64 * h.val + d.val)); omega)
  unfold colsOf
  rw [e]
  exact hx b r ⟨o - 1536 + (64 * h.val + d.val), by omega⟩

theorem Numbers.value {x : Tokens} (hx : Numbers x) (b : Fin 32) (h : Fin 4) (r : Fin 256) (e : Fin 128) :
    IsNum (slabOf x 2048 (by omega) b h r e) := by
  have i : Cert.Diff.slab 2048 (by omega) h e = ⟨1536 + (512 + (128 * h.val + e.val)), by omega⟩ :=
    Fin.ext (by show 2048 + (128 * h.val + e.val) = 1536 + (512 + (128 * h.val + e.val)); omega)
  unfold slabOf
  rw [i]
  exact hx b r ⟨512 + (128 * h.val + e.val), by omega⟩

/-- One layer's decays. -/
abbrev Decays := FVec Ideal (⟨2, ![2, 4]⟩ : Shape) .f32

/-- The retention's result of all prompts, the heads side by side. -/
def retained (x : Tokens) (dec : Decays) (n : FVec Ideal (⟨1, ![128]⟩ : Shape) .f32) : FVec Ideal (⟨3, ![32, 256, 512]⟩ : Shape) .f32 :=
  fun i => head (colsOf x 1536 (by omega) (i 0) (headOf (i 2))) (colsOf x 1792 (by omega) (i 0) (headOf (i 2)))
    (slabOf x 2048 (by omega) (i 0) (headOf (i 2))) (slabOf x 2560 (by omega) (i 0) (headOf (i 2)))
    (slabOf x 3072 (by omega) (i 0) (headOf (i 2))) (dec (ix2 0 (headOf (i 2)))) (dec (ix2 1 (headOf (i 2)))) (fun e => n (ix1 e))
    (i 1) (laneOf (i 2))

/-- This layer's last state of a direction. -/
def ended (x : Tokens) (dec : Decays) (b : Fin 32) (dir : Fin 2) (h : Fin 4) (d : Fin 64) (e : Fin 128) : EReal :=
  state (endW dir (ls (dec (ix2 dir h)))) (keys (colsOf x 1792 (by omega) b h)) (slabOf x 2048 (by omega) b h) d e

/-- The earlier layer's states, and under them this layer's. -/
def states (p : FVec Ideal (⟨5, ![32, 2, 4, 64, 128]⟩ : Shape) .f32) (x : Tokens) (dec : Decays) :
    FVec Ideal (⟨6, ![32, 2, 2, 4, 64, 128]⟩ : Shape) .f32 := fun i =>
  if (i 1).val = 0 then p (ix5 (i 0) (i 2) (i 3) (i 4) (i 5)) else ended x dec (i 0) (i 2) (i 3) (i 4) (i 5)

theorem retained_apply (x : Tokens) (dec : Decays) (n : FVec Ideal (⟨1, ![128]⟩ : Shape) .f32) (b : Fin 32) (r : Fin 256)
    (j : Fin 512) (h : Fin 4) (l : Fin 128) (hh : headOf j = h) (hl : laneOf j = l) : retained x dec n (ix3 b r j)
    = head (colsOf x 1536 (by omega) b h) (colsOf x 1792 (by omega) b h) (slabOf x 2048 (by omega) b h)
      (slabOf x 2560 (by omega) b h) (slabOf x 3072 (by omega) b h) (dec (ix2 0 h)) (dec (ix2 1 h)) (fun e => n (ix1 e)) r l := by
  subst hh hl
  rfl

theorem states_apply (p : FVec Ideal (⟨5, ![32, 2, 4, 64, 128]⟩ : Shape) .f32) (x : Tokens) (dec : Decays) (b : Fin 32) (s dir : Fin 2)
    (h : Fin 4) (d : Fin 64) (e : Fin 128) : states p x dec (ix6 b s dir h d e)
    = if s.val = 0 then p (ix5 b dir h d e) else ended x dec b dir h d e := rfl

theorem word_int (r : Fin 256) : (BitVec.ofNat 32 r.val).toInt = r.val :=
  (by decide +kernel : ∀ r : Fin 256, (BitVec.ofNat 32 r.val).toInt = r.val) r

theorem place_word (r : Fin 256) : FloatOps.sitofp (F := Ideal) .f32 (BitVec.ofNat 32 r.val) = ((r.val : ℝ) : EReal) := by
  show (((BitVec.ofNat 32 r.val).toInt : ℝ) : EReal) = _
  rw [word_int]
  norm_cast

/-- A weight from the gap between two places. -/
theorem gap_weight (g : EReal) (t s : ℕ) : (if 0 ≤ (((t : ℝ) - (s : ℝ) : ℝ) : EReal) then
    Ideal.exp (g * max (((t : ℝ) - (s : ℝ) : ℝ) : EReal) 0) else 0) = w g t s := by
  unfold w
  have e : (0 : EReal) ≤ (((t : ℝ) - (s : ℝ) : ℝ) : EReal) ↔ s ≤ t := by
    rw [← EReal.coe_zero, EReal.coe_le_coe_iff, sub_nonneg, Nat.cast_le]
  simp only [e]
  split
  case isTrue h => rw [max_eq_left (e.2 h)]
  · rfl

theorem word_255 : Ideal.ofBits .f32 0x437F0000#32 = ((255 : ℝ) : EReal) := by
  have a : 1132396544 >>> 23 % 256 = 134 := by decide
  have b : ¬ BitVec.extractLsb' 31 1 1132396544#32 = 1#1 := by decide
  simp only [Ideal.ofBits, Ideal.ieee, BitVec.extractLsb'_toNat, BitVec.toNat_ofNat]
  norm_num [a, b]

/-- The chunk of a place, and its place in the chunk. -/
def chunkOf (t : Fin 256) : Fin 4 := ⟨t.val / 64, by omega⟩
def within (t : Fin 256) : Fin 64 := ⟨t.val % 64, by omega⟩
theorem at_within (t : Fin 256) : at' (chunkOf t) (within t) = t :=
  Fin.ext (by show 64 * (t.val / 64) + t.val % 64 = t.val; omega)

/-! From the last place to the first. -/

theorem w_rev (g : EReal) (t s : Fin 256) : w g (Fin.rev t).val (Fin.rev s).val = w g s.val t.val := by
  have e : ∀ a : Fin 256, ((Fin.rev a).val : ℝ) = 255 - (a.val : ℝ) := fun a => by
    rw [Fin.val_rev, Nat.cast_sub (by omega)]
    push_cast
    ring
  unfold w
  rw [e, e]
  congr 1
  · exact propext (by rw [Fin.val_rev, Fin.val_rev]; omega)
  · congr 3
    ring

/-- The sum up to a place over the reversed rows is the sum from a place on over the rows. -/
theorem mix_rev (g : EReal) (q k : Fin 256 → Fin 64 → EReal) (v : Fin 256 → Fin 128 → EReal) (t : Fin 256) (e : Fin 128) :
    mix (fore g) (fun s => q (Fin.rev s)) (fun s => k (Fin.rev s)) (fun s => v (Fin.rev s)) (Fin.rev t) e = mix (aft g) q k v t e := by
  unfold mix
  rw [← Equiv.sum_comp Fin.revPerm]
  refine Finset.sum_congr rfl fun s _ => ?_
  simp only [Fin.revPerm_apply, Fin.rev_rev, fore, aft, w_rev]

theorem state_rev (g : EReal) (k : Fin 256 → Fin 64 → EReal) (v : Fin 256 → Fin 128 → EReal) (d : Fin 64) (e : Fin 128) :
    state (lastW g) (fun s => k (Fin.rev s)) (fun s => v (Fin.rev s)) d e = state (firstW g) k v d e := by
  unfold state
  rw [← Equiv.sum_comp Fin.revPerm]
  refine Finset.sum_congr rfl fun s _ => ?_
  simp only [Fin.revPerm_apply, Fin.rev_rev, lastW, firstW]
  congr 5
  rw [Fin.val_rev, Nat.cast_sub (by omega)]
  push_cast
  ring

theorem keys_rev (k : Fin 256 → Fin 64 → EReal) : keys (fun s => k (Fin.rev s)) = fun s => keys k (Fin.rev s) := rfl

/-! Numbers. -/

theorem keys_num {k : Fin 256 → Fin 64 → EReal} (h : ∀ s d, IsNum (k s d)) (s : Fin 256) (d : Fin 64) : IsNum (keys k s d) :=
  (h s d).mul isNum_eighth

/-- The logarithm of a number's sigmoid is a number. -/
theorem ls_num {x : EReal} (h : IsNum x) : IsNum (ls x) := by
  obtain ⟨x, rfl⟩ := h
  refine ⟨0 - (max (0 - x) 0 + Real.log (1 + Real.exp (0 - |x|))), ?_⟩
  have cm : ∀ a b : ℝ, ((max a b : ℝ) : EReal) = max (a : EReal) b := fun a b => EReal.coe_strictMono.monotone.map_max
  have a : FloatOps.absf (F := Ideal) (φ := .f32) (x : EReal) = ((|x| : ℝ) : EReal) := by
    show max (x : EReal) (-(x : EReal)) = _
    rw [← EReal.coe_neg, ← cm]
    rfl
  have l : Ideal.log1p ((Real.exp (0 - |x|) : ℝ) : EReal) = ((Real.log (1 + Real.exp (0 - |x|)) : ℝ) : EReal) := by
    have p : ¬ (1 + Real.exp (0 - |x|) ≤ 0) := not_le.2 (by positivity)
    show Ideal.log (1 + ((Real.exp (0 - |x|) : ℝ) : EReal)) = _
    rw [← EReal.coe_one, ← EReal.coe_add]
    show (if 1 + Real.exp (0 - |x|) ≤ 0 then (⊥ : EReal) else _) = _
    rw [if_neg p]
  unfold ls
  rw [a, ← EReal.coe_zero, ← EReal.coe_sub, ← EReal.coe_sub, Ideal.exp_coe, l, ← cm, ← EReal.coe_add, ← EReal.coe_sub]

/-- The logarithm of a sigmoid is a number or minus infinity. -/
theorem ls_cases (x : EReal) : IsNum (ls x) ∨ ls x = ⊥ := by
  have l : Ideal.log1p (Ideal.exp (0 - ⊤)) = 0 := by
    rw [zero_sub, EReal.neg_top]
    show Ideal.log (1 + ((0 : ℝ) : EReal)) = 0
    rw [← EReal.coe_one, ← EReal.coe_add]
    show (if (1 + 0 : ℝ) ≤ 0 then (⊥ : EReal) else ((Real.log (1 + 0) : ℝ) : EReal)) = 0
    rw [if_neg (by norm_num), add_zero, Real.log_one, EReal.coe_zero]
  induction x using EReal.rec with
  | bot =>
    refine .inr ?_
    have a : FloatOps.absf (F := Ideal) (φ := .f32) (⊥ : EReal) = ⊤ := by
      show max (⊥ : EReal) (-⊥) = ⊤
      simp
    unfold ls
    rw [a, l]
    simp
  | coe x => exact .inl (ls_num ⟨x, rfl⟩)
  | top =>
    refine .inl ⟨0, ?_⟩
    have a : FloatOps.absf (F := Ideal) (φ := .f32) (⊤ : EReal) = ⊤ := by
      show max (⊤ : EReal) (-⊤) = ⊤
      simp
    unfold ls
    rw [a, l]
    simp

end Cert.Ret
-- ==== Proof.Ret.Stages.lean ====
module

public import proofs.«01_k».proof.Proof.Gen.RetIdeal.Value
public import proofs.«01_k».proof.Proof.Ret.Spec
public import Idealize.ShloMosaic.Lib.Pointwise

/-! The vectors the retention kernel computes for one head, stage by stage, read at an entry. -/

@[expose] public section

set_option maxRecDepth 16384

noncomputable section

namespace Cert.Ret

open Cert.RetIdeal Cert.RetIdeal.Gen Idealize.ShloMosaic Idealize.ShloMosaic.TcCoe Idealize.SL.Sem Cert.Common

/-- The lanes from `a` on and before `b`. -/
def lanes (a b : BitVec 32) : IVec S1x128 1 :=
  andi (cmpi .sge (iota .tc S1x128 32 [1] iota_S1x128_d1_w32) (broadcast S1x128 a))
    (cmpi .slt (iota .tc S1x128 32 [1] iota_S1x128_d1_w32) (broadcast S1x128 b))

/-- The queries with every other lane zero. -/
def keepV (a b : BitVec 32) (q : FVec Ideal S256x128 .f32) : FVec Ideal S256x128 .bf16 :=
  truncf .bf16 (select (broadcastTo S256x128 (shapeCast S1x128 (lanes a b) shapeCasts_S1x128_S1x128) broadcasts_S1x128_S256x128) q
    (broadcast S256x128 (Scalar.ofBits .f32 0x00000000#32))) bitsLt_bf16_f32

/-- The scaled keys. -/
def keyV (k : FVec Ideal S256x128 .f32) : FVec Ideal S256x128 .f32 := mulf k (broadcast S256x128 (Scalar.ofBits .f32 0x3E000000#32))

/-- Products of queries and keys. -/
def prodV (q k : FVec Ideal S256x128 .bf16) : FVec Ideal S256x256 .f32 :=
  matmul dot_S256x128_S256x128_S256x256_1_1_0_0_n_n none q k (constant S256x256 .f32 0x00000000#32)

/-- The row less the column. -/
def gapV (i : grid0.Coords) : FVec Ideal S256x256 .f32 :=
  subf (broadcastTo S256x256 (sitofp .f32 (addi (broadcast S256x1 (Scalar.muli (BitVec.ofNat 32 (i 2).val) 256#32)) (iota .tc S256x1 32 [0] iota_S256x1_d0_w32))) broadcasts_S256x1_S256x256)
    (broadcastTo S256x256 (sitofp .f32 (iota .tc S1x256 32 [1] iota_S1x256_d1_w32)) broadcasts_S1x256_S256x256)

/-- The places as numbers. -/
def placeV : FVec Ideal S256x1 .f32 := sitofp .f32 (iota .tc S256x1 32 [0] iota_S256x1_d0_w32)

/-- The logarithm of the logistic function. -/
def logV (x : FVec Ideal S2x2x8x128 .f32) : FVec Ideal S2x2x8x128 .f32 :=
  subf (broadcast S2x2x8x128 (Scalar.ofBits .f32 0x00000000#32))
    (addf (maximumf (subf (broadcast S2x2x8x128 (Scalar.ofBits .f32 0x00000000#32)) x) (broadcast S2x2x8x128 (Scalar.ofBits .f32 0x00000000#32)))
      (log1p (exp (subf (broadcast S2x2x8x128 (Scalar.ofBits .f32 0x00000000#32)) (absf x)))))

/-- The weights of the places before. -/
def foreV (x : FVec Ideal S256x256 .f32) (g : FVec Ideal S1x1 .f32) : FVec Ideal S256x256 .f32 :=
  select (cmpf .oge x (broadcast S256x256 (Scalar.ofBits .f32 0x00000000#32)))
    (exp (mulf (broadcastTo S256x256 g broadcasts_S1x1_S256x256) (maximumf x (broadcast S256x256 (Scalar.ofBits .f32 0x00000000#32)))))
    (broadcast S256x256 (Scalar.ofBits .f32 0x00000000#32))

/-- The weights of the places after. -/
def backV (x : FVec Ideal S256x256 .f32) (g : FVec Ideal S1x1 .f32) : FVec Ideal S256x256 .f32 :=
  select (cmpf .ole x (broadcast S256x256 (Scalar.ofBits .f32 0x00000000#32)))
    (exp (mulf (broadcastTo S256x256 g broadcasts_S1x1_S256x256)
      (maximumf (subf (broadcast S256x256 (Scalar.ofBits .f32 0x00000000#32)) x) (broadcast S256x256 (Scalar.ofBits .f32 0x00000000#32)))))
    (broadcast S256x256 (Scalar.ofBits .f32 0x00000000#32))

/-- The weighted products over the values. -/
def mixV (s u : FVec Ideal S256x256 .f32) (v : FVec Ideal S256x128 .bf16) : FVec Ideal S256x128 .f32 :=
  matmul dot_S256x256_S256x128_S256x128_1_0_0_1_n_n none (truncf .bf16 (mulf s u) bitsLt_bf16_f32) v (constant S256x128 .f32 0x00000000#32)

/-- The keys, weighted by the exponential of the decay times a column, over the values. -/
def stateV (k : FVec Ideal S256x128 .f32) (p : FVec Ideal S256x1 .f32) (g : FVec Ideal S1x1 .f32) (v : FVec Ideal S256x128 .bf16) :
    FVec Ideal S128x128 .f32 :=
  matmul dot_S256x128_S256x128_S128x128_0_0_1_1_n_n none
    (truncf .bf16 (mulf k (broadcastTo S256x128 (exp (mulf (broadcastTo S256x1 g broadcasts_S1x1_S256x1) p)) broadcasts_S256x1_S256x128))
      bitsLt_bf16_f32) v (constant S128x128 .f32 0x00000000#32)

/-- The gate. -/
def siluV (x : FVec Ideal S256x128 .f32) : FVec Ideal S256x128 .f32 :=
  mulf x (divf (broadcast S256x128 (Scalar.ofBits .f32 0x3F800000#32)) (addf (broadcast S256x128 (Scalar.ofBits .f32 0x3F800000#32))
    (exp (subf (broadcast S256x128 (Scalar.ofBits .f32 0x00000000#32)) x))))

/-- Each row over its root mean square, times the gain. -/
def normV (o : FVec Ideal S256x128 .f32) (g : FVec Ideal S1x128 .f32) : FVec Ideal S256x128 .f32 :=
  mulf (mulf o (broadcastTo S256x128 (rsqrt (addf (divf (shapeCast S256x1
      (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128))
    (broadcastTo S256x128 g broadcasts_S1x128_S256x128)

/-- The two gated directions together. -/
def bothV (gf gb f b : FVec Ideal S256x128 .f32) (g : FVec Ideal S1x128 .f32) : FVec Ideal S256x128 .f32 :=
  addf (mulf (siluV gf) (normV f g)) (mulf (siluV gb) (normV b g))

theorem gapV_apply (i : grid0.Coords) (t s : Fin 256) : gapV i (ix2 t s) = (((t.val : ℝ) - (s.val : ℝ) : ℝ) : EReal) := by
  have z : (i 2).val = 0 := Nat.lt_one_iff.1 (i 2).isLt
  unfold gapV
  rw [z]
  pointwise
  rw [show IntOp.addi (Scalar.muli (BitVec.ofNat 32 0) 256#32) (BitVec.ofNat 32 t.val) = BitVec.ofNat 32 t.val from BitVec.zero_add _,
    place_word, place_word, EReal.coe_sub]

theorem placeV_apply (t : Fin 256) (a : Fin 1) : placeV (ix2 t a) = ((t.val : ℝ) : EReal) := by
  pointwise [placeV]
  exact place_word t

theorem low_word (c : Fin 128) : IntOp.andi (IntOp.cmpi .sge (BitVec.ofNat 32 c.val) 0#32) (IntOp.cmpi .slt (BitVec.ofNat 32 c.val) 64#32)
    = if c.val < 64 then 1#1 else 0#1 :=
  (by decide +kernel : ∀ c : Fin 128, IntOp.andi (IntOp.cmpi .sge (BitVec.ofNat 32 c.val) 0#32)
    (IntOp.cmpi .slt (BitVec.ofNat 32 c.val) 64#32) = if c.val < 64 then 1#1 else 0#1) c

theorem high_word (c : Fin 128) : IntOp.andi (IntOp.cmpi .sge (BitVec.ofNat 32 c.val) 64#32) (IntOp.cmpi .slt (BitVec.ofNat 32 c.val) 128#32)
    = if c.val < 64 then 0#1 else 1#1 :=
  (by decide +kernel : ∀ c : Fin 128, IntOp.andi (IntOp.cmpi .sge (BitVec.ofNat 32 c.val) 64#32)
    (IntOp.cmpi .slt (BitVec.ofNat 32 c.val) 128#32) = if c.val < 64 then 0#1 else 1#1) c

theorem low_apply (q : FVec Ideal S256x128 .f32) (r : Fin 256) (c : Fin 128) :
    keepV 0#32 64#32 q (ix2 r c) = if c.val < 64 then q (ix2 r c) else 0 := by
  pointwise [keepV, lanes]
  rw [low_word]
  split <;> rfl

theorem high_apply (q : FVec Ideal S256x128 .f32) (r : Fin 256) (c : Fin 128) :
    keepV 64#32 128#32 q (ix2 r c) = if c.val < 64 then 0 else q (ix2 r c) := by
  pointwise [keepV, lanes]
  rw [high_word]
  split <;> rfl

theorem prodV_apply (q k : FVec Ideal S256x128 .bf16) (r c : Fin 256) :
    prodV q k (ix2 r c) = ∑ x : Fin 128, q (ix2 r x) * k (ix2 c x) := by
  pointwise [prodV]

theorem keyV_apply (k : FVec Ideal S256x128 .f32) (r : Fin 256) (c : Fin 128) :
    keyV k (ix2 r c) = k (ix2 r c) * Ideal.ofBits .f32 0x3E000000#32 := by
  pointwise [keyV]

theorem foreV_apply (i : grid0.Coords) (g : FVec Ideal S1x1 .f32) (t s : Fin 256) :
    foreV (gapV i) g (ix2 t s) = fore (g (ix2 0 0)) t s := by
  pointwise [foreV]
  rw [gapV_apply]
  exact gap_weight _ _ _

theorem backV_apply (i : grid0.Coords) (g : FVec Ideal S1x1 .f32) (t s : Fin 256) :
    backV (gapV i) g (ix2 t s) = aft (g (ix2 0 0)) t s := by
  pointwise [backV]
  rw [gapV_apply]
  have e : (0 : EReal) - (((t.val : ℝ) - (s.val : ℝ) : ℝ) : EReal) = (((s.val : ℝ) - (t.val : ℝ) : ℝ) : EReal) := by
    rw [← EReal.coe_zero, ← EReal.coe_sub]
    congr 1
    ring
  have e' : (((t.val : ℝ) - (s.val : ℝ) : ℝ) : EReal) ≤ 0 ↔ (0 : EReal) ≤ (((s.val : ℝ) - (t.val : ℝ) : ℝ) : EReal) := by
    rw [← EReal.coe_zero, EReal.coe_le_coe_iff, EReal.coe_le_coe_iff]
    constructor <;> intro h <;> linarith
  simp only [e, e']
  exact gap_weight _ _ _

theorem mixV_apply (s u : FVec Ideal S256x256 .f32) (v : FVec Ideal S256x128 .bf16) (t : Fin 256) (e : Fin 128) :
    mixV s u v (ix2 t e) = ∑ c : Fin 256, (s (ix2 t c) * u (ix2 t c)) * v (ix2 c e) := by
  pointwise [mixV]

theorem stateV_apply (k : FVec Ideal S256x128 .f32) (p : FVec Ideal S256x1 .f32) (g : FVec Ideal S1x1 .f32)
    (v : FVec Ideal S256x128 .bf16) (d e : Fin 128) :
    stateV k p g v (ix2 d e) = ∑ c : Fin 256, (k (ix2 c d) * Ideal.exp (g (ix2 0 0) * p (ix2 c 0))) * v (ix2 c e) := by
  pointwise [stateV]

theorem logV_apply (x : FVec Ideal S2x2x8x128 .f32) (a b : Fin 2) (c : Fin 8) (d : Fin 128) :
    logV x (ix4 a b c d) = ls (x (ix4 a b c d)) := by
  pointwise [logV]
  rfl

theorem siluV_apply (x : FVec Ideal S256x128 .f32) (t : Fin 256) (e : Fin 128) : siluV x (ix2 t e) = silu (x (ix2 t e)) := by
  pointwise [siluV]
  rfl

theorem normV_apply (o : FVec Ideal S256x128 .f32) (g : FVec Ideal S1x128 .f32) (t : Fin 256) (e : Fin 128) :
    normV o g (ix2 t e) = normed (fun x => o (ix2 t x)) (fun x => g (ix2 0 x)) e := by
  pointwise [normV]
  rfl

theorem bothV_apply (gf gb f b : FVec Ideal S256x128 .f32) (g : FVec Ideal S1x128 .f32) (t : Fin 256) (e : Fin 128) :
    bothV gf gb f b g (ix2 t e) = silu (gf (ix2 t e)) * normed (fun x => f (ix2 t x)) (fun x => g (ix2 0 x)) e
      + silu (gb (ix2 t e)) * normed (fun x => b (ix2 t x)) (fun x => g (ix2 0 x)) e := by
  unfold bothV
  rw [addf_apply, mulf_apply, mulf_apply, siluV_apply, siluV_apply, normV_apply, normV_apply]
  rfl

end Cert.Ret
-- ==== Proof.Ret.Kernel.lean ====
module

public import proofs.«01_k».proof.Proof.Ret.Stages
public import proofs.«01_k».proof.Proof.Diff.Spec

/-! What the retention kernel computes for one head: the gated result and the two last states. -/

@[expose] public section

set_option maxRecDepth 16384

noncomputable section

namespace Cert.Ret

open Cert.RetIdeal Cert.RetIdeal.Gen Idealize.ShloMosaic Idealize.ShloMosaic.TcCoe Idealize.SL.Sem Cert.Common
open Cert.Diff (lo hi sum_lo sum_hi)

/-- A block without its leading axis. -/
def flat (x : Vec Ideal S1x256x128 .f32) : FVec Ideal S256x128 .f32 := shapeCast S256x128 x shapeCasts_S1x256x128_S256x128

/-- One entry of the logarithms of the decays. -/
def decAt (o : Fin 4 → Nat) (h : S2x2x8x128.Slices o S1x1x8x128) (x : Vec Ideal S2x2x8x128 .f32) : FVec Ideal S1x1 .f32 :=
  extractStridedSlice S1x1 ![0, 0] (shapeCast S8x128 (extractStridedSlice S1x1x8x128 o
    (logV (shapeCast S2x2x8x128 x shapeCasts_S2x2x8x128_S2x2x8x128)) h) shapeCasts_S1x1x8x128_S8x128) slices_S8x128_o0_0_S1x1

/-- One head's products of queries and keys. -/
def scoreV (a b : BitVec 32) (q k : Vec Ideal S1x256x128 .f32) : FVec Ideal S256x256 .f32 :=
  prodV (keepV a b (flat q)) (truncf .bf16 (keyV (flat k)) bitsLt_bf16_f32)

/-- One head's result. -/
def outV (a b : BitVec 32) (i : grid0.Coords) (q k v gf gb : Vec Ideal S1x256x128 .f32) (lf lb : FVec Ideal S1x1 .f32)
    (n : Vec Ideal S1x128 .f32) : FVec Ideal S1x256x128 .f32 :=
  shapeCast S1x256x128 (bothV (flat gf) (flat gb)
    (mixV (scoreV a b q k) (foreV (gapV i) lf) (truncf .bf16 (flat v) bitsLt_bf16_f32))
    (mixV (scoreV a b q k) (backV (gapV i) lb) (truncf .bf16 (flat v) bitsLt_bf16_f32))
    (shapeCast S1x128 n shapeCasts_S1x128_S1x128)) shapeCasts_S256x128_S1x256x128

/-- One head's last state. -/
def endV (o : Fin 2 → Nat) (h : S128x128.Slices o S64x128) (k : Vec Ideal S1x256x128 .f32) (p : FVec Ideal S256x1 .f32)
    (g : FVec Ideal S1x1 .f32) (v : Vec Ideal S1x256x128 .f32) : FVec Ideal S1x1x64x128 .f32 :=
  shapeCast S1x1x64x128 (extractStridedSlice S64x128 o (stateV (keyV (flat k)) p g (truncf .bf16 (flat v) bitsLt_bf16_f32)) h)
    shapeCasts_S64x128_S1x1x64x128

/-- The places counted down to the last. -/
def downV : FVec Ideal S256x1 .f32 := subf (broadcast S256x1 (Scalar.ofBits .f32 0x437F0000#32)) placeV

theorem flat_apply (x : Vec Ideal S1x256x128 .f32) (r : Fin 256) (d : Fin 128) : flat x (ix2 r d) = x (ix3 0 r d) := by
  pointwise [flat]

theorem prod_low (q : FVec Ideal S256x128 .f32) (k : FVec Ideal S256x128 .bf16) (r c : Fin 256) :
    prodV (keepV 0#32 64#32 q) k (ix2 r c) = ∑ d : Fin 64, q (ix2 r (lo d)) * k (ix2 c (lo d)) := by
  rw [prodV_apply, sum_lo]
  · refine Finset.sum_congr rfl fun d _ => ?_
    rw [low_apply, if_pos (show (lo d).val < 64 from d.isLt)]
  · intro x hx
    rw [low_apply, if_neg hx, zero_mul]

theorem prod_high (q : FVec Ideal S256x128 .f32) (k : FVec Ideal S256x128 .bf16) (r c : Fin 256) :
    prodV (keepV 64#32 128#32 q) k (ix2 r c) = ∑ d : Fin 64, q (ix2 r (hi d)) * k (ix2 c (hi d)) := by
  rw [prodV_apply, sum_hi]
  · refine Finset.sum_congr rfl fun d _ => ?_
    rw [high_apply, if_neg (show ¬ (hi d).val < 64 by show ¬ (64 + d.val < 64); omega)]
  · intro x hx
    rw [high_apply, if_pos hx, zero_mul]

/-- The lanes a mask keeps are those `p` lists. -/
def Keeps (a b : BitVec 32) (p : Fin 64 → Fin 128) : Prop := ∀ (q : FVec Ideal S256x128 .f32) (k : FVec Ideal S256x128 .bf16)
  (r c : Fin 256), prodV (keepV a b q) k (ix2 r c) = ∑ d : Fin 64, q (ix2 r (p d)) * k (ix2 c (p d))

theorem scoreV_apply {a b : BitVec 32} {p : Fin 64 → Fin 128} (hp : Keeps a b p) (q k : Vec Ideal S1x256x128 .f32) (t s : Fin 256) :
    scoreV a b q k (ix2 t s) = ∑ d : Fin 64, q (ix3 0 t (p d)) * keys (fun s d => k (ix3 0 s (p d))) s d := by
  unfold scoreV
  rw [hp]
  refine Finset.sum_congr rfl fun d _ => ?_
  rw [flat_apply]
  refine congrArg (_ * ·) ?_
  show keyV (flat k) (ix2 s (p d)) = _
  rw [keyV_apply, flat_apply]
  rfl

/-- One head's result at an entry. -/
theorem outV_apply {a b : BitVec 32} {p : Fin 64 → Fin 128} (hp : Keeps a b p) (i : grid0.Coords)
    (q k v gf gb : Vec Ideal S1x256x128 .f32) (lf lb : FVec Ideal S1x1 .f32) (n : Vec Ideal S1x128 .f32) (xf xb : EReal)
    (hf : lf (ix2 0 0) = ls xf) (hb : lb (ix2 0 0) = ls xb) (o : Fin 1) (t : Fin 256) (e : Fin 128) :
    outV a b i q k v gf gb lf lb n (ix3 o t e) = head (fun t d => q (ix3 0 t (p d))) (fun t d => k (ix3 0 t (p d)))
      (fun t e => v (ix3 0 t e)) (fun t e => gf (ix3 0 t e)) (fun t e => gb (ix3 0 t e)) xf xb (fun e => n (ix2 0 e)) t e := by
  have key : ∀ y : FVec Ideal S256x128 .f32, (shapeCast S1x256x128 y shapeCasts_S256x128_S1x256x128) (ix3 o t e) = y (ix2 t e) := by
    intro y
    pointwise
  have hn : ∀ e : Fin 128, shapeCast S1x128 n shapeCasts_S1x128_S1x128 (ix2 0 e) = n (ix2 0 e) := by
    intro e
    pointwise
  have hv : ∀ (s : Fin 256) (e : Fin 128), (truncf .bf16 (flat v) bitsLt_bf16_f32 : FVec Ideal S256x128 .bf16) (ix2 s e)
      = (v (ix3 0 s e) : EReal) := fun s e => flat_apply v s e
  unfold outV head
  rw [key, bothV_apply]
  simp only [mixV_apply, scoreV_apply hp, foreV_apply, backV_apply, flat_apply, hf, hb, hn, hv]
  rfl

/-- One head's last state at an entry: its lanes `p` are the rows taken. -/
theorem endV_apply (o : Fin 2 → Nat) (h : S128x128.Slices o S64x128) (p : Fin 64 → Fin 128)
    (ho : ∀ (y : FVec Ideal S128x128 .f32) (d : Fin 64) (e : Fin 128), extractStridedSlice S64x128 o y h (ix2 d e) = y (ix2 (p d) e))
    (k v : Vec Ideal S1x256x128 .f32) (x : FVec Ideal S256x1 .f32) (g : FVec Ideal S1x1 .f32) (a b : Fin 1) (d : Fin 64) (e : Fin 128) :
    endV o h k x g v (ix4 a b d e) = state (fun s => Ideal.exp (g (ix2 0 0) * x (ix2 s 0))) (keys fun s d => k (ix3 0 s (p d)))
      (fun s e => v (ix3 0 s e)) d e := by
  have key : ∀ y : FVec Ideal S64x128 .f32, (shapeCast S1x1x64x128 y shapeCasts_S64x128_S1x1x64x128) (ix4 a b d e) = y (ix2 d e) := by
    intro y
    pointwise
  unfold endV
  rw [key, ho, stateV_apply]
  refine Finset.sum_congr rfl fun s _ => ?_
  rw [keyV_apply, flat_apply]
  exact congrArg₂ (· * ·) rfl (flat_apply v s e)

theorem downV_apply (t : Fin 256) (a : Fin 1) : downV (ix2 t a) = ((255 - (t.val : ℝ) : ℝ) : EReal) := by
  unfold downV
  rw [subf_apply, placeV_apply, EReal.coe_sub, ← word_255]
  rfl

theorem slice_low (y : FVec Ideal S128x128 .f32) (d : Fin 64) (e : Fin 128) :
    extractStridedSlice S64x128 ![0, 0] y slices_S128x128_o0_0_S64x128 (ix2 d e) = y (ix2 (lo d) e) := by
  pointwise
  blk_ext [lo]

theorem slice_high (y : FVec Ideal S128x128 .f32) (d : Fin 64) (e : Fin 128) :
    extractStridedSlice S64x128 ![64, 0] y slices_S128x128_o64_0_S64x128 (ix2 d e) = y (ix2 (hi d) e) := by
  pointwise
  blk_ext [hi]

theorem dec00 (x : Vec Ideal S2x2x8x128 .f32) :
    decAt ![0, 0, 0, 0] slices_S2x2x8x128_o0_0_0_0_S1x1x8x128 x (ix2 0 0) = ls (x (ix4 0 0 0 0)) := by
  pointwise [decAt, logV]
  rfl

theorem dec01 (x : Vec Ideal S2x2x8x128 .f32) :
    decAt ![0, 1, 0, 0] slices_S2x2x8x128_o0_1_0_0_S1x1x8x128 x (ix2 0 0) = ls (x (ix4 0 1 0 0)) := by
  pointwise [decAt, logV]
  rfl

theorem dec10 (x : Vec Ideal S2x2x8x128 .f32) :
    decAt ![1, 0, 0, 0] slices_S2x2x8x128_o1_0_0_0_S1x1x8x128 x (ix2 0 0) = ls (x (ix4 1 0 0 0)) := by
  pointwise [decAt, logV]
  rfl

theorem dec11 (x : Vec Ideal S2x2x8x128 .f32) :
    decAt ![1, 1, 0, 0] slices_S2x2x8x128_o1_1_0_0_S1x1x8x128 x (ix2 0 0) = ls (x (ix4 1 1 0 0)) := by
  pointwise [decAt, logV]
  rfl

end Cert.Ret
-- ==== Proof.Ret.Pieces.lean ====
module

public import proofs.«01_k».proof.Proof.Ret.Kernel
public import Idealize.ShloMosaic.Lib.Pipeline.ValueKit
public import Idealize.ShloMosaic.Lib.Pipeline.ValueKit.Held
public import Idealize.ShloMosaic.Lib.Pipeline.ReadBack

/-! The retention kernel's two output windows after one run of its body: two heads side by side in the first, and the
states in the other, the earlier layer's under 0 and this layer's under 1. -/

@[expose] public section

set_option maxRecDepth 16384

noncomputable section

namespace Cert.Ret

open Cert.RetIdeal Cert.RetIdeal.Gen Idealize.ShloMosaic Idealize.ShloMosaic.TcCoe Idealize.SL.Sem Cert.Common
open Cert.Diff (lo hi sum_lo sum_hi)

variable (m : (ℓ : Loc nD τ sig) → Buf (Elt Ideal) ℓ) (c : Dev nD) (t : Fin cfg0.N)

/-- The lanes of one head in a block of two heads. -/
abbrev rectLo : Rect S1x256x256 := Rect.unit ![0, 0, 0] ![1, 256, 128] inb_S1x256x256_S1x256x128_0_0_0
abbrev rectHi : Rect S1x256x256 := Rect.unit ![0, 0, 128] ![1, 256, 128] inb_S1x256x256_S1x256x128_0_0_128

/-- Lane `e` of head `h` among the 256 lanes of two heads. -/
def lane (h : Fin 2) (e : Fin 128) : Fin 256 := ⟨128 * h.val + e.val, by omega⟩

/-- Row `d` of head `h` among the 128 lanes of two heads' keys. -/
def half (h : Fin 2) (d : Fin 64) : Fin 128 := ⟨64 * h.val + d.val, by omega⟩

theorem out8_heads : (outsAt0 m c t).1 = View.canon
    [⟨rectHi, outV 64#32 128#32 (grid0.coords t) (iblk m c 0 t) (iblk m c 1 t) (View.ld (iblk m c 2 t) rectHi)
        (View.ld (iblk m c 3 t) rectHi) (View.ld (iblk m c 4 t) rectHi)
        (decAt ![0, 1, 0, 0] slices_S2x2x8x128_o0_1_0_0_S1x1x8x128 (iblk m c 5 t))
        (decAt ![1, 1, 0, 0] slices_S2x2x8x128_o1_1_0_0_S1x1x8x128 (iblk m c 5 t)) (iblk m c 6 t)⟩,
     ⟨rectLo, outV 0#32 64#32 (grid0.coords t) (iblk m c 0 t) (iblk m c 1 t) (View.ld (iblk m c 2 t) rectLo)
        (View.ld (iblk m c 3 t) rectLo) (View.ld (iblk m c 4 t) rectLo)
        (decAt ![0, 0, 0, 0] slices_S2x2x8x128_o0_0_0_0_S1x1x8x128 (iblk m c 5 t))
        (decAt ![1, 0, 0, 0] slices_S2x2x8x128_o1_0_0_0_S1x1x8x128 (iblk m c 5 t)) (iblk m c 6 t)⟩] := by
  unfold outsAt0
  dsimp only
  frame_out
  rfl

/-- One head's piece, its slabs and its place known. -/
theorem piece_apply {a b : BitVec 32} (h : Fin 2) (hp : Keeps a b (half h)) (r : Fin 256) (l : Fin 128) (v gf gb : Vec Ideal S1x256x128 .f32)
    (lf lb : FVec Ideal S1x1 .f32) (x : S1x256x128.Idx) (hr : (x 1).val = r.val) (hl : (x 2).val = l.val)
    (hv : ∀ r d, v (ix3 0 r d) = iblk m c 2 t (ix3 0 r (lane h d))) (hgf : ∀ r d, gf (ix3 0 r d) = iblk m c 3 t (ix3 0 r (lane h d)))
    (hgb : ∀ r d, gb (ix3 0 r d) = iblk m c 4 t (ix3 0 r (lane h d)))
    (hf : lf (ix2 0 0) = ls (iblk m c 5 t (ix4 0 h 0 0))) (hb : lb (ix2 0 0) = ls (iblk m c 5 t (ix4 1 h 0 0))) :
    outV a b (grid0.coords t) (iblk m c 0 t) (iblk m c 1 t) v gf gb lf lb (iblk m c 6 t) x
      = head (fun r d => iblk m c 0 t (ix3 0 r (half h d))) (fun r d => iblk m c 1 t (ix3 0 r (half h d)))
        (fun r d => iblk m c 2 t (ix3 0 r (lane h d))) (fun r d => iblk m c 3 t (ix3 0 r (lane h d)))
        (fun r d => iblk m c 4 t (ix3 0 r (lane h d))) (iblk m c 5 t (ix4 0 h 0 0)) (iblk m c 5 t (ix4 1 h 0 0))
        (fun d => iblk m c 6 t (ix2 0 d)) r l := by
  have e : x = ix3 (0 : Fin 1) r l := by blk_ext
  rw [e, outV_apply hp _ _ _ _ _ _ _ _ _ _ _ hf hb]
  simp only [hv, hgf, hgb]

theorem keeps_low : Keeps 0#32 64#32 (half 0) := fun q k r s => by
  have e : half 0 = lo := funext fun d => Fin.ext (by show 64 * 0 + d.val = d.val; omega)
  rw [e]
  exact prod_low q k r s

theorem keeps_high : Keeps 64#32 128#32 (half 1) := fun q k r s => prod_high q k r s

theorem heads_cover {Val : EltTy → Type} {e : EltTy} (a b : S1x256x128.Idx → Val e) (y : S1x256x256.Idx) :
    ∃ p ∈ ([⟨rectHi, a⟩, ⟨rectLo, b⟩] : List (View.Piece Val S1x256x256 e)), y ∈ p.1.set :=
  View.cover_of_tiledL (s := S1x256x256) _ S1x256x128.size (by sl_kernel_rfl) y

/-- The result's window at a lane of a head. -/
theorem out8_apply (y : S1x256x256.Idx) (h : Fin 2) (r : Fin 256) (l : Fin 128) (hr : (y 1).val = r.val) (hl : (y 2).val = (lane h l).val) :
    (outsAt0 m c t).1 y = head (fun r d => iblk m c 0 t (ix3 0 r (half h d))) (fun r d => iblk m c 1 t (ix3 0 r (half h d)))
        (fun r d => iblk m c 2 t (ix3 0 r (lane h d))) (fun r d => iblk m c 3 t (ix3 0 r (lane h d)))
        (fun r d => iblk m c 4 t (ix3 0 r (lane h d))) (iblk m c 5 t (ix4 0 h 0 0)) (iblk m c 5 t (ix4 1 h 0 0))
        (fun d => iblk m c 6 t (ix2 0 d)) r l := by
  rw [out8_heads]
  have hl' : (y 2).val = 128 * h.val + l.val := hl
  have hh := h.isLt
  have hl2 := l.isLt
  canon_tiles x hx using heads_cover _ _ y
  · obtain rfl : h = 1 := Fin.ext (by show h.val = 1; omega)
    exact piece_apply m c t 1 keeps_high r l _ _ _ _ _ x (by omega) (by omega)
      (fun r d => by pointwise; blk_ext [lane]) (fun r d => by pointwise; blk_ext [lane]) (fun r d => by pointwise; blk_ext [lane])
      (dec01 _) (dec11 _)
  · obtain rfl : h = 0 := Fin.ext (by show h.val = 0; omega)
    exact piece_apply m c t 0 keeps_low r l _ _ _ _ _ x (by omega) (by omega)
      (fun r d => by pointwise; blk_ext [lane]) (fun r d => by pointwise; blk_ext [lane]) (fun r d => by pointwise; blk_ext [lane])
      (dec00 _) (dec10 _)

/-- Where one head's state of one direction lies in this layer's part, and in the block of both layers' parts. -/
abbrev rectIn (off : Fin 4 → Nat) (h : ∀ a, off a + ![1, 1, 64, 128] a ≤ S2x2x64x128.size a) : Rect S2x2x64x128 :=
  Rect.unit off ![1, 1, 64, 128] h
abbrev rectUp (off : Fin 4 → Nat) (h : ∀ a, off a + ![1, 1, 64, 128] a ≤ S2x2x64x128.size a) : Rect ⟨5, ![1, 2, 2, 64, 128]⟩ :=
  Rect.consLift (n := 4) (d := ![2, 2, 64, 128]) (rectIn off h) ![1, 2, 2, 64, 128] rfl (by decide)
abbrev rectSt (off : Fin 4 → Nat) (h : ∀ a, off a + ![1, 1, 64, 128] a ≤ S2x2x64x128.size a) : Rect S1x2x2x2x64x128 :=
  Rect.within (Rect.unit (s := S1x2x2x2x64x128) ![0, 1, 0, 0, 0, 0] ![1, 1, 2, 2, 64, 128] inb_S1x2x2x2x64x128_S1x1x2x2x64x128_0_1_0_0_0_0)
    (Rect.consLift (n := 5) (d := ![1, 2, 2, 64, 128]) (rectUp off h) ![1, 1, 2, 2, 64, 128] rfl (by decide)) (fun _ => rfl)

theorem numel_st (off : Fin 4 → Nat) (h : ∀ a, off a + ![1, 1, 64, 128] a ≤ S2x2x64x128.size a) :
    (rectSt off h).shape.numel = S1x1x64x128.numel :=
  (Rect.numel_consLift (rectUp off h) ![1, 1, 2, 2, 64, 128] rfl (by decide)).trans
    (Rect.numel_consLift (n := 4) (d := ![2, 2, 64, 128]) (rectIn off h) ![1, 2, 2, 64, 128] rfl (by decide))

/-- A state as the block's piece. -/
abbrev along {off : Fin 4 → Nat} {h : ∀ a, off a + ![1, 1, 64, 128] a ≤ S2x2x64x128.size a} (w : FVec Ideal S1x1x64x128 .f32) :
    (rectSt off h).shape.Idx → Ideal .f32 := fun y => w (Shape.reshapeEquiv (numel_st off h) y)

theorem out9_pieces : (outsAt0 m c t).2 = View.canon
    [⟨rectSt ![1, 1, 0, 0] inb_S2x2x64x128_S1x1x64x128_1_1_0_0, along (endV ![64, 0] slices_S128x128_o64_0_S64x128 (iblk m c 1 t) placeV
        (decAt ![1, 1, 0, 0] slices_S2x2x8x128_o1_1_0_0_S1x1x8x128 (iblk m c 5 t)) (View.ld (iblk m c 2 t) rectHi))⟩,
     ⟨rectSt ![0, 1, 0, 0] inb_S2x2x64x128_S1x1x64x128_0_1_0_0, along (endV ![64, 0] slices_S128x128_o64_0_S64x128 (iblk m c 1 t) downV
        (decAt ![0, 1, 0, 0] slices_S2x2x8x128_o0_1_0_0_S1x1x8x128 (iblk m c 5 t)) (View.ld (iblk m c 2 t) rectHi))⟩,
     ⟨rectSt ![1, 0, 0, 0] inb_S2x2x64x128_S1x1x64x128_1_0_0_0, along (endV ![0, 0] slices_S128x128_o0_0_S64x128 (iblk m c 1 t) placeV
        (decAt ![1, 0, 0, 0] slices_S2x2x8x128_o1_0_0_0_S1x1x8x128 (iblk m c 5 t)) (View.ld (iblk m c 2 t) rectLo))⟩,
     ⟨rectSt ![0, 0, 0, 0] inb_S2x2x64x128_S1x1x64x128_0_0_0_0, along (endV ![0, 0] slices_S128x128_o0_0_S64x128 (iblk m c 1 t) downV
        (decAt ![0, 0, 0, 0] slices_S2x2x8x128_o0_0_0_0_S1x1x8x128 (iblk m c 5 t)) (View.ld (iblk m c 2 t) rectLo))⟩,
     ⟨Rect.unit ![0, 0, 0, 0, 0, 0] ![1, 1, 2, 2, 64, 128] inb_S1x2x2x2x64x128_S1x1x2x2x64x128_0_0_0_0_0_0,
        k0_pay2 (iblk m c 7 t)⟩] := by
  unfold outsAt0
  dsimp only
  frame_out
  rfl

/-- A state's piece where it meets an entry: the entry's coordinates, and the value. -/
theorem along_at {off : Fin 4 → Nat} {h : ∀ a, off a + ![1, 1, 64, 128] a ≤ S2x2x64x128.size a} (w : FVec Ideal S1x1x64x128 .f32)
    (y : S1x2x2x2x64x128.Idx) (v : EReal) (H : ∀ (d : Fin 64) (e : Fin 128), (y 1).val = 1 → (y 2).val = off 0 → (y 3).val = off 1 →
      (y 4).val = off 2 + d.val → (y 5).val = off 3 + e.val → w (ix4 0 0 d e) = v) :
    View.RectAt (Val := Elt Ideal) (e := .f32) y (rectSt off h) (along w) v := by
  intro x hx
  have coord : ∀ a : Fin 6, (y a).val = (rectSt off h).off a + (rectSt off h).stride a * (x a).val := fun a => by
    rw [← hx]
    exact Rect.emb_apply _ _ _
  have c1 : (y 1).val = 1 + 0 + 1 * (x 1).val := coord 1
  have c2 : (y 2).val = 0 + off 0 + 1 * (x 2).val := coord 2
  have c3 : (y 3).val = 0 + off 1 + 1 * (x 3).val := coord 3
  have c4 : (y 4).val = 0 + off 2 + 1 * (x 4).val := coord 4
  have c5 : (y 5).val = 0 + off 3 + 1 * (x 5).val := coord 5
  have l1 : (x 1).val < 1 := (x 1).isLt
  have l2 : (x 2).val < 1 := (x 2).isLt
  have l3 : (x 3).val < 1 := (x 3).isLt
  have l4 : (x 4).val < 64 := (x 4).isLt
  have l5 : (x 5).val < 128 := (x 5).isLt
  refine Eq.trans ?_ (H ⟨(x 4).val, l4⟩ ⟨(x 5).val, l5⟩ (by omega) (by omega) (by omega) (by show _ = off 2 + (x 4).val; omega)
    (by show _ = off 3 + (x 5).val; omega))
  have e := Rect.payAlong_consLift (n := 4) (d := ![2, 2, 64, 128]) (rectIn off h) ![1, 2, 2, 64, 128] rfl (by decide) w
    (Rect.numel_consLift (n := 4) (d := ![2, 2, 64, 128]) (rectIn off h) ![1, 2, 2, 64, 128] rfl (by decide))
    (Shape.reshapeEquiv (Rect.numel_consLift (rectUp off h) ![1, 1, 2, 2, 64, 128] rfl (by decide)) x)
    (ix4 0 0 ⟨(x 4).val, l4⟩ ⟨(x 5).val, l5⟩) fun i => by
      rw [← Rect.reshapeEquiv_consLift_succ (rectUp off h) ![1, 1, 2, 2, 64, 128] rfl (by decide) x i.succ]
      fin_cases i
      · show 0 = (x 2).val; omega
      · show 0 = (x 3).val; omega
      · rfl
      · rfl
  refine Eq.trans (congrArg w ?_) e
  exact (Shape.reshapeEquiv_reshapeEquiv _ _ _).symm

theorem states_cover {p q r u : S1x1x64x128.Idx → Ideal .f32} {z : S1x1x2x2x64x128.Idx → Ideal .f32} (y : S1x2x2x2x64x128.Idx) :
    ∃ pc ∈ ([⟨rectSt ![1, 1, 0, 0] inb_S2x2x64x128_S1x1x64x128_1_1_0_0, along p⟩,
      ⟨rectSt ![0, 1, 0, 0] inb_S2x2x64x128_S1x1x64x128_0_1_0_0, along q⟩, ⟨rectSt ![1, 0, 0, 0] inb_S2x2x64x128_S1x1x64x128_1_0_0_0, along r⟩,
      ⟨rectSt ![0, 0, 0, 0] inb_S2x2x64x128_S1x1x64x128_0_0_0_0, along u⟩,
      ⟨Rect.unit ![0, 0, 0, 0, 0, 0] ![1, 1, 2, 2, 64, 128] inb_S1x2x2x2x64x128_S1x1x2x2x64x128_0_0_0_0_0_0, z⟩] :
        List (View.Piece (Elt Ideal) S1x2x2x2x64x128 .f32)), y ∈ pc.1.set :=
  View.cover_of_tiledBy (s := S1x2x2x2x64x128) _ ![1, 1, 1, 1, 64, 128] (by sl_kernel_rfl) y

/-- One head's last state, its slabs known. -/
theorem end_apply (h dir : Fin 2) (o : Fin 2 → Nat) (ho : S128x128.Slices o S64x128)
    (hp : ∀ (y : FVec Ideal S128x128 .f32) (d : Fin 64) (e : Fin 128), extractStridedSlice S64x128 o y ho (ix2 d e) = y (ix2 (half h d) e))
    (v : Vec Ideal S1x256x128 .f32) (p : FVec Ideal S256x1 .f32) (g : FVec Ideal S1x1 .f32)
    (hv : ∀ r d, v (ix3 0 r d) = iblk m c 2 t (ix3 0 r (lane h d))) (hg : g (ix2 0 0) = ls (iblk m c 5 t (ix4 dir h 0 0)))
    (hw : ∀ s, Ideal.exp (ls (iblk m c 5 t (ix4 dir h 0 0)) * p (ix2 s 0)) = endW dir (ls (iblk m c 5 t (ix4 dir h 0 0))) s)
    (d : Fin 64) (e : Fin 128) :
    endV o ho (iblk m c 1 t) p g v (ix4 0 0 d e) = state (endW dir (ls (iblk m c 5 t (ix4 dir h 0 0))))
      (keys fun r d => iblk m c 1 t (ix3 0 r (half h d))) (fun r d => iblk m c 2 t (ix3 0 r (lane h d))) d e := by
  rw [endV_apply o ho (half h) hp]
  simp only [hv, hg, hw]

theorem place_end (g : EReal) (s : Fin 256) : Ideal.exp (g * placeV (ix2 s 0)) = endW 1 g s := by
  rw [placeV_apply]
  rfl

theorem down_end (g : EReal) (s : Fin 256) : Ideal.exp (g * downV (ix2 s 0)) = endW 0 g s := by
  rw [downV_apply]
  rfl

theorem rows_low (y : FVec Ideal S128x128 .f32) (d : Fin 64) (e : Fin 128) :
    extractStridedSlice S64x128 ![0, 0] y slices_S128x128_o0_0_S64x128 (ix2 d e) = y (ix2 (half 0 d) e) := by
  rw [slice_low]
  congr 2
  exact Fin.ext (by show d.val = 64 * 0 + d.val; omega)

/-- The states' entry: the earlier layer's under 0, this layer's under 1. -/
def entry (s dir h : Fin 2) (d : Fin 64) (e : Fin 128) : EReal :=
  if s.val = 0 then iblk m c 7 t (ix5 0 dir h d e) else
    state (endW dir (ls (iblk m c 5 t (ix4 dir h 0 0)))) (keys fun r d => iblk m c 1 t (ix3 0 r (half h d)))
      (fun r d => iblk m c 2 t (ix3 0 r (lane h d))) d e

/-- A state of this layer is its window's entry. -/
theorem state_at (y : S1x2x2x2x64x128.Idx) (s dir h : Fin 2) (d : Fin 64) (e : Fin 128) (hs : (y 1).val = s.val) (hdir : (y 2).val = dir.val)
    (hh : (y 3).val = h.val) (hd : (y 4).val = d.val) (he : (y 5).val = e.val) {off : Fin 4 → Nat}
    {ho : ∀ a, off a + ![1, 1, 64, 128] a ≤ S2x2x64x128.size a} (dir' h' : Fin 2) (h0 : off 0 = dir'.val) (h1 : off 1 = h'.val)
    (h2 : off 2 = 0) (h3 : off 3 = 0) (w : FVec Ideal S1x1x64x128 .f32) (hw : ∀ d e, w (ix4 0 0 d e) = entry m c t 1 dir' h' d e) :
    View.RectAt (Val := Elt Ideal) (e := .f32) y (rectSt off ho) (along w) (entry m c t s dir h d e) := by
  refine along_at _ y _ fun d' e' k1 k2 k3 k4 k5 => ?_
  obtain rfl : s = 1 := Fin.ext (hs.symm.trans k1)
  obtain rfl : dir = dir' := Fin.ext (hdir.symm.trans (k2.trans h0))
  obtain rfl : h = h' := Fin.ext (hh.symm.trans (k3.trans h1))
  obtain rfl : d = d' := Fin.ext (by omega)
  obtain rfl : e = e' := Fin.ext (by omega)
  exact hw d e

/-- The states' window. -/
theorem out9_apply (y : S1x2x2x2x64x128.Idx) (s dir h : Fin 2) (d : Fin 64) (e : Fin 128)
    (hs : (y 1).val = s.val) (hdir : (y 2).val = dir.val) (hh : (y 3).val = h.val) (hd : (y 4).val = d.val) (he : (y 5).val = e.val) :
    (outsAt0 m c t).2 y = entry m c t s dir h d e := by
  rw [out9_pieces]
  refine View.canon_eq_of_allAt _ y _ (states_cover y) ?_
  refine View.allAt_cons _ _ _ (state_at m c t y s dir h d e hs hdir hh hd he 1 1 rfl rfl rfl rfl _
      (end_apply m c t 1 1 _ _ slice_high _ _ _ (fun r d => by pointwise; blk_ext [lane]) (dec11 _) (place_end _)))
    (View.allAt_cons _ _ _ (state_at m c t y s dir h d e hs hdir hh hd he 0 1 rfl rfl rfl rfl _
      (end_apply m c t 1 0 _ _ slice_high _ _ _ (fun r d => by pointwise; blk_ext [lane]) (dec01 _) (down_end _)))
    (View.allAt_cons _ _ _ (state_at m c t y s dir h d e hs hdir hh hd he 1 0 rfl rfl rfl rfl _
      (end_apply m c t 0 1 _ _ rows_low _ _ _ (fun r d => by pointwise; blk_ext [lane]) (dec10 _) (place_end _)))
    (View.allAt_cons _ _ _ (state_at m c t y s dir h d e hs hdir hh hd he 0 0 rfl rfl rfl rfl _
      (end_apply m c t 0 0 _ _ rows_low _ _ _ (fun r d => by pointwise; blk_ext [lane]) (dec00 _) (down_end _)))
    (View.allAt_cons_unit _ _ _ _ _ ?_ (View.allAt_nil _ _)))))
  · intro x hx
    have h0 : (y 1).val = 0 + (x 1).val := hx 1
    have h1 : (x 1).val < 1 := (x 1).isLt
    have h2 : (y 2).val = 0 + (x 2).val := hx 2
    have h3 : (y 3).val = 0 + (x 3).val := hx 3
    have h4 : (y 4).val = 0 + (x 4).val := hx 4
    have h5 : (y 5).val = 0 + (x 5).val := hx 5
    rw [entry, if_pos (by omega)]
    open_payloads
    idx_vars x
    pointwise
    blk_ext

end Cert.Ret
-- ==== Proof.Ret.Arrays.lean ====
module

public import proofs.«01_k».proof.Proof.Ret.Pieces

/-! The retention kernel's two result arrays after the run, in terms of the arrays it was given. -/

@[expose] public section

set_option maxRecDepth 16384

noncomputable section

namespace Cert.Ret

open Cert.RetIdeal Cert.RetIdeal.Gen Idealize.ShloMosaic Idealize.ShloMosaic.TcCoe Idealize.SL.Sem Cert.Common
open Cert.Diff (slabOf slab headOf laneOf Tokens)

variable (m : (ℓ : Loc nD τ sig) → Buf (Elt Ideal) ℓ) (c : Dev nD)

/-- Where each window's block lies at a grid point. -/
theorem idx0 : ∀ t : Fin cfg0.N, win0_0.index t = ![t.val / 2, 0, 12 + t.val % 2] ∧ win0_1.index t = ![t.val / 2, 0, 14 + t.val % 2]
    ∧ win0_2.index t = ![t.val / 2, 0, 8 + t.val % 2] ∧ win0_3.index t = ![t.val / 2, 0, 10 + t.val % 2]
    ∧ win0_4.index t = ![t.val / 2, 0, 12 + t.val % 2] ∧ win0_5.index t = ![0, t.val % 2, 0, 0] ∧ win0_6.index t = ![0, 0]
    ∧ win0_7.index t = ![t.val / 2, 0, t.val % 2, 0, 0] ∧ win0_8.index t = ![t.val / 2, 0, t.val % 2]
    ∧ win0_9.index t = ![t.val / 2, 0, 0, t.val % 2, 0, 0] :=
  (by decide +kernel : ∀ t : Fin grid0.N, _)

/-- The prompt of a grid point, and its two heads. -/
def promptOf (t : Fin cfg0.N) : Fin 32 := ⟨t.val / 2, by
  have h : t.val < 64 := t.isLt
  omega⟩
def headAt (t : Fin cfg0.N) (h : Fin 2) : Fin 4 := ⟨2 * (t.val % 2) + h.val, by omega⟩

theorem blk_q (t : Fin cfg0.N) (r : Fin 256) (h : Fin 2) (d : Fin 64) : iblk m c 0 t (ix3 0 r (half h d))
    = colsOf (m ((c : Thread nD τ).loc main_arg0)) 1536 (by omega) (promptOf t) (headAt t h) r d := by
  unfold colsOf
  blk_ext [iblk, V, idx0 t, half, col, promptOf, headAt]

theorem blk_k (t : Fin cfg0.N) (r : Fin 256) (h : Fin 2) (d : Fin 64) : iblk m c 1 t (ix3 0 r (half h d))
    = colsOf (m ((c : Thread nD τ).loc main_arg0)) 1792 (by omega) (promptOf t) (headAt t h) r d := by
  unfold colsOf
  blk_ext [iblk, V, idx0 t, half, col, promptOf, headAt]

theorem blk_v (t : Fin cfg0.N) (r : Fin 256) (h : Fin 2) (d : Fin 128) : iblk m c 2 t (ix3 0 r (lane h d))
    = slabOf (m ((c : Thread nD τ).loc main_arg0)) 2048 (by omega) (promptOf t) (headAt t h) r d := by
  unfold slabOf
  blk_ext [iblk, V, idx0 t, lane, slab, promptOf, headAt]

theorem blk_gf (t : Fin cfg0.N) (r : Fin 256) (h : Fin 2) (d : Fin 128) : iblk m c 3 t (ix3 0 r (lane h d))
    = slabOf (m ((c : Thread nD τ).loc main_arg0)) 2560 (by omega) (promptOf t) (headAt t h) r d := by
  unfold slabOf
  blk_ext [iblk, V, idx0 t, lane, slab, promptOf, headAt]

theorem blk_gb (t : Fin cfg0.N) (r : Fin 256) (h : Fin 2) (d : Fin 128) : iblk m c 4 t (ix3 0 r (lane h d))
    = slabOf (m ((c : Thread nD τ).loc main_arg0)) 3072 (by omega) (promptOf t) (headAt t h) r d := by
  unfold slabOf
  blk_ext [iblk, V, idx0 t, lane, slab, promptOf, headAt]

theorem blk_dec (t : Fin cfg0.N) (dir h : Fin 2) : iblk m c 5 t (ix4 dir h 0 0)
    = m ((c : Thread nD τ).loc main_arg2) (ix2 dir (headAt t h)) := by
  blk_ext! [iblk, V, idx0 t, headAt]

theorem blk_gain (t : Fin cfg0.N) (d : Fin 128) : iblk m c 6 t (ix2 0 d) = m ((c : Thread nD τ).loc main_arg3) (ix1 d) := by
  blk_ext! [iblk, V, idx0 t]

theorem blk_prev (t : Fin cfg0.N) (dir h : Fin 2) (d : Fin 64) (e : Fin 128) : iblk m c 7 t (ix5 0 dir h d e)
    = m ((c : Thread nD τ).loc main_arg1) (ix5 (promptOf t) dir (headAt t h) d e) := by
  blk_ext [iblk, V, idx0 t, promptOf, headAt]

/-- The head of a lane among two heads' lanes. -/
def pairHead (j : Fin 256) : Fin 2 := ⟨j.val / 128, by omega⟩
def pairLane (j : Fin 256) : Fin 128 := ⟨j.val % 128, by omega⟩

/-- Column of the result's array a block's lane is. -/
def place (t : Fin cfg0.N) (j : Fin 256) : Fin 512 := ⟨256 * (t.val % 2) + j.val, by omega⟩

theorem place_head (t : Fin cfg0.N) (j : Fin 256) : headOf (place t j) = headAt t (pairHead j) :=
  Fin.ext (by show (256 * (t.val % 2) + j.val) / 128 = 2 * (t.val % 2) + j.val / 128; omega)
theorem place_lane (t : Fin cfg0.N) (j : Fin 256) : laneOf (place t j) = pairLane j :=
  Fin.ext (by show (256 * (t.val % 2) + j.val) % 128 = j.val % 128; omega)

/-- What one grid point leaves in the first result's block. -/
theorem block8 (t : Fin cfg0.N) (y : S1x256x256.Idx) (r j : Fin 256) (hr : (y 1).val = r.val) (hj : (y 2).val = j.val) :
    (outsAt0 m c t).1 y = retained (m ((c : Thread nD τ).loc main_arg0))
    (m ((c : Thread nD τ).loc main_arg2)) (m ((c : Thread nD τ).loc main_arg3)) (ix3 (promptOf t) r (place t j)) := by
  rw [out8_apply m c t y (pairHead j) r (pairLane j) hr
    (hj.trans (by show j.val = 128 * (j.val / 128) + j.val % 128; omega)),
    retained_apply _ _ _ _ _ _ _ _ (place_head t j) (place_lane t j)]
  simp only [blk_q, blk_k, blk_v, blk_gf, blk_gb, blk_dec, blk_gain]

/-- The first result array after the run. -/
theorem arr8 : (dats m 0 c).arrAt 8 cfg0.N = retained (m ((c : Thread nD τ).loc main_arg0)) (m ((c : Thread nD τ).loc main_arg2))
    (m ((c : Thread nD τ).loc main_arg3)) := by
  refine (dats m 0 c).arrAt_eq_of_covers 8 _ (by decide +kernel) fun t hf y => ?_
  blk_simp
  rw [after0_8]
  refine (block8 m c t y (y 1) (y 2) rfl rfl).trans (congrArg _ ?_)
  blk_ext [idx0 t, promptOf, place]

/-- What one grid point leaves in the states' block. -/
theorem block9 (t : Fin cfg0.N) (y) (s dir h : Fin 2) (d : Fin 64) (e : Fin 128) (hs : (y 1).val = s.val)
    (hdir : (y 2).val = dir.val) (hh : (y 3).val = h.val) (hd : (y 4).val = d.val) (he : (y 5).val = e.val) : (outsAt0 m c t).2 y
    = states (m ((c : Thread nD τ).loc main_arg1)) (m ((c : Thread nD τ).loc main_arg0)) (m ((c : Thread nD τ).loc main_arg2))
        (ix6 (promptOf t) s dir (headAt t h) d e) := by
  rw [out9_apply m c t y s dir h d e hs hdir hh hd he, states_apply]
  unfold entry ended
  simp only [blk_prev, blk_k, blk_v, blk_dec]

/-- The states' array after the run. -/
theorem arr9 : (dats m 0 c).arrAt 9 cfg0.N = states (m ((c : Thread nD τ).loc main_arg1)) (m ((c : Thread nD τ).loc main_arg0))
    (m ((c : Thread nD τ).loc main_arg2)) := by
  refine (dats m 0 c).arrAt_eq_of_covers 9 _ (by decide +kernel) fun t hf y => ?_
  blk_simp
  rw [after0_9]
  refine (block9 m c t y (y 1) (y 2) (y 3) (y 4) (y 5) rfl rfl rfl rfl rfl).trans (congrArg _ ?_)
  blk_ext [idx0 t, promptOf, headAt]

end Cert.Ret
-- ==== Proof.Ret.Scan.lean ====
module

public import proofs.«01_k».proof.Proof.Gen.RetRefIdeal.Read
public import proofs.«01_k».proof.Proof.Ret.Spec
public import Idealize.ShloMosaic.Lib.Pipeline.ValueKit

/-! The reference's chunked scan of one direction as a function of its rows and its decays, entry by entry. -/

@[expose] public section

set_option maxRecDepth 16384

noncomputable section

namespace Cert.Ret.Ref

open Cert.RetRefIdeal Cert.RetRefIdeal.Gen Idealize.ShloMosaic Idealize.ShloMosaic.TcCoe
open Cert.Common

/-- The places in a chunk. -/
def posV : FVec Ideal S64 .f32 := sitofp .f32 (iotaInDim S64 32 0)

/-- The zero. -/
def zeroV : FVec Ideal S_ .f32 := constant S_ .f32 0x00000000#32

/-- The gaps between places. -/
def gapV : FVec Ideal S64x64 .f32 :=
  subf (broadcastInDim S64x64 ![0, 1] bcast_S64x1_S64x64_0_1 (broadcastInDim S64x1 ![0] bcast_S64_S64x1_0 posV))
    (broadcastInDim S64x64 ![0, 1] bcast_S1x64_S64x64_0_1 (broadcastInDim S1x64 ![1] bcast_S64_S1x64_1 posV))

/-- The decays as a column. -/
def colV (lg : FVec Ideal S4 .f32) : FVec Ideal S4x1 .f32 := broadcastInDim S4x1 ![0] bcast_S4_S4x1_0 lg

/-- The weights inside a chunk. -/
def intraV (lg : FVec Ideal S4 .f32) : FVec Ideal S4x64x64 .f32 :=
  select (broadcastInDim S4x64x64 ![1, 2] bcast_S64x64_S4x64x64_1_2 (cmpf .oge gapV (broadcastInDim S64x64 ![] bcast_S_S64x64 zeroV)))
    (Host.exp (mulf (broadcastInDim S4x64x64 ![0, 1, 2] bcast_S4x1x1_S4x64x64_0_1_2
        (broadcastInDim S4x1x1 ![0, 1] bcast_S4x1_S4x1x1_0_1 (colV lg)))
      (broadcastInDim S4x64x64 ![0, 1, 2] bcast_S1x64x64_S4x64x64_0_1_2 (broadcastInDim S1x64x64 ![1, 2] bcast_S64x64_S1x64x64_1_2
        (maximumf gapV (broadcastInDim S64x64 ![] bcast_S_S64x64 zeroV))))))
    (broadcastInDim S4x64x64 ![] bcast_S_S4x64x64 (id zeroV))

/-- The exponentials of the decays times a number per place. -/
def decV (lg : FVec Ideal S4 .f32) (p : FVec Ideal S64 .f32) : FVec Ideal S1x4x64x1 .f32 :=
  broadcastInDim S1x4x64x1 ![1, 2] bcast_S4x64_S1x4x64x1_1_2 (Host.exp (mulf
    (broadcastInDim S4x64 ![0, 1] bcast_S4x1_S4x64_0_1 (colV lg))
    (broadcastInDim S4x64 ![0, 1] bcast_S1x64_S4x64_0_1 (broadcastInDim S1x64 ![1] bcast_S64_S1x64_1 p))))

/-- One more than the place, and what is left of the chunk behind it. -/
def sinceV : FVec Ideal S64 .f32 := addf posV (broadcastInDim S64 ![] bcast_S_S64 (constant S_ .f32 0x3F800000#32))
def leftV : FVec Ideal S64 .f32 := subf (broadcastInDim S64 ![] bcast_S_S64 (constant S_ .f32 0x427C0000#32)) posV

/-- The decay over a whole chunk. -/
def wholeV (lg : FVec Ideal S4 .f32) : FVec Ideal S1x4x1x1 .f32 :=
  broadcastInDim S1x4x1x1 ![1, 2] bcast_S4x1_S1x4x1x1_1_2 (Host.exp (mulf (colV lg)
    (broadcastInDim S4x1 ![] bcast_S_S4x1 (constant S_ .f32 0x42800000#32))))

/-- The scaled keys. -/
def keyV (k : FVec Ideal S32x4x256x64 .f32) : FVec Ideal S32x4x256x64 .f32 :=
  mulf k (broadcastInDim S32x4x256x64 ![] bcast_S_S32x4x256x64 (constant S_ .f32 0x3E000000#32))

theorem sliceK : ∀ c : Fin 4, S4x32x4x64x64.Slices ![c.val, 0, 0, 0, 0] S1x32x4x64x64
  | 0 => slices_S4x32x4x64x64_S1x32x4x64x64_0_0_0_0_0
  | 1 => slices_S4x32x4x64x64_S1x32x4x64x64_1_0_0_0_0
  | 2 => slices_S4x32x4x64x64_S1x32x4x64x64_2_0_0_0_0
  | 3 => slices_S4x32x4x64x64_S1x32x4x64x64_3_0_0_0_0

theorem sliceV : ∀ c : Fin 4, S4x32x4x64x128.Slices ![c.val, 0, 0, 0, 0] S1x32x4x64x128
  | 0 => slices_S4x32x4x64x128_S1x32x4x64x128_0_0_0_0_0
  | 1 => slices_S4x32x4x64x128_S1x32x4x64x128_1_0_0_0_0
  | 2 => slices_S4x32x4x64x128_S1x32x4x64x128_2_0_0_0_0
  | 3 => slices_S4x32x4x64x128_S1x32x4x64x128_3_0_0_0_0

/-- One chunk of the keys or queries, and of the values. -/
def pickK (c : Fin 4) (x : FVec Ideal S32x4x256x64 .f32) : FVec Ideal S32x4x64x64 .f32 :=
  shapeCast _ (extractStridedSlice S1x32x4x64x64 ![c.val, 0, 0, 0, 0] (transpose S4x32x4x64x64 [2, 0, 1, 3, 4]
    (shapeCast S32x4x4x64x64 x shapeCasts_S32x4x256x64_S32x4x4x64x64) transposes_S32x4x4x64x64_S4x32x4x64x64_2_0_1_3_4) (sliceK c))
    shapeCasts_S1x32x4x64x64_S32x4x64x64
def pickV (c : Fin 4) (x : FVec Ideal S32x4x256x128 .f32) : FVec Ideal S32x4x64x128 .f32 :=
  shapeCast _ (extractStridedSlice S1x32x4x64x128 ![c.val, 0, 0, 0, 0] (transpose S4x32x4x64x128 [2, 0, 1, 3, 4]
    (shapeCast S32x4x4x64x128 x shapeCasts_S32x4x256x128_S32x4x4x64x128) transposes_S32x4x4x64x128_S4x32x4x64x128_2_0_1_3_4) (sliceV c))
    shapeCasts_S1x32x4x64x128_S32x4x64x128

/-- One step's result. -/
def outV (lg : FVec Ideal S4 .f32) (q k : FVec Ideal S32x4x64x64 .f32) (v S : FVec Ideal S32x4x64x128 .f32) : FVec Ideal S32x4x64x128 .f32 :=
  addf (Host.dotGeneral dot_S32x4x64x64_S32x4x64x128_S32x4x64x128_3_2_2_3_01_01 none
      (mulf (Host.dotGeneral dot_S32x4x64x64_S32x4x64x64_S32x4x64x64_3_3_2_2_01_01 none q k)
        (broadcastInDim S32x4x64x64 ![0, 1, 2, 3] bcast_S1x4x64x64_S32x4x64x64_0_1_2_3
          (broadcastInDim S1x4x64x64 ![1, 2, 3] bcast_S4x64x64_S1x4x64x64_1_2_3 (intraV lg)))) v)
    (Host.dotGeneral dot_S32x4x64x64_S32x4x64x128_S32x4x64x128_3_2_2_3_01_01 none
      (mulf q (broadcastInDim S32x4x64x64 ![0, 1, 2, 3] bcast_S1x4x64x1_S32x4x64x64_0_1_2_3 (decV lg sinceV))) S)

/-- One step's state. -/
def nextV (lg : FVec Ideal S4 .f32) (k : FVec Ideal S32x4x64x64 .f32) (v S : FVec Ideal S32x4x64x128 .f32) : FVec Ideal S32x4x64x128 .f32 :=
  addf (mulf S (broadcastInDim S32x4x64x128 ![0, 1, 2, 3] bcast_S1x4x1x1_S32x4x64x128_0_1_2_3 (wholeV lg)))
    (Host.dotGeneral dot_S32x4x64x64_S32x4x64x128_S32x4x64x128_2_2_3_3_01_01 none
      (mulf k (broadcastInDim S32x4x64x64 ![0, 1, 2, 3] bcast_S1x4x64x1_S32x4x64x64_0_1_2_3 (decV lg leftV))) v)

/-- The chunks' results side by side. -/
def joinV (o : Fin 4 → FVec Ideal S32x4x64x128 .f32) : FVec Ideal S32x4x256x128 .f32 :=
  shapeCast _ (transpose S32x4x4x64x128 [1, 2, 0, 3, 4] (concatenate S4x32x4x64x128 0
    [⟨S1x32x4x64x128, broadcastInDim S1x32x4x64x128 ![1, 2, 3, 4] bcast_S32x4x64x128_S1x32x4x64x128_1_2_3_4 (o 0)⟩,
      ⟨S1x32x4x64x128, broadcastInDim S1x32x4x64x128 ![1, 2, 3, 4] bcast_S32x4x64x128_S1x32x4x64x128_1_2_3_4 (o 1)⟩,
      ⟨S1x32x4x64x128, broadcastInDim S1x32x4x64x128 ![1, 2, 3, 4] bcast_S32x4x64x128_S1x32x4x64x128_1_2_3_4 (o 2)⟩,
      ⟨S1x32x4x64x128, broadcastInDim S1x32x4x64x128 ![1, 2, 3, 4] bcast_S32x4x64x128_S1x32x4x64x128_1_2_3_4 (o 3)⟩]
    concatenates_S1x32x4x64x128_S1x32x4x64x128_S1x32x4x64x128_S1x32x4x64x128_S4x32x4x64x128_d0)
    transposes_S4x32x4x64x128_S32x4x4x64x128_1_2_0_3_4) shapeCasts_S32x4x4x64x128_S32x4x256x128

/-- The state before chunk `n`. -/
def stV (lg : FVec Ideal S4 .f32) (k : FVec Ideal S32x4x256x64 .f32) (v : FVec Ideal S32x4x256x128 .f32) : ℕ → FVec Ideal S32x4x64x128 .f32
  | 0 => broadcastInDim S32x4x64x128 ![] bcast_S_S32x4x64x128 zeroV
  | n + 1 => nextV lg (pickK (Fin.ofNat 4 n) (keyV k)) (pickV (Fin.ofNat 4 n) v) (stV lg k v n)

/-- The scan's results. -/
def scanV (lg : FVec Ideal S4 .f32) (q k : FVec Ideal S32x4x256x64 .f32) (v : FVec Ideal S32x4x256x128 .f32) : FVec Ideal S32x4x256x128 .f32 :=
  joinV fun c => outV lg (pickK c q) (pickK c (keyV k)) (pickV c v) (stV lg k v c.val)

theorem word_63 : Ideal.ofBits .f32 0x427C0000#32 = ((63 : ℝ) : EReal) := by
  have a : 1115422720 >>> 23 % 256 = 132 := by decide
  have b : ¬ BitVec.extractLsb' 31 1 1115422720#32 = 1#1 := by decide
  simp only [Ideal.ofBits, Ideal.ieee, BitVec.extractLsb'_toNat, BitVec.toNat_ofNat]
  norm_num [a, b]

theorem word_64 : Ideal.ofBits .f32 0x42800000#32 = ((64 : ℝ) : EReal) := by
  have a : 1115684864 >>> 23 % 256 = 133 := by decide
  have b : ¬ BitVec.extractLsb' 31 1 1115684864#32 = 1#1 := by decide
  simp only [Ideal.ofBits, Ideal.ieee, BitVec.extractLsb'_toNat, BitVec.toNat_ofNat]
  norm_num [a, b]

theorem posV_apply (i : Fin 64) : posV (ix1 i) = ((i.val : ℝ) : EReal) := by
  pointwise [posV]
  exact place_word ⟨i.val, by omega⟩

theorem gapV_apply (i j : Fin 64) : gapV (ix2 i j) = (((i.val : ℝ) - (j.val : ℝ) : ℝ) : EReal) := by
  pointwise [gapV]
  rw [posV_apply, posV_apply, EReal.coe_sub]

theorem intraV_apply (lg : FVec Ideal S4 .f32) (h : Fin 4) (i j : Fin 64) : intraV lg (ix3 h i j) = w (lg (ix1 h)) i.val j.val := by
  pointwise [intraV, colV, zeroV, id_eq]
  rw [gapV_apply]
  exact gap_weight _ _ _

theorem decV_apply (lg : FVec Ideal S4 .f32) (p : FVec Ideal S64 .f32) (h : Fin 4) (i : Fin 64) (a b : Fin 1) :
    decV lg p (ix4 a h i b) = Ideal.exp (lg (ix1 h) * p (ix1 i)) := by
  pointwise [decV, colV]

theorem sinceV_apply (i : Fin 64) : sinceV (ix1 i) = ((i.val + 1 : ℝ) : EReal) := by
  pointwise [sinceV]
  rw [posV_apply, EReal.coe_add]
  rfl

theorem leftV_apply (i : Fin 64) : leftV (ix1 i) = ((63 - (i.val : ℝ) : ℝ) : EReal) := by
  pointwise [leftV]
  rw [posV_apply, word_63, EReal.coe_sub]

theorem wholeV_apply (lg : FVec Ideal S4 .f32) (h : Fin 4) (a b c : Fin 1) :
    wholeV lg (ix4 a h b c) = Ideal.exp (lg (ix1 h) * ((64 : ℝ) : EReal)) := by
  pointwise [wholeV, colV]
  rw [word_64]

theorem pickK_apply (c : Fin 4) (x : FVec Ideal S32x4x256x64 .f32) (b : Fin 32) (h : Fin 4) (i d : Fin 64) :
    pickK c x (ix4 b h i d) = x (ix4 b h (at' c i) d) := by
  pointwise [pickK]
  blk_ext [at']

theorem pickV_apply (c : Fin 4) (x : FVec Ideal S32x4x256x128 .f32) (b : Fin 32) (h : Fin 4) (i : Fin 64) (e : Fin 128) :
    pickV c x (ix4 b h i e) = x (ix4 b h (at' c i) e) := by
  pointwise [pickV]
  blk_ext [at']

theorem keyV_apply (k : FVec Ideal S32x4x256x64 .f32) (b : Fin 32) (h : Fin 4) (s : Fin 256) (d : Fin 64) :
    keyV k (ix4 b h s d) = k (ix4 b h s d) * Ideal.ofBits .f32 0x3E000000#32 := by
  pointwise [keyV]

theorem outV_apply (lg : FVec Ideal S4 .f32) (q k : FVec Ideal S32x4x64x64 .f32) (v S : FVec Ideal S32x4x64x128 .f32) (b : Fin 32)
    (h : Fin 4) (i : Fin 64) (e : Fin 128) : outV lg q k v S (ix4 b h i e)
    = (∑ j : Fin 64, ((∑ d : Fin 64, q (ix4 b h i d) * k (ix4 b h j d)) * w (lg (ix1 h)) i.val j.val) * v (ix4 b h j e))
      + ∑ d : Fin 64, (q (ix4 b h i d) * Ideal.exp (lg (ix1 h) * ((i.val + 1 : ℝ) : EReal))) * S (ix4 b h d e) := by
  pointwise [outV, intraV_apply, decV_apply, sinceV_apply]

theorem nextV_apply (lg : FVec Ideal S4 .f32) (k : FVec Ideal S32x4x64x64 .f32) (v S : FVec Ideal S32x4x64x128 .f32) (b : Fin 32)
    (h : Fin 4) (d : Fin 64) (e : Fin 128) : nextV lg k v S (ix4 b h d e)
    = S (ix4 b h d e) * Ideal.exp (lg (ix1 h) * ((64 : ℝ) : EReal))
      + ∑ j : Fin 64, (k (ix4 b h j d) * Ideal.exp (lg (ix1 h) * ((63 - (j.val : ℝ) : ℝ) : EReal))) * v (ix4 b h j e) := by
  pointwise [nextV, wholeV_apply, decV_apply, leftV_apply]

theorem joinV_apply (o : Fin 4 → FVec Ideal S32x4x64x128 .f32) (b : Fin 32) (h : Fin 4) (t : Fin 256) (e : Fin 128) :
    joinV o (ix4 b h t e) = o (chunkOf t) (ix4 b h (within t) e) := by
  have key : ∀ c : Fin 4, t.val / 64 = c.val → o c (ix4 b h (within t) e) = o (chunkOf t) (ix4 b h (within t) e) :=
    fun c hc => congrArg (fun c => o c (ix4 b h (within t) e)) (Fin.ext hc.symm)
  unfold joinV
  pointwise
  split
  · exact key 0 (by show _ = 0; omega)
  split
  · exact key 1 (by show _ = 1; omega)
  split
  · exact key 2 (by show _ = 2; omega)
  · exact key 3 (by show _ = 3; omega)

variable (lg : FVec Ideal S4 .f32) (q k : FVec Ideal S32x4x256x64 .f32) (v : FVec Ideal S32x4x256x128 .f32) (b : Fin 32) (h : Fin 4)

/-- One head's rows of an array of keys or queries, and of values. -/
abbrev rowsK (x : FVec Ideal S32x4x256x64 .f32) : Fin 256 → Fin 64 → EReal := fun s d => x (ix4 b h s d)
abbrev rowsV (x : FVec Ideal S32x4x256x128 .f32) : Fin 256 → Fin 128 → EReal := fun s e => x (ix4 b h s e)

/-- The state before a chunk, entry by entry. -/
theorem stV_apply (n : ℕ) (hn : n ≤ 4) (d : Fin 64) (e : Fin 128) : stV lg k v n (ix4 b h d e)
    = st (lg (ix1 h)) (keys (rowsK b h k)) (rowsV b h v) n d e := by
  induction n generalizing d e with
  | zero => pointwise [stV, zeroV]; rfl
  | succ n ih =>
    have hc : Fin.ofNat 4 n = ⟨n, by omega⟩ := Fin.ext (Nat.mod_eq_of_lt (by omega))
    rw [stV, st, dif_pos (show n < 4 by omega), nextV_apply, hc, ih (by omega)]
    simp only [pickK_apply, pickV_apply, keyV_apply]
    rfl

variable (hg : IsNum (lg (ix1 h)) ∨ lg (ix1 h) = ⊥) (hk : ∀ s d, IsNum (k (ix4 b h s d))) (hv : ∀ s e, IsNum (v (ix4 b h s e)))
include hg hk hv

/-- The last state is the state after all places. -/
theorem last_apply (d : Fin 64) (e : Fin 128) : stV lg k v 4 (ix4 b h d e)
    = state (lastW (lg (ix1 h))) (keys (rowsK b h k)) (rowsV b h v) d e :=
  (stV_apply lg k v b h 4 le_rfl d e).trans (last_eq hg (keys_num hk) hv d e)

/-- The scan's result is the decayed sum up to each place. -/
theorem scanV_apply (hq : ∀ s d, IsNum (q (ix4 b h s d))) (t : Fin 256) (e : Fin 128) : scanV lg q k v (ix4 b h t e)
    = mix (fore (lg (ix1 h))) (rowsK b h q) (keys (rowsK b h k)) (rowsV b h v) t e := by
  unfold scanV
  rw [joinV_apply, outV_apply]
  simp only [pickK_apply, pickV_apply, keyV_apply, stV_apply lg k v b h _ (chunkOf t).isLt.le]
  refine (out_eq hg hq (keys_num hk) hv (chunkOf t) (within t) e).trans ?_
  rw [at_within]
  rfl

end Cert.Ret.Ref
-- ==== Proof.Ret.Reference.lean ====
module

public import proofs.«01_k».proof.Proof.Ret.Scan

/-! The reference's two results: the gated retention of both directions, and the earlier layer's states over this
layer's. -/

@[expose] public section

set_option maxRecDepth 16384

noncomputable section

namespace Cert.Ret.Ref

open Cert.RetRefIdeal Cert.RetRefIdeal.Gen Cert.RetRefIdeal.Value Cert.RetRefIdeal.Read Idealize.ShloMosaic Idealize.ShloMosaic.TcCoe
open Cert.Common
open Cert.Diff (slabOf slab headOf laneOf)

variable (x0 : FVec Ideal S32x256x8192 .f32) (x1 : FVec Ideal S32x2x4x64x128 .f32) (x2 : FVec Ideal S2x4 .f32) (x3 : FVec Ideal S128 .f32)

theorem v5_at (b : Fin 32) (h : Fin 4) (r : Fin 256) (d : Fin 64) :
    val_main_v5 (F := Ideal) x0 (ix4 b h r d) = colsOf x0 1536 (by omega) b h r d := by
  rw [val_main_v5_apply, val_main_v4_apply, val_main_v0_apply]
  unfold colsOf
  blk_ext [col]

theorem v7_at (b : Fin 32) (h : Fin 4) (r : Fin 256) (d : Fin 64) :
    val_main_v7 (F := Ideal) x0 (ix4 b h r d) = colsOf x0 1792 (by omega) b h r d := by
  rw [val_main_v7_apply, val_main_v6_apply, val_main_v1_apply]
  unfold colsOf
  blk_ext [col]

theorem v9_at (b : Fin 32) (h : Fin 4) (r : Fin 256) (e : Fin 128) :
    val_main_v9 (F := Ideal) x0 (ix4 b h r e) = slabOf x0 2048 (by omega) b h r e := by
  rw [val_main_v9_apply, val_main_v8_apply, val_main_v2_apply]
  unfold slabOf
  blk_ext [slab]

/-- The decay's logarithm: no value differs from itself. -/
theorem v10_at (a : Fin 2) (h : Fin 4) : val_main_v10 (F := Ideal) x2 (ix2 a h) = ls (x2 (ix2 a h)) := by
  pointwise [val_main_v10, val_main_call0_v1, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst,
    val_main_call0_v0]
  rw [if_neg (not_not.2 rfl)]
  have a : FloatOps.absf (F := Ideal) (φ := .f32) (-x2 (ix2 a h)) = FloatOps.absf (F := Ideal) (φ := .f32) (x2 (ix2 a h)) := by
    show max (-x2 (ix2 a h)) (- -x2 (ix2 a h)) = max (x2 (ix2 a h)) (-x2 (ix2 a h))
    rw [neg_neg, max_comm]
  unfold ls
  rw [a]
  simp only [zero_sub]

theorem v14_at (h : Fin 4) : val_main_v14 (F := Ideal) x2 (ix1 h) = ls (x2 (ix2 0 h)) := by
  rw [val_main_v14_apply, val_main_v13_apply]
  refine Eq.trans (congrArg _ ?_) (v10_at x2 0 h)
  blk_ext

theorem v156_at (h : Fin 4) : val_main_v156 (F := Ideal) x2 (ix1 h) = ls (x2 (ix2 1 h)) := by
  rw [val_main_v156_apply, val_main_v155_apply]
  refine Eq.trans (congrArg _ ?_) (v10_at x2 1 h)
  blk_ext

theorem rev_at (n : Nat) (x : FVec Ideal (⟨4, ![32, 4, 256, n]⟩ : Shape) .f32) (b : Fin 32) (h : Fin 4) (r : Fin 256) (d : Fin n) :
    Host.reverse [2] x (ix4 b h r d) = x (ix4 b h (Fin.rev r) d) := by
  pointwise
  refine congrArg x (funext fun a => ?_)
  fin_cases a <;> rfl

/-! The two scans. -/

theorem v151_eq : val_main_v151 (F := Ideal) x0 x2 = scanV (val_main_v14 (F := Ideal) x2) (val_main_v5 (F := Ideal) x0)
    (val_main_v7 (F := Ideal) x0) (val_main_v9 (F := Ideal) x0) := rfl

theorem v144_eq : val_main_v144 (F := Ideal) x0 x2 = stV (val_main_v14 (F := Ideal) x2)
    (val_main_v7 (F := Ideal) x0) (val_main_v9 (F := Ideal) x0) 4 := rfl

theorem v293_eq : val_main_v293 (F := Ideal) x0 x2 = scanV (val_main_v156 (F := Ideal) x2) (val_main_v152 (F := Ideal) x0)
    (val_main_v153 (F := Ideal) x0) (val_main_v154 (F := Ideal) x0) := rfl

theorem v286_eq : val_main_v286 (F := Ideal) x0 x2 = stV (val_main_v156 (F := Ideal) x2)
    (val_main_v153 (F := Ideal) x0) (val_main_v154 (F := Ideal) x0) 4 := rfl

/-! The two directions of a head. -/

theorem rows_q (b : Fin 32) (h : Fin 4) : rowsK b h (val_main_v5 (F := Ideal) x0) = colsOf x0 1536 (by omega) b h :=
  funext fun s => funext fun d => v5_at x0 b h s d
theorem rows_k (b : Fin 32) (h : Fin 4) : rowsK b h (val_main_v7 (F := Ideal) x0) = colsOf x0 1792 (by omega) b h :=
  funext fun s => funext fun d => v7_at x0 b h s d
theorem rows_v (b : Fin 32) (h : Fin 4) : rowsV b h (val_main_v9 (F := Ideal) x0) = slabOf x0 2048 (by omega) b h :=
  funext fun s => funext fun e => v9_at x0 b h s e
theorem rev_q (b : Fin 32) (h : Fin 4) : rowsK b h (val_main_v152 (F := Ideal) x0) = fun s => colsOf x0 1536 (by omega) b h (Fin.rev s) :=
  funext fun s => funext fun d => (rev_at 64 _ b h s d).trans (v5_at x0 b h (Fin.rev s) d)
theorem rev_k (b : Fin 32) (h : Fin 4) : rowsK b h (val_main_v153 (F := Ideal) x0) = fun s => colsOf x0 1792 (by omega) b h (Fin.rev s) :=
  funext fun s => funext fun d => (rev_at 64 _ b h s d).trans (v7_at x0 b h (Fin.rev s) d)
theorem rev_v (b : Fin 32) (h : Fin 4) : rowsV b h (val_main_v154 (F := Ideal) x0) = fun s => slabOf x0 2048 (by omega) b h (Fin.rev s) :=
  funext fun s => funext fun e => (rev_at 128 _ b h s e).trans (v9_at x0 b h (Fin.rev s) e)

/-- A head's rows are numbers once they are a slab of numbers. -/
theorem num_of {n : Nat} {f g : Fin 256 → Fin n → EReal} (e : f = g) (h : ∀ s d, IsNum (g s d)) (s : Fin 256) (d : Fin n) : IsNum (f s d) :=
  e ▸ h s d

variable {x0 x2} (hx : Numbers x0) (b : Fin 32) (h : Fin 4)
include hx

theorem v151_at (t : Fin 256) (e : Fin 128) : val_main_v151 (F := Ideal) x0 x2 (ix4 b h t e)
    = mix (fore (ls (x2 (ix2 0 h)))) (colsOf x0 1536 (by omega) b h) (keys (colsOf x0 1792 (by omega) b h))
      (slabOf x0 2048 (by omega) b h) t e := by
  rw [v151_eq, scanV_apply _ _ _ _ b h (by rw [v14_at]; exact ls_cases _) (num_of (rows_k x0 b h) (hx.key 1792 (by omega) (by omega) b h))
    (num_of (rows_v x0 b h) (hx.value b h)) (num_of (rows_q x0 b h) (hx.key 1536 (by omega) (by omega) b h)), rows_q, rows_k, rows_v, v14_at]

theorem v144_at (d : Fin 64) (e : Fin 128) : val_main_v144 (F := Ideal) x0 x2 (ix4 b h d e) = ended x0 x2 b 0 h d e := by
  rw [v144_eq, last_apply _ _ _ b h (by rw [v14_at]; exact ls_cases _) (num_of (rows_k x0 b h) (hx.key 1792 (by omega) (by omega) b h))
    (num_of (rows_v x0 b h) (hx.value b h)), rows_k, rows_v, v14_at]
  rfl

theorem v294_at (t : Fin 256) (e : Fin 128) : val_main_v294 (F := Ideal) x0 x2 (ix4 b h t e)
    = mix (aft (ls (x2 (ix2 1 h)))) (colsOf x0 1536 (by omega) b h) (keys (colsOf x0 1792 (by omega) b h))
      (slabOf x0 2048 (by omega) b h) t e := by
  refine (rev_at 128 _ b h t e).trans ?_
  rw [v293_eq, scanV_apply _ _ _ _ b h (by rw [v156_at]; exact ls_cases _)
    (num_of (rev_k x0 b h) fun s => hx.key 1792 (by omega) (by omega) b h (Fin.rev s)) (num_of (rev_v x0 b h) fun s => hx.value b h (Fin.rev s))
    (num_of (rev_q x0 b h) fun s => hx.key 1536 (by omega) (by omega) b h (Fin.rev s)), rev_q, rev_k, rev_v, v156_at,
    keys_rev, mix_rev]

theorem v286_at (d : Fin 64) (e : Fin 128) : val_main_v286 (F := Ideal) x0 x2 (ix4 b h d e) = ended x0 x2 b 1 h d e := by
  rw [v286_eq, last_apply _ _ _ b h (by rw [v156_at]; exact ls_cases _)
    (num_of (rev_k x0 b h) fun s => hx.key 1792 (by omega) (by omega) b h (Fin.rev s)) (num_of (rev_v x0 b h) fun s => hx.value b h (Fin.rev s)),
    rev_k, rev_v, v156_at, keys_rev, state_rev]
  rfl

omit hx

/-! The norm and the gate. -/

/-- Each row over its root mean square, times the gain. -/
def normV (o : FVec Ideal S32x4x256x128 .f32) (n : FVec Ideal S128 .f32) : FVec Ideal S32x4x256x128 .f32 :=
  mulf (mulf o (broadcastInDim S32x4x256x128 ![0, 1, 2, 3] bcast_S32x4x256x1_S32x4x256x128_0_1_2_3 (Host.rsqrt (addf
      (Host.divf (broadcastInDim S32x4x256x1 ![0, 1, 2] bcast_S32x4x256_S32x4x256x1_0_1_2
          (Host.reduceAdd (mulf o o) zeroV reducesTo_S32x4x256x128_S32x4x256_d3 h_S_))
        (broadcastInDim S32x4x256x1 ![] bcast_S_S32x4x256x1 (constant S_ .f32 0x43000000#32)))
      (broadcastInDim S32x4x256x1 ![] bcast_S_S32x4x256x1 (constant S_ .f32 0x358637BD#32))))))
    (broadcastInDim S32x4x256x128 ![0, 1, 2, 3] bcast_S1x1x1x128_S32x4x256x128_0_1_2_3
      (broadcastInDim S1x1x1x128 ![3] bcast_S128_S1x1x1x128_3 n))

theorem normV_apply (o : FVec Ideal S32x4x256x128 .f32) (n : FVec Ideal S128 .f32) (t : Fin 256) (e : Fin 128) :
    normV o n (ix4 b h t e) = normed (fun e => o (ix4 b h t e)) (fun e => n (ix1 e)) e := by
  pointwise [normV, zeroV]
  rfl

/-- The gate over the normed rows, the heads side by side. -/
def gatedV (g : FVec Ideal S32x256x512 .f32) (o : FVec Ideal S32x4x256x128 .f32) (n : FVec Ideal S128 .f32) : FVec Ideal S32x256x512 .f32 :=
  mulf (mulf g (Host.divf (broadcastInDim S32x256x512 ![] bcast_S_S32x256x512 (constant S_ .f32 0x3F800000#32))
      (addf (broadcastInDim S32x256x512 ![] bcast_S_S32x256x512 (constant S_ .f32 0x3F800000#32)) (Host.exp (Host.negf g)))))
    (shapeCast _ (transpose S32x256x4x128 [0, 2, 1, 3] (normV o n) transposes_S32x4x256x128_S32x256x4x128_0_2_1_3)
      shapeCasts_S32x256x4x128_S32x256x512)

theorem gatedV_apply (g : FVec Ideal S32x256x512 .f32) (o : FVec Ideal S32x4x256x128 .f32) (n : FVec Ideal S128 .f32) (t : Fin 256)
    (j : Fin 512) : gatedV g o n (ix3 b t j)
    = silu (g (ix3 b t j)) * normed (fun e => o (ix4 b (headOf j) t e)) (fun e => n (ix1 e)) (laneOf j) := by
  rw [← normV_apply]
  pointwise [gatedV]
  unfold silu
  rw [zero_sub]
  rfl

theorem v295_at (t : Fin 256) (j : Fin 512) : val_main_v295 (F := Ideal) x0 (ix3 b t j)
    = slabOf x0 2560 (by omega) b (headOf j) t (laneOf j) := by
  rw [val_main_v295_apply, val_main_v3_apply]
  unfold slabOf
  blk_ext [slab, headOf, laneOf]

theorem v296_at (t : Fin 256) (j : Fin 512) : val_main_v296 (F := Ideal) x0 (ix3 b t j)
    = slabOf x0 3072 (by omega) b (headOf j) t (laneOf j) := by
  rw [val_main_v296_apply, val_main_v3_apply]
  unfold slabOf
  blk_ext [slab, headOf, laneOf]

theorem v331_eq : val_main_v331 (F := Ideal) x0 x2 x3 = addf (gatedV (val_main_v295 (F := Ideal) x0) (val_main_v151 (F := Ideal) x0 x2) x3)
    (gatedV (val_main_v296 (F := Ideal) x0) (val_main_v294 (F := Ideal) x0 x2) x3) := rfl

include hx

/-- The first result. -/
theorem v331_eq_retained : val_main_v331 (F := Ideal) x0 x2 x3 = retained x0 x2 x3 := by
  funext i
  obtain ⟨b, t, j, rfl⟩ : ∃ b t j, i = ix3 b t j := ⟨i 0, i 1, i 2, by blk_ext⟩
  rw [v331_eq, retained_apply _ _ _ _ _ _ _ _ rfl rfl]
  show gatedV _ _ _ (ix3 b t j) + gatedV _ _ _ (ix3 b t j) = _
  rw [gatedV_apply, gatedV_apply, v295_at, v296_at]
  simp only [v151_at hx, v294_at hx]
  rfl

/-- The states of this layer. -/
theorem v334_at (dir : Fin 2) (d : Fin 64) (e : Fin 128) : val_main_v334 (F := Ideal) x0 x2 (ix5 b dir h d e) = ended x0 x2 b dir h d e := by
  pointwise [val_main_v334, val_main_v332, val_main_v333, v144_at hx, v286_at hx]
  split
  · exact congrArg (ended x0 x2 b · h d e) (Fin.ext (by show 0 = dir.val; omega))
  · exact congrArg (ended x0 x2 b · h d e) (Fin.ext (by show 1 = dir.val; omega))

/-- The second result. -/
theorem v337_eq_states : val_main_v337 (F := Ideal) x0 x1 x2 = states x1 x0 x2 := by
  funext i
  obtain ⟨b, s, dir, h, d, e, rfl⟩ : ∃ b s dir h d e, i = ix6 b s dir h d e := ⟨i 0, i 1, i 2, i 3, i 4, i 5, by blk_ext⟩
  rw [states_apply]
  pointwise [val_main_v337, val_main_v335, val_main_v336, v334_at hx]
  simp only [Nat.lt_one_iff]
  split <;> rfl

end Cert.Ret.Ref
-- ==== Proof.Ret.Claim.lean ====
module

public import proofs.«01_k».proof.Defs
public import proofs.«01_k».proof.Proof.Common.Finite
public import proofs.«01_k».proof.Proof.Ret.Arrays
public import proofs.«01_k».proof.Proof.Ret.Reference
public import proofs.«01_k».proof.Proof.Gen.Ret.Frame
public import proofs.«01_k».proof.Proof.Gen.RetIdeal.Frame
public import proofs.«01_k».proof.Proof.Gen.RetRefIdeal.Run
public import proofs.«01_k».proof.Proof.Gen.Pre_ret_finite

/-! Retention over the prompts: the claims about the call, from the arrays of its run and the reference's. -/

@[expose] public section

set_option maxRecDepth 16384

noncomputable section

namespace Cert.Ret

open Idealize.ShloMosaic Idealize.ShloMosaic.TcCoe Idealize.SL.Sem Cert.Common

/-- The stated precondition makes the queries, keys and values numbers. -/
theorem numbers_of_pre (x x1 x2 x3) (h : Cert.Pre_ret_finite.fn (F := Ideal) x x1 x2 x3 = fun _ => 1#1) : Numbers x := by
  intro b r j
  have e := congrFun h (ix3 b r j)
  pointwise [Cert.Pre_ret_finite.fn] at e
  exact isNum_of_abs_lt _ e

theorem frame_ri : Cert.quiescent_RetRefIdeal := fun m ρ _ =>
  (θ_run Cert.RetRefIdeal.defs _ _).mono (fun r h => ⟨fun c => (h c).2.2, sem_eq_zero_of_no_sems (by decide) r.2⟩)
    (Cert.RetRefIdeal.Value.run (F := Ideal) m ρ)

theorem algebraic : Cert.algebraic_RetIdeal_RetRefIdeal_pre_ret_finite := by
  intro m ρ m' ρ' hpre hagree
  refine ⟨fun c => retained (m ((c.tc : Thread _ _).loc Cert.RetIdeal.main_arg0)) (m ((c.tc : Thread _ _).loc Cert.RetIdeal.main_arg2))
      (m ((c.tc : Thread _ _).loc Cert.RetIdeal.main_arg3)),
    fun c => states (m ((c.tc : Thread _ _).loc Cert.RetIdeal.main_arg1)) (m ((c.tc : Thread _ _).loc Cert.RetIdeal.main_arg0))
      (m ((c.tc : Thread _ _).loc Cert.RetIdeal.main_arg2)),
    (θ_run _ _ _).mono (fun r h c => ⟨(h c).1.trans (arr8 m c), (h c).2.1.trans (arr9 m c), (h c).2.2⟩)
      (Cert.RetIdeal.Value.run_blocks m ρ),
    (θ_run _ _ _).mono (fun r h c => ?_) (Cert.RetRefIdeal.Value.run (F := Ideal) m' ρ')⟩
  obtain ⟨e0, e1, e2, e3⟩ := hagree c
  have hx : Numbers (m' ((c.tc : Thread _ _).loc Cert.RetRefIdeal.main_arg0)) := by
    rw [e0]
    exact numbers_of_pre _ _ _ _ (hpre c)
  refine ⟨(h c).1.trans ?_, (h c).2.1.trans ?_, (h c).2.2⟩
  · rw [Cert.RetRefIdeal.Read.val_main_v331_eq]
    exact (Ref.v331_eq_retained _ hx).trans (congr (congr (congrArg retained e0) e2) e3)
  · rw [Cert.RetRefIdeal.Read.val_main_v337_eq]
    exact (Ref.v337_eq_states _ hx).trans (congr (congr (congrArg states e1) e0) e2)

end Cert.Ret
-- ==== Proof.Merge.Spec.lean ====
module

public import proofs.«01_k».proof.Proof.Common.Rows

/-! The merge of the three branches, token by token: each branch through its own weights and under its gate, their sum
through the output weights, and that, scaled, on top of the residual. -/

@[expose] public section

set_option maxRecDepth 16384

noncomputable section

namespace Cert.Merge

open Idealize.ShloMosaic Cert.Common

/-- The logistic function. -/
def gate (x : EReal) : EReal := Ideal.div 1 (1 + Ideal.exp (-x))

/-- One token's gated sum of the three branches. -/
def mixed (y : Fin 3 → Fin 512 → EReal) (p : Fin 3 → Fin 1024 → EReal) (w : Fin 3 → Fin 512 → Fin 1024 → EReal) (j : Fin 1024) : EReal :=
  gate (p 0 j) * (∑ k, y 0 k * w 0 k j) + gate (p 1 j) * (∑ k, y 1 k * w 1 k j) + gate (p 2 j) * ∑ k, y 2 k * w 2 k j

/-- One token's result. -/
def mergedRow (y : Fin 3 → Fin 512 → EReal) (p : Fin 3 → Fin 1024 → EReal) (x g : Fin 1024 → EReal)
    (w : Fin 3 → Fin 512 → Fin 1024 → EReal) (o : Fin 1024 → Fin 1024 → EReal) (l : Fin 1024) : EReal :=
  x l + g l * ∑ j, mixed y p w j * o j l

/-- The branches, their gates' columns among the projected ones, the residual, its scale, and the two weights. -/
abbrev Branch := FVec Ideal (⟨3, ![32, 256, 512]⟩ : Shape) .f32
abbrev Tokens := FVec Ideal (⟨3, ![32, 256, 8192]⟩ : Shape) .f32
abbrev Stream := FVec Ideal (⟨3, ![32, 256, 1024]⟩ : Shape) .f32
abbrev Scale := FVec Ideal (⟨3, ![1, 1, 1024]⟩ : Shape) .f32
abbrev Branches := FVec Ideal (⟨3, ![3, 512, 1024]⟩ : Shape) .f32
abbrev Square := FVec Ideal (⟨2, ![1024, 1024]⟩ : Shape) .f32

/-- Column `j` of gate `n`. -/
def gateCol (n : Fin 3) (j : Fin 1024) : Fin 8192 := ⟨5120 + (1024 * n.val + j.val), by omega⟩

/-- The token at place `r` of prompt `b`, merged. -/
def mergedAt (ya yb yc : Branch) (p : Tokens) (x : Stream) (g : Scale) (w : Branches) (o : Square) (b : Fin 32) (r : Fin 256) :
    Fin 1024 → EReal :=
  mergedRow (fun n k => match n with | 0 => ya (ix3 b r k) | 1 => yb (ix3 b r k) | 2 => yc (ix3 b r k))
    (fun n j => p (ix3 b r (gateCol n j))) (fun l => x (ix3 b r l)) (fun l => g (ix3 0 0 l)) (fun n k j => w (ix3 n k j))
    (fun j l => o (ix2 j l))

/-- Every token merged, the prompts' tokens in one list. -/
def merged (ya yb yc : Branch) (p : Tokens) (x : Stream) (g : Scale) (w : Branches) (o : Square) :
    FVec Ideal (⟨2, ![8192, 1024]⟩ : Shape) .f32 := fun i => mergedAt ya yb yc p x g w o (seqOf (i 0)) (posOf (i 0)) (i 1)

end Cert.Merge
-- ==== Proof.Merge.Kernel.lean ====
module

public import proofs.«01_k».proof.Proof.Merge.Spec
public import proofs.«01_k».proof.Proof.Gen.MergeIdeal.Value
public import Idealize.ShloMosaic.Lib.Pipeline.ValueKit
public import Idealize.ShloMosaic.Lib.Pointwise

/-! The array the merge call leaves. -/

@[expose] public section

set_option maxRecDepth 16384

noncomputable section

namespace Cert.Merge

open Cert.MergeIdeal Cert.MergeIdeal.Gen Idealize.ShloMosaic Idealize.ShloMosaic.TcCoe Idealize.SL.Sem Cert.Common

section Body

variable (ya yb yc : Vec Ideal S256x512 .f32) (p0 p1 p2 res : Vec Ideal S256x1024 .f32) (sc : Vec Ideal S1x1x1024 .f32)
  (w : Vec Ideal S3x512x1024 .bf16) (o : Vec Ideal S1024x1024 .bf16)

/-- The block the body stores, read at an entry. -/
theorem out10_apply (y : S256x1024.Idx) (r : Fin 256) (l : Fin 1024) (hr : (y 0).val = r.val) (hl : (y 1).val = l.val) :
    out0_10 ya yb yc p0 p1 p2 res sc w o y
      = mergedRow (fun n k => match n with | 0 => ya (ix2 r k) | 1 => yb (ix2 r k) | 2 => yc (ix2 r k))
        (fun n j => match n with | 0 => p0 (ix2 r j) | 1 => p1 (ix2 r j) | 2 => p2 (ix2 r j)) (fun l => res (ix2 r l))
        (fun l => sc (ix3 0 0 l)) (fun n k j => w (ix3 n k j)) (fun j l => o (ix2 j l)) l := by
  unfold out0_10
  canon_tiles x hx using cover0_10 ..
  open_payloads
  idx_vars x
  obtain rfl : x0 = r := Fin.ext (by omega)
  obtain rfl : x1 = l := Fin.ext (by omega)
  pointwise
  simp only [zero_sub]
  unfold mergedRow mixed gate
  rfl

end Body

variable (m : (ℓ : Loc nD τ sig) → Buf (Elt Ideal) ℓ) (c : Dev nD)

theorem idx0 : ∀ t : Fin cfg0.N, win0_0.index t = ![t.val, 0] ∧ win0_1.index t = ![t.val, 0] ∧ win0_2.index t = ![t.val, 0]
    ∧ win0_3.index t = ![t.val, 5] ∧ win0_4.index t = ![t.val, 6] ∧ win0_5.index t = ![t.val, 7] ∧ win0_6.index t = ![t.val, 0]
    ∧ win0_7.index t = ![0, 0, 0] ∧ win0_8.index t = ![0, 0, 0] ∧ win0_9.index t = ![0, 0] ∧ win0_10.index t = ![t.val, 0] :=
  (by decide +kernel : ∀ t : Fin grid0.N, _)

/-- Token `r` of block `t` in the list of all tokens. -/
def token (t : Fin cfg0.N) (r : Fin 256) : Fin 8192 := ⟨256 * t.val + r.val, by
  have h : t.val < 32 := t.isLt
  omega⟩

theorem blk_ya (t : Fin cfg0.N) (r : Fin 256) (k : Fin 512) : iblk m c 0 t (ix2 r k)
    = m ((c : Thread nD τ).loc main_arg0) (ix3 (seqOf (token t r)) (posOf (token t r)) k) := by
  blk_ext! [iblk, V, idx0 t, token, seqOf, posOf]

theorem blk_yb (t : Fin cfg0.N) (r : Fin 256) (k : Fin 512) : iblk m c 1 t (ix2 r k)
    = m ((c : Thread nD τ).loc main_arg1) (ix3 (seqOf (token t r)) (posOf (token t r)) k) := by
  blk_ext! [iblk, V, idx0 t, token, seqOf, posOf]

theorem blk_yc (t : Fin cfg0.N) (r : Fin 256) (k : Fin 512) : iblk m c 2 t (ix2 r k)
    = m ((c : Thread nD τ).loc main_arg2) (ix3 (seqOf (token t r)) (posOf (token t r)) k) := by
  blk_ext! [iblk, V, idx0 t, token, seqOf, posOf]

theorem blk_m0 (t : Fin cfg0.N) (r : Fin 256) (j : Fin 1024) : iblk m c 3 t (ix2 r j)
    = m ((c : Thread nD τ).loc main_arg3) (ix3 (seqOf (token t r)) (posOf (token t r)) (gateCol 0 j)) := by
  blk_ext! [iblk, V, idx0 t, token, seqOf, posOf, gateCol]

theorem blk_m1 (t : Fin cfg0.N) (r : Fin 256) (j : Fin 1024) : iblk m c 4 t (ix2 r j)
    = m ((c : Thread nD τ).loc main_arg3) (ix3 (seqOf (token t r)) (posOf (token t r)) (gateCol 1 j)) := by
  blk_ext! [iblk, V, idx0 t, token, seqOf, posOf, gateCol]

theorem blk_m2 (t : Fin cfg0.N) (r : Fin 256) (j : Fin 1024) : iblk m c 5 t (ix2 r j)
    = m ((c : Thread nD τ).loc main_arg3) (ix3 (seqOf (token t r)) (posOf (token t r)) (gateCol 2 j)) := by
  blk_ext! [iblk, V, idx0 t, token, seqOf, posOf, gateCol]

theorem blk_x (t : Fin cfg0.N) (r : Fin 256) (l : Fin 1024) : iblk m c 6 t (ix2 r l)
    = m ((c : Thread nD τ).loc main_arg4) (ix3 (seqOf (token t r)) (posOf (token t r)) l) := by
  blk_ext! [iblk, V, idx0 t, token, seqOf, posOf]

theorem blk_g (t : Fin cfg0.N) (l : Fin 1024) : iblk m c 7 t (ix3 0 0 l) = m ((c : Thread nD τ).loc main_arg5) (ix3 0 0 l) := by
  blk_ext! [iblk, V, idx0 t]

theorem blk_w (t : Fin cfg0.N) (n : Fin 3) (k : Fin 512) (j : Fin 1024) : iblk m c 8 t (ix3 n k j)
    = m ((c : Thread nD τ).loc main_arg6) (ix3 n k j) := by
  blk_ext! [iblk, V, idx0 t]

theorem blk_o (t : Fin cfg0.N) (j l : Fin 1024) : iblk m c 9 t (ix2 j l) = m ((c : Thread nD τ).loc main_arg7) (ix2 j l) := by
  blk_ext! [iblk, V, idx0 t]

/-- One token of the blocks, merged. -/
theorem row_eq (t : Fin cfg0.N) (r : Fin 256) (l : Fin 1024) :
    mergedRow (fun n k => match n with | 0 => iblk m c 0 t (ix2 r k) | 1 => iblk m c 1 t (ix2 r k) | 2 => iblk m c 2 t (ix2 r k))
      (fun n j => match n with | 0 => iblk m c 3 t (ix2 r j) | 1 => iblk m c 4 t (ix2 r j) | 2 => iblk m c 5 t (ix2 r j))
      (fun l => iblk m c 6 t (ix2 r l)) (fun l => iblk m c 7 t (ix3 0 0 l)) (fun n k j => iblk m c 8 t (ix3 n k j))
      (fun j l => iblk m c 9 t (ix2 j l)) l
    = mergedAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (seqOf (token t r)) (posOf (token t r)) l := by
  simp only [blk_ya, blk_yb, blk_yc, blk_m0, blk_m1, blk_m2, blk_x, blk_g, blk_w, blk_o]
  unfold mergedAt
  refine congrArg (fun z => mergedRow _ z _ _ _ _ l) (funext fun n => funext fun j => ?_)
  match n with
  | 0 => rfl
  | 1 => rfl
  | 2 => rfl

/-- What one grid point leaves in the result's block. -/
theorem block10 (t : Fin cfg0.N) (y : S256x1024.Idx) :
    out0_10 (iblk m c 0 t) (iblk m c 1 t) (iblk m c 2 t) (iblk m c 3 t) (iblk m c 4 t) (iblk m c 5 t) (iblk m c 6 t) (iblk m c 7 t)
      (iblk m c 8 t) (iblk m c 9 t) y
    = merged (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (ix2 (token t (y 0)) (y 1)) := by
  exact (out10_apply _ _ _ _ _ _ _ _ _ _ y (y 0) (y 1) rfl rfl).trans (row_eq m c t (y 0) (y 1))

/-- The array after the run. -/
theorem arr10 : (dats m 0 c).arrAt 10 cfg0.N
    = merged (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 10 _ (by decide +kernel) fun t hf y => ?_
  blk_simp
  rw [after0_10]
  refine (block10 m c t y).trans (congrArg _ ?_)
  blk_ext [idx0 t, token]

end Cert.Merge
-- ==== Proof.Merge.Reference.lean ====
module

public import proofs.«01_k».proof.Proof.Merge.Spec
public import proofs.«01_k».proof.Proof.Gen.MergeRefIdeal.Read
public import Idealize.ShloMosaic.Lib.Pipeline.ValueKit
public import Idealize.ShloMosaic.Lib.Pointwise

/-! The reference of the merge, entry by entry. -/

@[expose] public section

set_option maxRecDepth 16384

noncomputable section

namespace Cert.Merge.Ref

open Cert.MergeRefIdeal Cert.MergeRefIdeal.Gen Cert.MergeRefIdeal.Value Cert.MergeRefIdeal.Read Idealize.ShloMosaic Idealize.ShloMosaic.TcCoe
open Cert.Common

variable (x0 x1 x2 : Branch) (x3 : Tokens) (x4 : Stream) (x5 : Scale) (x6 : Branches) (x7 : Square)

/-- A gate, from its column of the projected tokens. -/
theorem v6_at (b : Fin 32) (r : Fin 256) (n : Fin 3) (j : Fin 1024) (i : Fin 3072) (hi : i.val = 1024 * n.val + j.val) :
    val_main_v6 (F := Ideal) x3 (ix3 b r i) = gate (x3 (ix3 b r (gateCol n j))) := by
  pointwise [val_main_v6, val_main_v5, val_main_v4, val_main_v3, val_main_v2, val_main_v1, val_main_v0, val_main_cst, val_main_cst_0]
  unfold gate
  congr 4
  blk_ext [gateCol]

theorem v7_at (b : Fin 32) (r : Fin 256) (j : Fin 1024) :
    val_main_v7 (F := Ideal) x3 (ix3 b r j) = gate (x3 (ix3 b r (gateCol 0 j))) := by
  rw [val_main_v7_apply]
  refine Eq.trans (congrArg _ ?_) (v6_at x3 b r 0 j ⟨j.val, by omega⟩ (by simp))
  blk_ext

theorem v8_at (b : Fin 32) (r : Fin 256) (j : Fin 1024) :
    val_main_v8 (F := Ideal) x3 (ix3 b r j) = gate (x3 (ix3 b r (gateCol 1 j))) := by
  rw [val_main_v8_apply]
  refine Eq.trans (congrArg _ ?_) (v6_at x3 b r 1 j ⟨1024 + j.val, by omega⟩ (by simp))
  blk_ext

theorem v9_at (b : Fin 32) (r : Fin 256) (j : Fin 1024) :
    val_main_v9 (F := Ideal) x3 (ix3 b r j) = gate (x3 (ix3 b r (gateCol 2 j))) := by
  rw [val_main_v9_apply]
  refine Eq.trans (congrArg _ ?_) (v6_at x3 b r 2 j ⟨2048 + j.val, by omega⟩ (by simp))
  blk_ext

/-- The gated sum of the branches. -/
theorem v23_at (b : Fin 32) (r : Fin 256) (j : Fin 1024) : val_main_v23 (F := Ideal) x0 x1 x2 x3 x6 (ix3 b r j)
    = mixed (fun n k => match n with | 0 => x0 (ix3 b r k) | 1 => x1 (ix3 b r k) | 2 => x2 (ix3 b r k))
      (fun n j => x3 (ix3 b r (gateCol n j))) (fun n k j => x6 (ix3 n k j)) j := by
  pointwise [val_main_v23, val_main_v22, val_main_v21, val_main_v20, val_main_v19, val_main_v18, val_main_v17, val_main_v16,
    val_main_v15, val_main_v14, val_main_v13, val_main_v12, val_main_v11, val_main_v10, v7_at, v8_at, v9_at]
  rfl

theorem v27_at (b : Fin 32) (r : Fin 256) (l : Fin 1024) : val_main_v27 (F := Ideal) x0 x1 x2 x3 x4 x5 x6 x7 (ix3 b r l)
    = mergedAt x0 x1 x2 x3 x4 x5 x6 x7 b r l := by
  pointwise [val_main_v27, val_main_v26, val_main_v25, val_main_v24, v23_at]
  rfl

theorem v28_eq : val_main_v28 (F := Ideal) x0 x1 x2 x3 x4 x5 x6 x7 = merged x0 x1 x2 x3 x4 x5 x6 x7 := by
  funext i
  rw [val_main_v28_apply]
  refine Eq.trans (congrArg _ ?_) (v27_at x0 x1 x2 x3 x4 x5 x6 x7 (seqOf (i 0)) (posOf (i 0)) (i 1))
  blk_ext [seqOf, posOf]

end Cert.Merge.Ref
-- ==== Proof.Merge.Claim.lean ====
module

public import proofs.«01_k».proof.Defs
public import proofs.«01_k».proof.Proof.Merge.Kernel
public import proofs.«01_k».proof.Proof.Merge.Reference
public import proofs.«01_k».proof.Proof.Gen.MergeIdeal.Frame
public import proofs.«01_k».proof.Proof.Gen.MergeRefIdeal.Run

/-! The merge of the branches: the claims about the call, from the arrays of its run and the reference's. -/

@[expose] public section

set_option maxRecDepth 16384

noncomputable section

namespace Cert.Merge

open Idealize.ShloMosaic Idealize.ShloMosaic.TcCoe Idealize.SL.Sem Cert.Common

theorem frame_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic : Cert.algebraic_MergeIdeal_MergeRefIdeal := by
  intro m ρ m' ρ' _ hagree
  refine ⟨fun c => merged (m ((c.tc : Thread _ _).loc Cert.MergeIdeal.main_arg0)) (m ((c.tc : Thread _ _).loc Cert.MergeIdeal.main_arg1))
      (m ((c.tc : Thread _ _).loc Cert.MergeIdeal.main_arg2)) (m ((c.tc : Thread _ _).loc Cert.MergeIdeal.main_arg3))
      (m ((c.tc : Thread _ _).loc Cert.MergeIdeal.main_arg4)) (m ((c.tc : Thread _ _).loc Cert.MergeIdeal.main_arg5))
      (m ((c.tc : Thread _ _).loc Cert.MergeIdeal.main_arg6)) (m ((c.tc : Thread _ _).loc Cert.MergeIdeal.main_arg7)),
    (θ_run _ _ _).mono (fun r h c => ⟨(h c).1.trans (arr10 m c), (h c).2⟩) (Cert.MergeIdeal.Value.run_blocks m ρ),
    (θ_run _ _ _).mono (fun r h c => ?_) (Cert.MergeRefIdeal.Value.run (F := Ideal) m' ρ')⟩
  obtain ⟨e0, e1, e2, e3, e4, e5, e6, e7⟩ := hagree c
  refine ⟨(h c).1.trans ?_, (h c).2⟩
  rw [Cert.MergeRefIdeal.Read.val_main_v28_eq, Ref.v28_eq, e0, e1, e2, e3, e4, e5, e6, e7]

end Cert.Merge
-- ==== Proof.Final.Value.lean ====
module

public import proofs.«01_k».proof.Proof.Common.Rows
public import proofs.«01_k».proof.Proof.Gen.FinalIdeal.Value
public import proofs.«01_k».proof.Proof.Gen.FinalRefIdeal.Read
public import Idealize.ShloMosaic.Lib.Pipeline.ValueKit
public import Idealize.ShloMosaic.Lib.Pointwise

/-! The norm after the last layer, over the prompts: the array the call leaves and the array of the reference are the
root-mean-square norm of every token. -/

@[expose] public section

set_option maxRecDepth 16384

noncomputable section

namespace Cert.Final

open Idealize.ShloMosaic Idealize.ShloMosaic.TcCoe Idealize.SL.Sem Cert.Common

/-- Every token normed, the prompts' tokens in one list. -/
def normed (x : FVec Ideal (⟨3, ![32, 256, 1024]⟩ : Shape) .f32) (g : FVec Ideal (⟨1, ![1024]⟩ : Shape) .f32) :
    FVec Ideal (⟨2, ![8192, 1024]⟩ : Shape) .f32 := fun i =>
  rmsRow (fun k => x (ix3 (seqOf (i 0)) (posOf (i 0)) k)) (fun k => g (ix1 k)) (i 1)

section Kernel

open Cert.FinalIdeal Cert.FinalIdeal.Gen

variable (m : (ℓ : Loc nD τ sig) → Buf (Elt Ideal) ℓ) (c : Dev nD)

theorem idx0 : ∀ t : Fin cfg0.N, win0_0.index t = ![t.val, 0] ∧ win0_1.index t = ![0, 0] ∧ win0_2.index t = ![t.val, 0] :=
  (by decide +kernel : ∀ t : Fin grid0.N, _)

/-- Token `r` of block `t` in the list of all tokens. -/
def token (t : Fin cfg0.N) (r : Fin 512) : Fin 8192 := ⟨512 * t.val + r.val, by
  have h : t.val < 16 := t.isLt
  omega⟩

theorem blk_x (t : Fin cfg0.N) (r : Fin 512) (k : Fin 1024) :
    iblk m c 0 t (ix2 r k) = m ((c : Thread nD τ).loc main_arg0) (ix3 (seqOf (token t r)) (posOf (token t r)) k) := by
  blk_ext! [iblk, V, idx0 t, token, seqOf, posOf]

theorem blk_g (t : Fin cfg0.N) (k : Fin 1024) : iblk m c 1 t (ix2 0 k) = m ((c : Thread nD τ).loc main_arg1) (ix1 k) := by
  blk_ext! [iblk, V, idx0 t]

/-- The block the body stores, read at an entry. -/
theorem out2_apply (x : Vec Ideal S512x1024 .f32) (g : Vec Ideal S1x1024 .f32) (y : S512x1024.Idx) (r : Fin 512) (k : Fin 1024)
    (hr : (y 0).val = r.val) (hk : (y 1).val = k.val) :
    out0_2 x g y = rmsRow (fun k => x (ix2 r k)) (fun k => g (ix2 0 k)) k := by
  unfold out0_2
  canon_tiles x hx using cover0_2 ..
  open_payloads
  idx_vars x
  obtain rfl : x0 = r := Fin.ext (by omega)
  obtain rfl : x1 = k := Fin.ext (by omega)
  pointwise
  unfold rmsRow
  rfl

theorem block2 (t : Fin cfg0.N) (y : S512x1024.Idx) : out0_2 (iblk m c 0 t) (iblk m c 1 t) y
    = normed (m ((c : Thread nD τ).loc main_arg0)) (m ((c : Thread nD τ).loc main_arg1)) (ix2 (token t (y 0)) (y 1)) := by
  refine (out2_apply _ _ y (y 0) (y 1) rfl rfl).trans ?_
  exact congr (congr (congrArg rmsRow (funext fun k => blk_x m c t (y 0) k)) (funext fun k => blk_g m c t k)) rfl

/-- The array after the run. -/
theorem arr2 : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  refine (block2 m c t y).trans (congrArg _ ?_)
  blk_ext [idx0 t, token]

end Kernel

section Ref

open Cert.FinalRefIdeal Cert.FinalRefIdeal.Gen Cert.FinalRefIdeal.Value Cert.FinalRefIdeal.Read

variable (x0 : FVec Ideal S32x256x1024 .f32) (x1 : FVec Ideal S1024 .f32)

theorem v12_at (b : Fin 32) (r : Fin 256) (k : Fin 1024) :
    val_main_v12 (F := Ideal) x0 x1 (ix3 b r k) = rmsRow (fun k => x0 (ix3 b r k)) (fun k => x1 (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem v13_eq : val_main_v13 (F := Ideal) x0 x1 = normed x0 x1 := by
  funext i
  rw [val_main_v13_apply]
  refine Eq.trans (congrArg _ ?_) (v12_at x0 x1 (seqOf (i 0)) (posOf (i 0)) (i 1))
  blk_ext [seqOf, posOf]

end Ref

end Cert.Final
-- ==== Proof.Final.Claim.lean ====
module

public import proofs.«01_k».proof.Defs
public import proofs.«01_k».proof.Proof.Final.Value
public import proofs.«01_k».proof.Proof.Gen.FinalIdeal.Frame
public import proofs.«01_k».proof.Proof.Gen.FinalRefIdeal.Run

/-! The prompts' last norm: the claims about the call, from the arrays of its run and the reference's. -/

@[expose] public section

set_option maxRecDepth 16384

noncomputable section

namespace Cert.Final

open Idealize.ShloMosaic Idealize.ShloMosaic.TcCoe Idealize.SL.Sem Cert.Common

theorem frame_ri : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

theorem algebraic : Cert.algebraic_FinalIdeal_FinalRefIdeal := by
  intro m ρ m' ρ' _ hagree
  refine ⟨fun c => normed (m ((c.tc : Thread _ _).loc Cert.FinalIdeal.main_arg0)) (m ((c.tc : Thread _ _).loc Cert.FinalIdeal.main_arg1)),
    (θ_run _ _ _).mono (fun r h c => ⟨(h c).1.trans (arr2 m c), (h c).2⟩) (Cert.FinalIdeal.Value.run_blocks m ρ),
    (θ_run _ _ _).mono (fun r h c => ?_) (Cert.FinalRefIdeal.Value.run (F := Ideal) m' ρ')⟩
  obtain ⟨e0, e1⟩ := hagree c
  refine ⟨(h c).1.trans ?_, (h c).2⟩
  rw [Cert.FinalRefIdeal.Read.val_main_v13_eq, v13_eq, e0, e1]

end Cert.Final
-- ==== Proof.FinalS.Value.lean ====
module

public import proofs.«01_k».proof.Proof.Final.Value
public import proofs.«01_k».proof.Proof.Gen.FinalSIdeal.Value
public import proofs.«01_k».proof.Proof.Gen.FinalSRefIdeal.Read
public import Idealize.ShloMosaic.Lib.Pipeline.ValueKit
public import Idealize.ShloMosaic.Lib.Pointwise

/-! The norm after the last layer, over the samples: the array the call leaves and the array of the reference are the
root-mean-square norm of every token. -/

@[expose] public section

set_option maxRecDepth 16384

noncomputable section

namespace Cert.FinalS

open Idealize.ShloMosaic Idealize.ShloMosaic.TcCoe Idealize.SL.Sem
open Cert.Common (rmsRow)

/-- The sample that token `t` of the flattened list belongs to. -/
def seqOf (t : Fin 2048) : Fin 2 := ⟨t.val / 1024, by omega⟩
/-- The token's place in its sample. -/
def posOf (t : Fin 2048) : Fin 1024 := ⟨t.val % 1024, by omega⟩

/-- Every token normed, the samples' tokens in one list. -/
def normed (x : FVec Ideal (⟨3, ![2, 1024, 1024]⟩ : Shape) .f32) (g : FVec Ideal (⟨1, ![1024]⟩ : Shape) .f32) :
    FVec Ideal (⟨2, ![2048, 1024]⟩ : Shape) .f32 := fun i =>
  rmsRow (fun k => x (ix3 (seqOf (i 0)) (posOf (i 0)) k)) (fun k => g (ix1 k)) (i 1)

section Kernel

open Cert.FinalSIdeal Cert.FinalSIdeal.Gen

variable (m : (ℓ : Loc nD τ sig) → Buf (Elt Ideal) ℓ) (c : Dev nD)

theorem idx0 : ∀ t : Fin cfg0.N, win0_0.index t = ![t.val, 0] ∧ win0_1.index t = ![0, 0] ∧ win0_2.index t = ![t.val, 0] :=
  (by decide +kernel : ∀ t : Fin grid0.N, _)

/-- Token `r` of block `t` in the list of all tokens. -/
def token (t : Fin cfg0.N) (r : Fin 512) : Fin 2048 := ⟨512 * t.val + r.val, by
  have h : t.val < 4 := t.isLt
  omega⟩

theorem blk_x (t : Fin cfg0.N) (r : Fin 512) (k : Fin 1024) :
    iblk m c 0 t (ix2 r k) = m ((c : Thread nD τ).loc main_arg0) (ix3 (seqOf (token t r)) (posOf (token t r)) k) := by
  blk_ext! [iblk, V, idx0 t, token, seqOf, posOf]

theorem blk_g (t : Fin cfg0.N) (k : Fin 1024) : iblk m c 1 t (ix2 0 k) = m ((c : Thread nD τ).loc main_arg1) (ix1 k) := by
  blk_ext! [iblk, V, idx0 t]

/-- The two batches' calls store the same block. -/
theorem out2_eq (x : Vec Ideal S512x1024 .f32) (g : Vec Ideal S1x1024 .f32) :
    out0_2 x g = Cert.FinalIdeal.Gen.out0_2 x g := rfl

theorem block2 (t : Fin cfg0.N) (y : S512x1024.Idx) : out0_2 (iblk m c 0 t) (iblk m c 1 t) y
    = normed (m ((c : Thread nD τ).loc main_arg0)) (m ((c : Thread nD τ).loc main_arg1)) (ix2 (token t (y 0)) (y 1)) := by
  rw [out2_eq]
  refine (Cert.Final.out2_apply _ _ y (y 0) (y 1) rfl rfl).trans ?_
  exact congr (congr (congrArg rmsRow (funext fun k => blk_x m c t (y 0) k)) (funext fun k => blk_g m c t k)) rfl

/-- The array after the run. -/
theorem arr2 : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  refine (block2 m c t y).trans (congrArg _ ?_)
  blk_ext [idx0 t, token]

end Kernel

section Ref

open Cert.FinalSRefIdeal Cert.FinalSRefIdeal.Gen Cert.FinalSRefIdeal.Value Cert.FinalSRefIdeal.Read

variable (x0 : FVec Ideal S2x1024x1024 .f32) (x1 : FVec Ideal S1024 .f32)

theorem v12_at (b : Fin 2) (r : Fin 1024) (k : Fin 1024) :
    val_main_v12 (F := Ideal) x0 x1 (ix3 b r k) = rmsRow (fun k => x0 (ix3 b r k)) (fun k => x1 (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem v13_eq : val_main_v13 (F := Ideal) x0 x1 = normed x0 x1 := by
  funext i
  rw [val_main_v13_apply]
  refine Eq.trans (congrArg _ ?_) (v12_at x0 x1 (seqOf (i 0)) (posOf (i 0)) (i 1))
  blk_ext [seqOf, posOf]

end Ref

end Cert.FinalS
-- ==== Proof.FinalS.Claim.lean ====
module

public import proofs.«01_k».proof.Defs
public import proofs.«01_k».proof.Proof.FinalS.Value
public import proofs.«01_k».proof.Proof.Gen.FinalSIdeal.Frame
public import proofs.«01_k».proof.Proof.Gen.FinalSRefIdeal.Run

/-! The samples' last norm: the claims about the call, from the arrays of its run and the reference's. -/

@[expose] public section

set_option maxRecDepth 16384

noncomputable section

namespace Cert.FinalS

open Idealize.ShloMosaic Idealize.ShloMosaic.TcCoe Idealize.SL.Sem Cert.Common

theorem frame_ri : Cert.quiescent_FinalSRefIdeal := fun m ρ _ =>
  (θ_run Cert.FinalSRefIdeal.defs _ _).mono (fun r h => ⟨fun c => (h c).2, sem_eq_zero_of_no_sems (by decide) r.2⟩)
    (Cert.FinalSRefIdeal.Value.run (F := Ideal) m ρ)

theorem algebraic : Cert.algebraic_FinalSIdeal_FinalSRefIdeal := by
  intro m ρ m' ρ' _ hagree
  refine ⟨fun c => normed (m ((c.tc : Thread _ _).loc Cert.FinalSIdeal.main_arg0)) (m ((c.tc : Thread _ _).loc Cert.FinalSIdeal.main_arg1)),
    (θ_run _ _ _).mono (fun r h c => ⟨(h c).1.trans (arr2 m c), (h c).2⟩) (Cert.FinalSIdeal.Value.run_blocks m ρ),
    (θ_run _ _ _).mono (fun r h c => ?_) (Cert.FinalSRefIdeal.Value.run (F := Ideal) m' ρ')⟩
  obtain ⟨e0, e1⟩ := hagree c
  refine ⟨(h c).1.trans ?_, (h c).2⟩
  rw [Cert.FinalSRefIdeal.Read.val_main_v13_eq, v13_eq, e0, e1]

end Cert.FinalS
-- ==== Proof.Query.Spec.lean ====
module

public import proofs.«01_k».proof.Proof.Proj.Spec

/-! The queries of the cross attention, token by token: the row over its root mean square, scaled and shifted, through the
query weights, the heads first; and the scaled rows themselves. -/

@[expose] public section

set_option maxRecDepth 16384

noncomputable section

namespace Cert.Query

open Idealize.ShloMosaic Cert.Common
open Cert.Proj (Stream Gain Scale modAt)

/-- The query weights. -/
abbrev Weights := FVec Ideal (⟨2, ![1024, 2048]⟩ : Shape) .f32

/-- The column of head `h` at lane `l`. -/
def colOf (h : Fin 16) (l : Fin 128) : Fin 2048 := ⟨128 * h.val + l.val, by omega⟩

/-- Column `n` of a token through the weights. -/
def queryAt (x : Stream) (g : Gain) (sc sh : Scale) (w : Weights) (b : Fin 32) (r : Fin 256) (n : Fin 2048) : EReal :=
  ∑ k, modAt x g sc sh b r k * w (ix2 k n)

/-- The queries of every token, head by head. -/
def queries (x : Stream) (g : Gain) (sc sh : Scale) (w : Weights) : FVec Ideal (⟨3, ![16, 8192, 128]⟩ : Shape) .f32 :=
  fun i => queryAt x g sc sh w (seqOf (i 1)) (posOf (i 1)) (colOf (i 0) (i 2))

/-- The scaled rows, the prompts' tokens in one list. -/
def scaled (x : Stream) (g : Gain) (sc sh : Scale) : FVec Ideal (⟨2, ![8192, 1024]⟩ : Shape) .bf16 :=
  fun i => modAt x g sc sh (seqOf (i 0)) (posOf (i 0)) (i 1)

end Cert.Query
-- ==== Proof.Query.Kernel.lean ====
module

public import proofs.«01_k».proof.Proof.Query.Spec
public import proofs.«01_k».proof.Proof.Gen.QueryIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

/-! The two arrays the query call leaves. -/

@[expose] public section

set_option maxRecDepth 16384

noncomputable section

namespace Cert.Query

open Cert.QueryIdeal Cert.QueryIdeal.Gen Idealize.ShloMosaic Idealize.ShloMosaic.TcCoe Idealize.SL.Sem Cert.Common
open Cert.Proj (modAt modulated)

section Body

variable (x : Vec Ideal S512x1024 .f32) (g : Vec Ideal S1x1024 .f32) (sc sh : Vec Ideal S1x1x1024 .f32)
variable (h : Vec Ideal S512x1024 .bf16) (w : Vec Ideal S1x1024x1024 .bf16)

/-- The scaled rows of a block, which the first of its two points stores. -/
theorem pay5_apply (y : S512x1024.Idx) (r : Fin 512) (l : Fin 1024) (hr : (y 0).val = r.val) (hl : (y 1).val = l.val) :
    k0_pay5 x g sc sh y
      = modulated (fun k => x (ix2 r k)) (fun k => g (ix2 0 k)) (fun k => sc (ix3 0 0 k)) (fun k => sh (ix3 0 0 k)) l := by
  unfold k0_pay5
  idx_vars y
  obtain rfl : y0 = r := Fin.ext (by omega)
  obtain rfl : y1 = l := Fin.ext (by omega)
  pointwise
  unfold modulated rmsRow
  rfl

/-- A block of rows through one half of the weights. -/
theorem pay6_apply (r : Fin 512) (l : Fin 1024) : k0_pay6 h w (ix2 r l) = ∑ k : Fin 1024, h (ix2 r k) * w (ix3 0 k l) := by
  unfold k0_pay6
  pointwise

/-- Lane `l` of head `n` among the columns of one half. -/
def laneIn (n : Fin 8) (l : Fin 128) : Fin 1024 := ⟨128 * n.val + l.val, by omega⟩

/-- Where one head of the block of queries lies. -/
abbrev rectHead (n : ℕ) (hn : ∀ a, (![n, 0, 0] : Fin 3 → ℕ) a + S1x512x128.size a ≤ S8x512x128.size a) : Rect S8x512x128 :=
  Rect.unit (s := S8x512x128) ![n, 0, 0] S1x512x128.size hn

/-- The block of queries as its eight heads, the last first. -/
def headPieces : List (View.Piece (Elt Ideal) S8x512x128 .f32) :=
  [⟨rectHead 7 inb_S8x512x128_S1x512x128_7_0_0, k0_pay4 (k0_pay6 h w)⟩, ⟨rectHead 6 inb_S8x512x128_S1x512x128_6_0_0, k0_pay3 (k0_pay6 h w)⟩,
   ⟨rectHead 5 inb_S8x512x128_S1x512x128_5_0_0, k0_pay2 (k0_pay6 h w)⟩, ⟨rectHead 4 inb_S8x512x128_S1x512x128_4_0_0, k0_pay1 (k0_pay11 h w)⟩,
   ⟨rectHead 3 inb_S8x512x128_S1x512x128_3_0_0, k0_pay10 h w⟩, ⟨rectHead 2 inb_S8x512x128_S1x512x128_2_0_0, k0_pay9 h w⟩,
   ⟨rectHead 1 inb_S8x512x128_S1x512x128_1_0_0, k0_pay8 h w⟩, ⟨rectHead 0 inb_S8x512x128_S1x512x128_0_0_0, k0_pay7 h w⟩]

theorem headPieces_cover (y : S8x512x128.Idx) : ∃ p ∈ headPieces h w, y ∈ p.1.set :=
  View.cover_of_tiledL (s := S8x512x128) _ S1x512x128.size (by sl_kernel_rfl) y

/-- A head of the block is its 128 columns of the product. -/
theorem heads_apply (y : S8x512x128.Idx) (n : Fin 8) (r : Fin 512) (l : Fin 128) (hn : (y 0).val = n.val) (hr : (y 1).val = r.val)
    (hl : (y 2).val = l.val) : View.canon (headPieces h w) y = k0_pay6 h w (ix2 r (laneIn n l)) := by
  have cover := headPieces_cover h w y
  unfold headPieces at cover ⊢
  unfold k0_pay1 k0_pay2 k0_pay3 k0_pay4 k0_pay7 k0_pay8 k0_pay9 k0_pay10 k0_pay11 at cover ⊢
  generalize k0_pay6 h w = z at cover ⊢
  canon_tiles x hx using cover
  all_goals
    idx_vars x
    pointwise
    blk_ext [laneIn]

end Body

variable (m : (ℓ : Loc nD τ sig) → Buf (Elt Ideal) ℓ) (c : Dev nD)

theorem idx0 : ∀ t : Fin cfg0.N, win0_0.index t = ![t.val / 2, 0] ∧ win0_1.index t = ![0, 0] ∧ win0_2.index t = ![0, 0, 0]
    ∧ win0_3.index t = ![0, 0, 0] ∧ win0_4.index t = ![0, 0, 0] ∧ win0_5.index t = ![t.val % 2, t.val / 2, 0]
    ∧ win0_6.index t = ![t.val / 2, 0] :=
  (by decide +kernel : ∀ t : Fin grid0.N, _)

/-- Token `r` of block `t` in the list of all tokens. -/
def token (t : Fin cfg0.N) (r : Fin 512) : Fin 8192 := ⟨512 * (t.val / 2) + r.val, by
  have h : t.val < 32 := t.isLt
  omega⟩

/-- Column `j` of half `n` of the weights. -/
def halfCol (n : Fin 2) (j : Fin 1024) : Fin 2048 := ⟨1024 * n.val + j.val, by omega⟩

theorem blk_x (t : Fin cfg0.N) (r : Fin 512) (k : Fin 1024) : iblk m c 0 t (ix2 r k)
    = m ((c : Thread nD τ).loc main_arg0) (ix3 (seqOf (token t r)) (posOf (token t r)) k) := by
  blk_ext! [iblk, V, idx0 t, token, seqOf, posOf]

theorem blk_g (t : Fin cfg0.N) (k : Fin 1024) : iblk m c 1 t (ix2 0 k) = m ((c : Thread nD τ).loc main_arg1) (ix1 k) := by
  blk_ext! [iblk, V, idx0 t]

theorem blk_sc (t : Fin cfg0.N) (k : Fin 1024) : iblk m c 2 t (ix3 0 0 k) = m ((c : Thread nD τ).loc main_arg2) (ix3 0 0 k) := by
  blk_ext! [iblk, V, idx0 t]

theorem blk_sh (t : Fin cfg0.N) (k : Fin 1024) : iblk m c 3 t (ix3 0 0 k) = m ((c : Thread nD τ).loc main_arg3) (ix3 0 0 k) := by
  blk_ext! [iblk, V, idx0 t]

theorem blk_w (t : Fin cfg0.N) (n : Fin 2) (k j : Fin 1024) : iblk m c 4 t (ix3 n k j)
    = m ((c : Thread nD τ).loc main_arg4) (ix2 k (halfCol n j)) := by
  blk_ext! [iblk, V, idx0 t, halfCol]

/-- What the first point of a block stores for the other. -/
def rows (t : Fin cfg0.N) : Vec Ideal S512x1024 .bf16 := fun y =>
  modAt (m ((c : Thread nD τ).loc main_arg0)) (m ((c : Thread nD τ).loc main_arg1)) (m ((c : Thread nD τ).loc main_arg2))
    (m ((c : Thread nD τ).loc main_arg3)) (seqOf (token t (y 0))) (posOf (token t (y 0))) (y 1)

theorem row_eq (t : Fin cfg0.N) (r : Fin 512) (l : Fin 1024) :
    modulated (fun k => iblk m c 0 t (ix2 r k)) (fun k => iblk m c 1 t (ix2 0 k)) (fun k => iblk m c 2 t (ix3 0 0 k))
      (fun k => iblk m c 3 t (ix3 0 0 k)) l
    = modAt (m ((c : Thread nD τ).loc main_arg0)) (m ((c : Thread nD τ).loc main_arg1)) (m ((c : Thread nD τ).loc main_arg2))
      (m ((c : Thread nD τ).loc main_arg3)) (seqOf (token t r)) (posOf (token t r)) l := by
  simp only [blk_x, blk_g, blk_sc, blk_sh]
  rfl

theorem pay5_eq (t : Fin cfg0.N) : k0_pay5 (iblk m c 0 t) (iblk m c 1 t) (iblk m c 2 t) (iblk m c 3 t) = rows m c t := by
  funext y
  exact (pay5_apply _ _ _ _ y (y 0) (y 1) rfl rfl).trans (row_eq m c t (y 0) (y 1))

/-- The first point of a block stores the rows. -/
theorem held_A (t : Fin cfg0.N) (h : t.val % 2 = 0) : (outsAt0 m c t.val t.isLt).2.2 = rows m c t := by
  rw [outsAt0_A m c t h]
  frame_out
  exact pay5_eq m c t

/-- At both points the scratch has the rows of the block. -/
theorem held (t : Fin cfg0.N) : (outsAt0 m c t.val t.isLt).2.2 = rows m c t := by
  rw [Pipeline.eq_of_write_hold (fun n h => (outsAt0 m c n h).2.2) 2 (rows m c) (held_A m c)
    (fun t h => by rw [outsAt0_B m c t h]; rfl) t]
  unfold rows token
  funext y
  have e : 2 * (t.val / 2) / 2 = t.val / 2 := by omega
  simp only [e]

/-- Where the point's half of the weights starts. -/
theorem half_off : ∀ t : Fin cfg0.N, k0_off1 (grid0.coords t) = ![t.val % 2, 0, 0] :=
  (by decide +kernel : ∀ t : Fin grid0.N, _)

/-- The half a point reads. -/
def half (t : Fin cfg0.N) : Fin 2 := ⟨t.val % 2, by omega⟩

/-- That half of the weights. -/
abbrev halfAt (t : Fin cfg0.N) : Vec Ideal S1x1024x1024 .bf16 :=
  View.ld (iblk m c 4 t) (Rect.unit (k0_off1 (grid0.coords t)) ![1, 1024, 1024] (k0_off1_inb (grid0.coords t)))

theorem ld_apply (w : Vec Ideal S2x1024x1024 .bf16) (n : Fin 2) (off : Fin 3 → ℕ) (ho : off = ![n.val, 0, 0])
    (hb : ∀ a, off a + (![1, 1024, 1024] : Fin 3 → ℕ) a ≤ S2x1024x1024.size a) (k l : Fin 1024) :
    View.ld w (Rect.unit off ![1, 1024, 1024] hb) (ix3 0 k l) = w (ix3 n k l) := by
  subst ho
  pointwise
  blk_ext

theorem half_apply (t : Fin cfg0.N) (k l : Fin 1024) : halfAt m c t (ix3 0 k l)
    = m ((c : Thread nD τ).loc main_arg4) (ix2 k (halfCol (half t) l)) :=
  (ld_apply (iblk m c 4 t) (half t) _ (half_off t) _ k l).trans (blk_w m c t (half t) k l)

/-- The rows of a block through the point's half. -/
theorem product_eq (t : Fin cfg0.N) (r : Fin 512) (l : Fin 1024) : k0_pay6 (rows m c t) (halfAt m c t) (ix2 r l)
    = queryAt (m ((c : Thread nD τ).loc main_arg0)) (m ((c : Thread nD τ).loc main_arg1)) (m ((c : Thread nD τ).loc main_arg2))
      (m ((c : Thread nD τ).loc main_arg3)) (m ((c : Thread nD τ).loc main_arg4)) (seqOf (token t r)) (posOf (token t r))
      (halfCol (half t) l) := by
  rw [pay6_apply]
  refine Finset.sum_congr rfl fun k _ => ?_
  rw [half_apply]
  rfl

/-- What a point stores of the queries. -/
theorem point5 (t : Fin cfg0.N) : (outsAt0 m c t.val t.isLt).1 = View.canon (headPieces (rows m c t) (halfAt m c t)) := by
  by_cases h : t.val % 2 = 0
  · rw [outsAt0_A m c t h]
    frame_out
    rw [pay5_eq]
    rfl
  · have e := held m c t
    rw [outsAt0_B m c t h] at e ⊢
    frame_out
    simp only [read_unread_whole]
    exact congrArg (fun z => View.canon (headPieces z _)) e

/-- What a point stores of the rows. -/
theorem point6 (t : Fin cfg0.N) : (outsAt0 m c t.val t.isLt).2.1 = rows m c t := by
  by_cases h : t.val % 2 = 0
  · rw [outsAt0_A m c t h]
    frame_out
    exact pay5_eq m c t
  · have e := held m c t
    rw [outsAt0_B m c t h] at e ⊢
    frame_out
    simp only [read_unread_whole]
    exact e

/-- Head `n` of the point's half among all the heads. -/
def headIn (t : Fin cfg0.N) (n : Fin 8) : Fin 16 := ⟨8 * (half t).val + n.val, by
  have h := (half t).isLt
  omega⟩

theorem block5 (t : Fin cfg0.N) (y : S8x512x128.Idx) : (outsAt0 m c t.val t.isLt).1 y
    = queries (m ((c : Thread nD τ).loc main_arg0)) (m ((c : Thread nD τ).loc main_arg1)) (m ((c : Thread nD τ).loc main_arg2))
      (m ((c : Thread nD τ).loc main_arg3)) (m ((c : Thread nD τ).loc main_arg4)) (ix3 (headIn t (y 0)) (token t (y 1)) (y 2)) := by
  rw [point5]
  refine (heads_apply _ _ y (y 0) (y 1) (y 2) rfl rfl rfl).trans ((product_eq m c t (y 1) (laneIn (y 0) (y 2))).trans ?_)
  refine congrArg (queryAt _ _ _ _ _ _ _) (Fin.ext ?_)
  show 1024 * (half t).val + (128 * (y 0).val + (y 2).val) = 128 * (8 * (half t).val + (y 0).val) + (y 2).val
  omega

/-- The queries after the run. -/
theorem arr5 : (dats m 0 c).arrAt 5 cfg0.N
    = queries (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  refine (block5 m c t y).trans (congrArg _ ?_)
  blk_ext [idx0 t, token, half, headIn]

/-- The scaled rows after the run. -/
theorem arr6 : (dats m 0 c).arrAt 6 cfg0.N
    = scaled (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t hf y => ?_
  blk_simp
  rw [after0_6, point6]
  have e : rows m c t y = scaled (m ((c : Thread nD τ).loc main_arg0)) (m ((c : Thread nD τ).loc main_arg1))
      (m ((c : Thread nD τ).loc main_arg2)) (m ((c : Thread nD τ).loc main_arg3)) (ix2 (token t (y 0)) (y 1)) := rfl
  refine e.trans (congrArg _ ?_)
  blk_ext [idx0 t, token]

end Cert.Query
-- ==== Proof.Query.Reference.lean ====
module

public import proofs.«01_k».proof.Proof.Query.Spec
public import proofs.«01_k».proof.Proof.Gen.QueryRefIdeal.Read
public import Idealize.ShloMosaic.Lib.Pipeline.ValueKit
public import Idealize.ShloMosaic.Lib.Pointwise

/-! The reference of the queries, entry by entry. -/

@[expose] public section

set_option maxRecDepth 16384

noncomputable section

namespace Cert.Query.Ref

open Cert.QueryRefIdeal Cert.QueryRefIdeal.Gen Cert.QueryRefIdeal.Value Cert.QueryRefIdeal.Read Idealize.ShloMosaic Idealize.ShloMosaic.TcCoe
open Cert.Common
open Cert.Proj (Stream Gain Scale modAt)

variable (x0 : Stream) (x1 : Gain) (x2 x3 : Scale) (x4 : Weights)

/-- A token's row, scaled and shifted. -/
theorem v18_at (b : Fin 32) (r : Fin 256) (k : Fin 1024) : val_main_v18 (F := Ideal) x0 x1 x2 x3 (ix3 b r k)
    = modAt x0 x1 x2 x3 b r k := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2]
  rfl

/-- The same rows in one list. -/
theorem v19_at (t : Fin 8192) (k : Fin 1024) : val_main_v19 (F := Ideal) x0 x1 x2 x3 (ix2 t k)
    = modAt x0 x1 x2 x3 (seqOf t) (posOf t) k := by
  rw [val_main_v19_apply]
  refine Eq.trans (congrArg _ ?_) (v18_at x0 x1 x2 x3 (seqOf t) (posOf t) k)
  blk_ext [seqOf, posOf]

theorem v23_eq : val_main_v23 (F := Ideal) x0 x1 x2 x3 = scaled x0 x1 x2 x3 := by
  funext i
  idx_vars i
  exact v19_at x0 x1 x2 x3 i0 i1

theorem v20_at (t : Fin 8192) (n : Fin 2048) : val_main_v20 (F := Ideal) x0 x1 x2 x3 x4 (ix2 t n)
    = queryAt x0 x1 x2 x3 x4 (seqOf t) (posOf t) n := by
  pointwise [val_main_v20, v19_at]
  rfl

theorem v22_eq : val_main_v22 (F := Ideal) x0 x1 x2 x3 x4 = queries x0 x1 x2 x3 x4 := by
  funext i
  rw [val_main_v22_apply, val_main_v21_apply]
  refine Eq.trans (congrArg _ ?_) (v20_at x0 x1 x2 x3 x4 (i 1) (colOf (i 0) (i 2)))
  blk_ext [colOf]

end Cert.Query.Ref
-- ==== Proof.Query.Claim.lean ====
module

public import proofs.«01_k».proof.Defs
public import proofs.«01_k».proof.Proof.Query.Kernel
public import proofs.«01_k».proof.Proof.Query.Reference
public import proofs.«01_k».proof.Proof.Gen.QueryIdeal.Frame
public import proofs.«01_k».proof.Proof.Gen.QueryRefIdeal.Run

/-! The queries and the scaled rows: the claims about the call, from the arrays of its run and the reference's. -/

@[expose] public section

set_option maxRecDepth 16384

noncomputable section

namespace Cert.Query

open Idealize.ShloMosaic Idealize.ShloMosaic.TcCoe Idealize.SL.Sem Cert.Common

theorem frame_ri : Cert.quiescent_QueryRefIdeal := fun m ρ _ =>
  (θ_run Cert.QueryRefIdeal.defs _ _).mono (fun r h => ⟨fun c => (h c).2.2, sem_eq_zero_of_no_sems (by decide) r.2⟩)
    (Cert.QueryRefIdeal.Value.run (F := Ideal) m ρ)

theorem algebraic : Cert.algebraic_QueryIdeal_QueryRefIdeal := by
  intro m ρ m' ρ' _ hagree
  refine ⟨fun c => queries (m ((c.tc : Thread _ _).loc Cert.QueryIdeal.main_arg0)) (m ((c.tc : Thread _ _).loc Cert.QueryIdeal.main_arg1))
      (m ((c.tc : Thread _ _).loc Cert.QueryIdeal.main_arg2)) (m ((c.tc : Thread _ _).loc Cert.QueryIdeal.main_arg3))
      (m ((c.tc : Thread _ _).loc Cert.QueryIdeal.main_arg4)),
    fun c => scaled (m ((c.tc : Thread _ _).loc Cert.QueryIdeal.main_arg0)) (m ((c.tc : Thread _ _).loc Cert.QueryIdeal.main_arg1))
      (m ((c.tc : Thread _ _).loc Cert.QueryIdeal.main_arg2)) (m ((c.tc : Thread _ _).loc Cert.QueryIdeal.main_arg3)),
    (θ_run _ _ _).mono (fun r h c => ⟨(h c).1.trans (arr5 m c), (h c).2.1.trans (arr6 m c), (h c).2.2⟩)
      (Cert.QueryIdeal.Value.run_blocks m ρ),
    (θ_run _ _ _).mono (fun r h c => ?_) (Cert.QueryRefIdeal.Value.run (F := Ideal) m' ρ')⟩
  obtain ⟨e0, e1, e2, e3, e4⟩ := hagree c
  refine ⟨(h c).1.trans ?_, (h c).2.1.trans ?_, (h c).2.2⟩
  · rw [Cert.QueryRefIdeal.Read.val_main_v22_eq]
    exact (Ref.v22_eq _ _ _ _ _).trans (congr (congr (congr (congr (congrArg queries e0) e1) e2) e3) e4)
  · rw [Cert.QueryRefIdeal.Read.val_main_v23_eq]
    exact (Ref.v23_eq _ _ _ _).trans (congr (congr (congr (congrArg scaled e0) e1) e2) e3)

end Cert.Query
-- ==== Proof.Mod.Value.lean ====
module

public import proofs.«01_k».proof.Proof.Ret.Spec
public import proofs.«01_k».proof.Proof.Gen.ModIdeal.Value
public import proofs.«01_k».proof.Proof.Gen.ModRefIdeal.Read
public import Idealize.ShloMosaic.Lib.Pipeline.ValueKit
public import Idealize.ShloMosaic.Lib.Pointwise

/-! The modulation of the layers: the array the call leaves and the array of the reference are, for each layer, the gated
conditions through the layer's weights, plus its bias. -/

@[expose] public section

set_option maxRecDepth 16384

noncomputable section

namespace Cert.Mod

open Idealize.ShloMosaic Idealize.ShloMosaic.TcCoe Idealize.SL.Sem Cert.Common
open Cert.Ret (silu)

/-- One entry: a row of gated conditions through a column of weights, plus the bias. -/
def entryOf (c w : Fin 1024 → EReal) (b : EReal) : EReal := (∑ k, silu (c k) * w k) + b

/-- The modulation of both layers. -/
def modulation (c : FVec Ideal (⟨2, ![8, 1024]⟩ : Shape) .f32) (w : FVec Ideal (⟨3, ![2, 1024, 6144]⟩ : Shape) .f32)
    (b : FVec Ideal (⟨2, ![2, 6144]⟩ : Shape) .f32) : FVec Ideal (⟨3, ![2, 8, 6144]⟩ : Shape) .f32 := fun i =>
  entryOf (fun k => c (ix2 (i 1) k)) (fun k => w (ix3 (i 0) k (i 2))) (b (ix2 (i 0) (i 2)))

section Kernel

open Cert.ModIdeal Cert.ModIdeal.Gen

variable (m : (ℓ : Loc nD τ sig) → Buf (Elt Ideal) ℓ) (c : Dev nD)

theorem idx0 : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The layer of a point. -/
def layer (t : Fin cfg0.N) : Fin 2 := ⟨t.val / 4, by
  have h : t.val < 8 := t.isLt
  omega⟩

/-- Column `j` of a point's block among all columns. -/
def column (t : Fin cfg0.N) (j : Fin 1536) : Fin 6144 := ⟨1536 * (t.val % 4) + j.val, by omega⟩

theorem blk_c (t : Fin cfg0.N) (r : Fin 8) (k : Fin 1024) : iblk m c 0 t (ix2 r k) = m ((c : Thread nD τ).loc main_arg0) (ix2 r k) := by
  blk_ext! [iblk, V, idx0 t]

theorem blk_w (t : Fin cfg0.N) (k : Fin 1024) (j : Fin 1536) : iblk m c 1 t (ix3 0 k j)
    = m ((c : Thread nD τ).loc main_arg1) (ix3 (layer t) k (column t j)) := by
  blk_ext! [iblk, V, idx0 t, layer, column]

theorem blk_b (t : Fin cfg0.N) (j : Fin 1536) : iblk m c 2 t (ix3 0 0 j)
    = m ((c : Thread nD τ).loc main_arg2) (ix2 (layer t) (column t j)) := by
  blk_ext! [iblk, V, idx0 t, layer, column]

/-- The block the body stores, read at an entry. -/
theorem out3_apply (x : Vec Ideal S8x1024 .f32) (w : Vec Ideal S1x1024x1536 .f32) (b : Vec Ideal S1x1x1536 .f32) (y : S1x8x1536.Idx)
    (r : Fin 8) (j : Fin 1536) (hr : (y 1).val = r.val) (hj : (y 2).val = j.val) :
    out0_3 x w b y = entryOf (fun k => x (ix2 r k)) (fun k => w (ix3 0 k j)) (b (ix3 0 0 j)) := by
  unfold out0_3
  canon_tiles x hx using cover0_3 ..
  open_payloads
  idx_vars x
  obtain rfl : x1 = r := Fin.ext (by omega)
  obtain rfl : x2 = j := Fin.ext (by omega)
  pointwise
  unfold entryOf silu
  rfl

theorem block3 (t : Fin cfg0.N) (y : S1x8x1536.Idx) : out0_3 (iblk m c 0 t) (iblk m c 1 t) (iblk m c 2 t) y
    = modulation (m ((c : Thread nD τ).loc main_arg0)) (m ((c : Thread nD τ).loc main_arg1)) (m ((c : Thread nD τ).loc main_arg2))
      (ix3 (layer t) (y 1) (column t (y 2))) := by
  refine (out3_apply _ _ _ y (y 1) (y 2) rfl rfl).trans ?_
  exact congr (congr (congrArg entryOf (funext fun k => blk_c m c t (y 1) k)) (funext fun k => blk_w m c t k (y 2))) (blk_b m c t (y 2))

/-- The array after the run. -/
theorem arr3 : (dats m 0 c).arrAt 3 cfg0.N
    = modulation (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (block3 m c t y).trans (congrArg _ ?_)
  blk_ext [idx0 t, layer, column]

end Kernel

section Ref

open Cert.ModRefIdeal Cert.ModRefIdeal.Gen Cert.ModRefIdeal.Value Cert.ModRefIdeal.Read

variable (x0 : FVec Ideal S8x1024 .f32) (x1 : FVec Ideal S2x1024x6144 .f32) (x2 : FVec Ideal S2x6144 .f32)

/-- The gated conditions, which each layer's part writes out again. -/
theorem v0_at (r : Fin 8) (k : Fin 1024) : val_main_v0 (F := Ideal) x0 (ix2 r k) = silu (x0 (ix2 r k)) := by
  pointwise [val_main_v0, val_main_call0_v5, val_main_call0_v4, val_main_call0_v3, val_main_call0_v2, val_main_call0_v1,
    val_main_call0_v0, val_main_call0_cst, val_main_call0_cst_0]
  unfold silu
  rw [zero_sub]

theorem v9_eq : val_main_v9 (F := Ideal) x0 = val_main_v0 (F := Ideal) x0 := rfl

theorem v8_at (r : Fin 8) (j : Fin 6144) : val_main_v8 (F := Ideal) x0 x1 x2 (ix2 r j) = modulation x0 x1 x2 (ix3 0 r j) := by
  pointwise [val_main_v8, val_main_v7, val_main_v6, val_main_v5, val_main_v4, val_main_v3, val_main_v2, val_main_v1, v0_at]
  rfl

theorem v17_at (r : Fin 8) (j : Fin 6144) : val_main_v17 (F := Ideal) x0 x1 x2 (ix2 r j) = modulation x0 x1 x2 (ix3 1 r j) := by
  pointwise [val_main_v17, val_main_v16, val_main_v15, val_main_v14, val_main_v13, val_main_v12, val_main_v11, val_main_v10,
    v9_eq, v0_at]
  rfl

theorem v20_eq : val_main_v20 (F := Ideal) x0 x1 x2 = modulation x0 x1 x2 := by
  funext i
  unfold val_main_v20
  concat_tiles x hx
  · rw [val_main_v18_apply]
    refine Eq.trans (congrArg _ ?_) ((v8_at x0 x1 x2 (i 1) (i 2)).trans (congrArg _ ?_)) <;> blk_ext
  · rw [val_main_v19_apply]
    refine Eq.trans (congrArg _ ?_) ((v17_at x0 x1 x2 (i 1) (i 2)).trans (congrArg _ ?_)) <;> blk_ext

end Ref

end Cert.Mod
-- ==== Proof.Mod.Claim.lean ====
module

public import proofs.«01_k».proof.Defs
public import proofs.«01_k».proof.Proof.Mod.Value
public import proofs.«01_k».proof.Proof.Gen.ModIdeal.Frame
public import proofs.«01_k».proof.Proof.Gen.ModRefIdeal.Run

/-! The modulation of the layers: the claims about the call, from the arrays of its run and the reference's. -/

@[expose] public section

set_option maxRecDepth 16384

noncomputable section

namespace Cert.Mod

open Idealize.ShloMosaic Idealize.ShloMosaic.TcCoe Idealize.SL.Sem Cert.Common

theorem frame_ri : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

theorem algebraic : Cert.algebraic_ModIdeal_ModRefIdeal := by
  intro m ρ m' ρ' _ hagree
  refine ⟨fun c => modulation (m ((c.tc : Thread _ _).loc Cert.ModIdeal.main_arg0)) (m ((c.tc : Thread _ _).loc Cert.ModIdeal.main_arg1))
      (m ((c.tc : Thread _ _).loc Cert.ModIdeal.main_arg2)),
    (θ_run _ _ _).mono (fun r h c => ⟨(h c).1.trans (arr3 m c), (h c).2⟩) (Cert.ModIdeal.Value.run_blocks m ρ),
    (θ_run _ _ _).mono (fun r h c => ?_) (Cert.ModRefIdeal.Value.run (F := Ideal) m' ρ')⟩
  obtain ⟨e0, e1, e2⟩ := hagree c
  refine ⟨(h c).1.trans ?_, (h c).2⟩
  rw [Cert.ModRefIdeal.Read.val_main_v20_eq]
  exact (v20_eq _ _ _).trans (congr (congr (congrArg modulation e0) e1) e2)

end Cert.Mod
-- ==== Proof.Lat.Spec.lean ====
module

public import proofs.«01_k».proof.Proof.Diff.Spec

/-! Differential attention over one sample, entry by entry: a query row turned by its position's angles against the
cached keys with the sample's own turned keys under them, and the mixture of the values stacked the same way. -/

@[expose] public section

set_option maxRecDepth 16384

noncomputable section

namespace Cert.Lat

open Idealize.ShloMosaic Cert.Common Cert.Diff

/-- The angle of lane `l` at token `t`: the token's row or column times the lane's frequency. -/
def angle (row col : Fin 1024 → EReal) (freq : Fin 16 → EReal) (t : Fin 1024) (l : Fin 128) : EReal :=
  (if l.val % 64 < 32 then row t else col t) * freq ⟨l.val % 16, by omega⟩

/-- The lane sixteen above. -/
def up (l : Fin 128) : Fin 128 := ⟨(l.val + 16) % 128, by omega⟩
/-- The lane sixteen below. -/
def down (l : Fin 128) : Fin 128 := ⟨(l.val + 112) % 128, by omega⟩

/-- A row of lanes turned by its angles, sixteen lanes against the next sixteen. -/
def turned (a x : Fin 128 → EReal) (l : Fin 128) : EReal :=
  if l.val % 32 < 16 then x l * Ideal.cos (a l) - x (up l) * Ideal.sin (a l)
  else x (down l) * Ideal.sin (a l) + x l * Ideal.cos (a l)

/-- The cached rows, and under them the sample's own. -/
def under (p : Fin 256 → Fin 128 → EReal) (x : Fin 1024 → Fin 128 → EReal) (c : Fin 1280) (d : Fin 128) : EReal :=
  if h : c.val < 256 then p ⟨c.val, h⟩ d else x ⟨c.val - 256, by omega⟩ d

/-- The scaled product of a query row and key row `c` over the lanes `p` names. -/
def dotted (q : Fin 128 → EReal) (k : Fin 1280 → Fin 128 → EReal) (p : Fin 64 → Fin 128) (c : Fin 1280) : EReal :=
  (∑ d : Fin 64, q (p d) * k c (p d)) * Ideal.ofBits .f32 0x3E000000#32

/-- The difference of the two mixtures. -/
def mixed (q : Fin 128 → EReal) (k v : Fin 1280 → Fin 128 → EReal) (m : Fin 4 → Fin 64 → EReal) (l : Fin 128) : EReal :=
  (∑ c, soft (dotted q k lo) c * v c l) - lam m * ∑ c, soft (dotted q k hi) c * v c l

theorem isNum_dotted (q : Fin 128 → EReal) (k : Fin 1280 → Fin 128 → EReal) (p : Fin 64 → Fin 128) (hq : ∀ d, IsNum (q d))
    (hk : ∀ c d, IsNum (k c d)) (c : Fin 1280) : IsNum (dotted q k p c) :=
  (IsNum.sum _ _ fun _ => (hq _).mul (hk _ _)).mul isNum_eighth

theorem isNum_neg {x : EReal} : IsNum x → IsNum (-x)
  | ⟨a, ha⟩ => ⟨-a, by rw [ha, EReal.coe_neg]⟩

theorem isNum_cos {x : EReal} : IsNum x → IsNum (Ideal.cos x)
  | ⟨a, ha⟩ => ⟨Real.cos a, by rw [ha]; rfl⟩

theorem isNum_sin {x : EReal} : IsNum x → IsNum (Ideal.sin x)
  | ⟨a, ha⟩ => ⟨Real.sin a, by rw [ha]; rfl⟩

theorem isNum_turned (a x : Fin 128 → EReal) (ha : ∀ l, IsNum (a l)) (hx : ∀ l, IsNum (x l)) (l : Fin 128) :
    IsNum (turned a x l) := by
  unfold turned
  split
  · rw [sub_eq_add_neg]
    exact ((hx _).mul (isNum_cos (ha _))).add (isNum_neg ((hx _).mul (isNum_sin (ha _))))
  · exact ((hx _).mul (isNum_sin (ha _))).add ((hx _).mul (isNum_cos (ha _)))

theorem isNum_under (p : Fin 256 → Fin 128 → EReal) (x : Fin 1024 → Fin 128 → EReal) (hp : ∀ c d, IsNum (p c d))
    (hx : ∀ c d, IsNum (x c d)) (c : Fin 1280) (d : Fin 128) : IsNum (under p x c d) := by
  unfold under
  split
  · exact hp _ _
  · exact hx _ _

theorem isNum_angle (row col : Fin 1024 → EReal) (freq : Fin 16 → EReal) (hr : ∀ t, IsNum (row t)) (hc : ∀ t, IsNum (col t))
    (hf : ∀ x, IsNum (freq x)) (t : Fin 1024) (l : Fin 128) : IsNum (angle row col freq t l) := by
  unfold angle
  split
  · exact (hr _).mul (hf _)
  · exact (hc _).mul (hf _)

/-- The projected tokens of the samples. -/
abbrev Tokens := FVec Ideal (⟨3, ![2, 1024, 8192]⟩ : Shape) .f32
/-- The cached keys or values, by head. -/
abbrev Cached := FVec Ideal (⟨4, ![2, 4, 256, 128]⟩ : Shape) .f32

/-- What the slab at column `o` holds for sample `b` and head `h`. -/
def slabOf (x : Tokens) (o : Nat) (ho : o ≤ 7680) (b : Fin 2) (h : Fin 4) (t : Fin 1024) (d : Fin 128) : EReal :=
  x (ix3 b t (slab o ho h d))

/-- The turned queries of sample `b` and head `h`. -/
def queries (A : Fin 1024 → Fin 128 → EReal) (x : Tokens) (b : Fin 2) (h : Fin 4) (t : Fin 1024) : Fin 128 → EReal :=
  turned (A t) (slabOf x 0 (by omega) b h t)

/-- The keys of sample `b` and head `h`. -/
def keys (A : Fin 1024 → Fin 128 → EReal) (x : Tokens) (ck : Cached) (b : Fin 2) (h : Fin 4) : Fin 1280 → Fin 128 → EReal :=
  under (fun c d => ck (ix4 b h c d)) fun t => turned (A t) (slabOf x 512 (by omega) b h t)

/-- The values of sample `b` and head `h`. -/
def values (x : Tokens) (cv : Cached) (b : Fin 2) (h : Fin 4) : Fin 1280 → Fin 128 → EReal :=
  under (fun c d => cv (ix4 b h c d)) (slabOf x 1024 (by omega) b h)

/-- One head's result at a token. -/
def headAt (A : Fin 1024 → Fin 128 → EReal) (x : Tokens) (ck cv : Cached) (m : FVec Ideal (⟨2, ![4, 64]⟩ : Shape) .f32)
    (g : FVec Ideal (⟨1, ![128]⟩ : Shape) .f32) (b : Fin 2) (h : Fin 4) (t : Fin 1024) (l : Fin 128) : EReal :=
  normed (mixed (queries A x b h t) (keys A x ck b h) (values x cv b h) fun a d => m (ix2 a d)) (fun d => g (ix1 d)) l

/-- The attention's result of all samples, the heads side by side. -/
def attn (A : Fin 1024 → Fin 128 → EReal) (x : Tokens) (ck cv : Cached) (m : FVec Ideal (⟨2, ![4, 64]⟩ : Shape) .f32)
    (g : FVec Ideal (⟨1, ![128]⟩ : Shape) .f32) : FVec Ideal (⟨3, ![2, 1024, 512]⟩ : Shape) .f32 := fun i =>
  headAt A x ck cv m g (i 0) (headOf (i 2)) (i 1) (laneOf (i 2))

/-- The query and key columns and the cached keys are numbers. -/
def Numbers (x : Tokens) (ck : Cached) : Prop :=
  (∀ b t (j : Fin 8192), j.val < 1024 → IsNum (x (ix3 b t j))) ∧ ∀ b h c d, IsNum (ck (ix4 b h c d))

theorem isNum_queries (A : Fin 1024 → Fin 128 → EReal) (hA : ∀ t l, IsNum (A t l)) (x : Tokens) (ck : Cached) (n : Numbers x ck)
    (b : Fin 2) (h : Fin 4) (t : Fin 1024) (l : Fin 128) : IsNum (queries A x b h t l) :=
  isNum_turned _ _ (hA t) (fun d => n.1 b t _ (by show 0 + (128 * h.val + d.val) < 1024; omega)) l

theorem isNum_keys (A : Fin 1024 → Fin 128 → EReal) (hA : ∀ t l, IsNum (A t l)) (x : Tokens) (ck : Cached) (n : Numbers x ck)
    (b : Fin 2) (h : Fin 4) (c : Fin 1280) (l : Fin 128) : IsNum (keys A x ck b h c l) :=
  isNum_under _ _ (fun c d => n.2 b h c d)
    (fun t l => isNum_turned _ _ (hA t) (fun d => n.1 b t _ (by show 512 + (128 * h.val + d.val) < 1024; omega)) l) c l

end Cert.Lat
-- ==== Proof.Lat.Kernel.lean ====
module

public import proofs.«01_k».proof.Proof.Gen.LatIdeal.Value
public import proofs.«01_k».proof.Proof.Lat.Spec
public import Idealize.ShloMosaic.Lib.Pointwise
public import Idealize.ShloMosaic.Lib.KernelVsHost

/-! The vectors the kernel computes at one grid point, stage by stage, read at an entry. -/

@[expose] public section

set_option maxRecDepth 16384

noncomputable section

namespace Cert.Lat

open Cert.LatIdeal Cert.LatIdeal.Gen Idealize.ShloMosaic Idealize.ShloMosaic.TcCoe Idealize.SL.Sem Cert.Common Cert.Diff

/-- A number of rows turned by tables of cosines and of sines of either sign. -/
def turnV {n : Nat} (x c sa sb : FVec Ideal (⟨2, ![n, 128]⟩ : Shape) .f32)
    (h : (⟨2, ![n, 128]⟩ : Shape).Rotates (1 : Fin 2) none) : FVec Ideal (⟨2, ![n, 128]⟩ : Shape) .f32 :=
  addf (addf (mulf x c) (mulf (dynamicRotate (1 : Fin 2) 16#32 none x h) sa)) (mulf (dynamicRotate (1 : Fin 2) 112#32 none x h) sb)

theorem turnV_apply {n : Nat} (x c sa sb : FVec Ideal (⟨2, ![n, 128]⟩ : Shape) .f32)
    (h : (⟨2, ![n, 128]⟩ : Shape).Rotates (1 : Fin 2) none) (r : Fin n) (l : Fin 128) :
    turnV x c sa sb h (ix2 r l) = (x (ix2 r l) * c (ix2 r l) + x (ix2 r (down l)) * sa (ix2 r l)) + x (ix2 r (up l)) * sb (ix2 r l) := by
  have e1 : dynamicRotate (1 : Fin 2) 16#32 none x h (ix2 r l) = x (ix2 r (down l)) :=
    dynamicRotate_apply _ _ _ _ _ _ (fun b => by
      match b with
      | ⟨0, _⟩ => rfl
      | ⟨1, _⟩ => show (l.val + 112) % 128 = (l.val + 128 - 16) % 128; omega)
  have e2 : dynamicRotate (1 : Fin 2) 112#32 none x h (ix2 r l) = x (ix2 r (up l)) :=
    dynamicRotate_apply _ _ _ _ _ _ (fun b => by
      match b with
      | ⟨0, _⟩ => rfl
      | ⟨1, _⟩ => show (l.val + 16) % 128 = (l.val + 128 - 112) % 128; omega)
  show (x (ix2 r l) * c (ix2 r l) + dynamicRotate (1 : Fin 2) 16#32 none x h (ix2 r l) * sa (ix2 r l))
    + dynamicRotate (1 : Fin 2) 112#32 none x h (ix2 r l) * sb (ix2 r l) = _
  rw [e1, e2]

/-- With the tables of the angles, that is the turned row. -/
theorem turned_eq (a x : Fin 128 → EReal) (l : Fin 128) :
    (x l * Ideal.cos (a l) + x (down l) * (if l.val % 32 < 16 then 0 else Ideal.sin (a l)))
      + x (up l) * (if l.val % 32 < 16 then -Ideal.sin (a l) else 0) = turned a x l := by
  unfold turned
  by_cases h : l.val % 32 < 16
  · rw [if_pos h, if_pos h, if_pos h, mul_zero, add_zero, mul_neg, sub_eq_add_neg]
  · rw [if_neg h, if_neg h, if_neg h, mul_zero, add_zero, add_comm]

/-- The lanes of the lower half. -/
def lanes : IVec S1x128 1 := cmpi .slt (iota .tc S1x128 32 [1] iota_S1x128_d1_w32) (broadcast S1x128 64#32)

/-- The queries with the upper half of their lanes zero. -/
def qLo (q : FVec Ideal S256x128 .f32) : FVec Ideal S256x128 .bf16 :=
  truncf .bf16 (select (broadcastTo S256x128 (shapeCast S1x128 lanes shapeCasts_S1x128_S1x128) broadcasts_S1x128_S256x128) q
    (broadcast S256x128 (Scalar.ofBits .f32 0x00000000#32))) bitsLt_bf16_f32

/-- The queries with the lower half of their lanes zero. -/
def qHi (q : FVec Ideal S256x128 .f32) : FVec Ideal S256x128 .bf16 :=
  truncf .bf16 (select (broadcastTo S256x128 (shapeCast S1x128 lanes shapeCasts_S1x128_S1x128) broadcasts_S1x128_S256x128)
    (broadcast S256x128 (Scalar.ofBits .f32 0x00000000#32)) q) bitsLt_bf16_f32

/-- The scaled products of the queries and the keys. -/
def scores (q : FVec Ideal S256x128 .bf16) (k : FVec Ideal S1280x128 .bf16) : FVec Ideal S256x1280 .f32 :=
  mulf (matmul dot_S256x128_S1280x128_S256x1280_1_1_0_0_n_n none q k (constant S256x1280 .f32 0x00000000#32))
    (broadcast S256x1280 (Scalar.ofBits .f32 0x3E000000#32))

/-- The exponentials of a block of scores, each row less its maximum. -/
def expRows (s : FVec Ideal S256x1280 .f32) : FVec Ideal S256x1280 .f32 :=
  exp (subf s (broadcastTo S256x1280 (shapeCast S256x1
    (multiReduction .maximumf [1] S256 s 0xFF800000#32 reduces_S256x1280_S256 (.inl rfl) rfl) shapeCasts_S256_S256x1)
    broadcasts_S256x1_S256x1280))

/-- Each row times the reciprocal of its sum. -/
def normRows (e : FVec Ideal S256x1280 .f32) : FVec Ideal S256x1280 .bf16 :=
  truncf .bf16 (mulf e (broadcastTo S256x1280 (divf (broadcast S256x1 (Scalar.ofBits .f32 0x3F800000#32)) (shapeCast S256x1
    (multiReduction .add [1] S256 e 0x00000000#32 reduces_S256x1280_S256 (.inl rfl) rfl) shapeCasts_S256_S256x1))
    broadcasts_S256x1_S256x1280)) bitsLt_bf16_f32

/-- The difference of the two mixtures of the values. -/
def mixV (p1 p2 : FVec Ideal S256x1280 .bf16) (v : FVec Ideal S1280x128 .bf16) (w : FVec Ideal S1x1 .f32) : FVec Ideal S256x128 .f32 :=
  subf (matmul dot_S256x1280_S1280x128_S256x128_1_0_0_1_n_n none p1 v (constant S256x128 .f32 0x00000000#32))
    (mulf (broadcastTo S256x128 w broadcasts_S1x1_S256x128)
      (matmul dot_S256x1280_S1280x128_S256x128_1_0_0_1_n_n none p2 v (constant S256x128 .f32 0x00000000#32)))

/-- Each row over its root mean square, times the gain and the constant. -/
def normV (o : FVec Ideal S256x128 .f32) (g : FVec Ideal S1x128 .f32) : FVec Ideal S256x128 .f32 :=
  mulf (mulf (mulf o (broadcastTo S256x128 (rsqrt (addf (divf (shapeCast S256x1
      (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128))
    (broadcastTo S256x128 (shapeCast S1x128 g shapeCasts_S1x128_S1x128) broadcasts_S1x128_S256x128))
    (broadcast S256x128 (Scalar.ofBits .f32 0x3F24FD5C#32))

/-- One block of queries, from the turned queries, the stacked keys and values, the learned vectors and the gain. -/
def blockV (q : FVec Ideal S256x128 .f32) (k v : FVec Ideal S1280x128 .bf16) (m : Vec Ideal S4x64 .f32) (g : Vec Ideal S1x128 .f32) :
    FVec Ideal S1x256x128 .f32 :=
  shapeCast S1x256x128 (normV (mixV (normRows (expRows (scores (qLo q) k))) (normRows (expRows (scores (qHi q) k))) v
    (k0_pay12 m)) g) shapeCasts_S256x128_S1x256x128

/-- What a point stores is that block. -/
theorem pay_eq (x : Vec Ideal S1x256x128 .f32) (c sa sb : Vec Ideal S256x128 .f32) (k v : Vec Ideal S1280x128 .bf16)
    (m : Vec Ideal S4x64 .f32) (g : Vec Ideal S1x128 .f32) :
    k0_pay1 v (k0_pay10 k (k0_pay8 x c sa sb)) (k0_pay11 v (k0_pay9 x c sa sb k) (Scalar.ofBits .f32 0x3E000000#32)) (k0_pay12 m) g
      = blockV (k0_pay6 x c sa sb) k v m g := rfl

theorem scores_apply (q : FVec Ideal S256x128 .bf16) (k : FVec Ideal S1280x128 .bf16) (r : Fin 256) (c : Fin 1280) :
    scores q k (ix2 r c) = (∑ x : Fin 128, q (ix2 r x) * k (ix2 c x)) * Ideal.ofBits .f32 0x3E000000#32 := by
  pointwise [scores]

theorem expRows_apply (s : FVec Ideal S256x1280 .f32) (r : Fin 256) (c : Fin 1280) :
    expRows s (ix2 r c) = weight (fun x : Fin 1280 => s (ix2 r x)) c := by
  pointwise [expRows]
  rfl

theorem normRows_apply (s : FVec Ideal S256x1280 .f32) (r : Fin 256) (c : Fin 1280) :
    normRows s (ix2 r c) = s (ix2 r c) * Ideal.div 1 (∑ x : Fin 1280, s (ix2 r x)) := by
  pointwise [normRows]

theorem lane_word (c : Fin 128) : IntOp.cmpi CmpIPredicate.slt (BitVec.ofNat 32 c.val) 64#32 = if c.val < 64 then 1#1 else 0#1 :=
  (by decide +kernel : ∀ c : Fin 128, IntOp.cmpi CmpIPredicate.slt (BitVec.ofNat 32 c.val) 64#32 = if c.val < 64 then 1#1 else 0#1) c

theorem qLo_apply (q : FVec Ideal S256x128 .f32) (r : Fin 256) (c : Fin 128) :
    qLo q (ix2 r c) = if c.val < 64 then q (ix2 r c) else 0 := by
  pointwise [qLo, lanes]
  rw [lane_word]
  split <;> rfl

theorem qHi_apply (q : FVec Ideal S256x128 .f32) (r : Fin 256) (c : Fin 128) :
    qHi q (ix2 r c) = if c.val < 64 then 0 else q (ix2 r c) := by
  pointwise [qHi, lanes]
  rw [lane_word]
  split <;> rfl

theorem lamV_apply (m : Vec Ideal S4x64 .f32) (a b : Fin 1) : k0_pay12 m (ix2 a b) = lam fun i x => m (ix2 i x) := by
  pointwise [k0_pay12]
  rfl

theorem mixV_apply (p1 p2 : FVec Ideal S256x1280 .bf16) (v : FVec Ideal S1280x128 .bf16) (w : FVec Ideal S1x1 .f32)
    (r : Fin 256) (l : Fin 128) :
    mixV p1 p2 v w (ix2 r l) = (∑ c : Fin 1280, p1 (ix2 r c) * v (ix2 c l)) - w (ix2 0 0) * ∑ c : Fin 1280, p2 (ix2 r c) * v (ix2 c l) := by
  pointwise [mixV]

theorem normV_apply (o : FVec Ideal S256x128 .f32) (g : FVec Ideal S1x128 .f32) (r : Fin 256) (l : Fin 128) :
    normV o g (ix2 r l) = normed (fun x => o (ix2 r x)) (fun x => g (ix2 0 x)) l := by
  pointwise [normV]
  rfl

/-- The lower half's scores. -/
theorem scores_lo (q : FVec Ideal S256x128 .f32) (k : FVec Ideal S1280x128 .bf16) (r : Fin 256) (c : Fin 1280) :
    scores (qLo q) k (ix2 r c) = dotted (fun d => q (ix2 r d)) (fun c d => k (ix2 c d)) lo c := by
  rw [scores_apply, dotted, sum_lo]
  · refine congrArg (· * _) (Finset.sum_congr rfl fun d _ => ?_)
    rw [qLo_apply, if_pos (show (lo d).val < 64 from d.isLt)]
  · intro x hx
    rw [qLo_apply, if_neg hx, zero_mul]

/-- The upper half's scores. -/
theorem scores_hi (q : FVec Ideal S256x128 .f32) (k : FVec Ideal S1280x128 .bf16) (r : Fin 256) (c : Fin 1280) :
    scores (qHi q) k (ix2 r c) = dotted (fun d => q (ix2 r d)) (fun c d => k (ix2 c d)) hi c := by
  rw [scores_apply, dotted, sum_hi]
  · refine congrArg (· * _) (Finset.sum_congr rfl fun d _ => ?_)
    rw [qHi_apply, if_neg (show ¬ (hi d).val < 64 by show ¬ (64 + d.val < 64); omega)]
  · intro x hx
    rw [qHi_apply, if_pos hx, zero_mul]

/-- The normalised rows of scores that are numbers are their softmax. -/
theorem soft_apply (s : FVec Ideal S256x1280 .f32) (r : Fin 256) (f : Fin 1280 → EReal) (hs : ∀ c, s (ix2 r c) = f c)
    (hf : ∀ c, IsNum (f c)) (c : Fin 1280) : normRows (expRows s) (ix2 r c) = soft f c := by
  rw [normRows_apply, expRows_apply]
  simp only [expRows_apply, hs]
  exact soft_of_recip f c hf

/-- One block at an entry. -/
theorem blockV_apply (q : FVec Ideal S256x128 .f32) (k v : FVec Ideal S1280x128 .bf16) (m : Vec Ideal S4x64 .f32)
    (g : Vec Ideal S1x128 .f32) (hq : ∀ r d, IsNum (q (ix2 r d))) (hk : ∀ c d, IsNum (k (ix2 c d))) (a : Fin 1) (r : Fin 256)
    (l : Fin 128) :
    blockV q k v m g (ix3 a r l) = normed (mixed (fun d => q (ix2 r d)) (fun c d => k (ix2 c d)) (fun c d => v (ix2 c d))
      fun i x => m (ix2 i x)) (fun x => g (ix2 0 x)) l := by
  have key : blockV q k v m g (ix3 a r l) = normV (mixV (normRows (expRows (scores (qLo q) k)))
    (normRows (expRows (scores (qHi q) k))) v (k0_pay12 m)) g (ix2 r l) := by
    unfold blockV
    generalize normV _ _ = y
    pointwise
  rw [key, normV_apply]
  refine congrArg (fun o => normed o _ l) (funext fun x => ?_)
  have n : ∀ p c, IsNum (dotted (fun d => q (ix2 r d)) (fun c d => k (ix2 c d)) p c) := fun p c =>
    isNum_dotted _ _ p (fun d => hq r d) (fun c d => hk c d) c
  rw [mixV_apply, mixed, lamV_apply]
  simp only [soft_apply _ r _ (scores_lo q k r) (n lo), soft_apply _ r _ (scores_hi q k r) (n hi)]

/-- The queries a point turns. -/
theorem pay6_apply (x : Vec Ideal S1x256x128 .f32) (c sa sb : Vec Ideal S256x128 .f32) (r : Fin 256) (l : Fin 128) :
    k0_pay6 x c sa sb (ix2 r l) = (x (ix3 0 r l) * c (ix2 r l) + x (ix3 0 r (down l)) * sa (ix2 r l))
      + x (ix3 0 r (up l)) * sb (ix2 r l) := by
  have e : k0_pay6 x c sa sb = turnV (shapeCast S256x128 x shapeCasts_S1x256x128_S256x128)
      (shapeCast S256x128 c shapeCasts_S256x128_S256x128) (shapeCast S256x128 sa shapeCasts_S256x128_S256x128)
      (shapeCast S256x128 sb shapeCasts_S256x128_S256x128) rotates_S256x128_d1 := rfl
  rw [e, turnV_apply]
  pointwise

/-- The keys a first point turns. -/
theorem pay3_apply (x : Vec Ideal S1x1024x128 .f32) (c sa sb : Vec Ideal S1024x128 .f32) (r : Fin 1024) (l : Fin 128) :
    k0_pay3 x c sa sb (ix2 r l) = (x (ix3 0 r l) * c (ix2 r l) + x (ix3 0 r (down l)) * sa (ix2 r l))
      + x (ix3 0 r (up l)) * sb (ix2 r l) := by
  have e : k0_pay3 x c sa sb = shapeCast S1024x128 (truncf .bf16 (turnV (shapeCast S1024x128 x shapeCasts_S1x1024x128_S1024x128)
      (shapeCast S1024x128 c shapeCasts_S1024x128_S1024x128) (shapeCast S1024x128 sa shapeCasts_S1024x128_S1024x128)
      (shapeCast S1024x128 sb shapeCasts_S1024x128_S1024x128) rotates_S1024x128_d1) bitsLt_bf16_f32) shapeCasts_S1024x128_S1024x128 := rfl
  rw [e]
  pointwise
  rw [turnV_apply]
  pointwise

theorem pay2_apply (x : Vec Ideal S1x1x256x128 .f32) (r : Fin 256) (l : Fin 128) : k0_pay2 x (ix2 r l) = (x (ix4 0 0 r l) : EReal) := by
  pointwise [k0_pay2]

theorem pay4_apply (x : Vec Ideal S1x1x256x128 .f32) (r : Fin 256) (l : Fin 128) : k0_pay4 x (ix2 r l) = (x (ix4 0 0 r l) : EReal) := by
  pointwise [k0_pay4]

theorem pay5_apply (x : Vec Ideal S1x1024x128 .f32) (r : Fin 1024) (l : Fin 128) : k0_pay5 x (ix2 r l) = (x (ix3 0 r l) : EReal) := by
  pointwise [k0_pay5]

end Cert.Lat
-- ==== Proof.Lat.Tables.lean ====
module

public import proofs.«01_k».proof.Proof.Lat.Kernel
public import Idealize.ShloMosaic.Lib.Pipeline.ValueKit
public import Idealize.ShloMosaic.Lib.Claim

/-! The tables the kernel is handed, as the host computes them from the tokens' rows and columns and the frequencies. -/

@[expose] public section

set_option maxRecDepth 16384

noncomputable section

namespace Cert.Lat

open Cert.LatIdeal Cert.LatIdeal.Gen Idealize.ShloMosaic Idealize.ShloMosaic.TcCoe Idealize.SL.Sem Cert.Common

variable (m : (ℓ : Loc nD τ sig) → Buf (Elt Ideal) ℓ) (c : Dev nD)

/-- A row of flags, one for each lane. -/
def flags (l : Fin 128 → BitVec 1) : IVec S1x128 1 := broadcastInDim S1x128 ![1] bcast_S128_S1x128_1 (fun i => l (S128.rowMajor i))

/-- Every lane's frequency. -/
def freqV (f : FVec Ideal S16 .f32) : FVec Ideal S128 .f32 :=
  Host.gather gather_S16_S128x1_S128_n_0_n_n_0_1_1 f (broadcastInDim S128x1 ![0] bcast_S128_S128x1_0
    (select (constantI S128 1 0#1) (addi (fun i => lit0 (S128.rowMajor i)) (broadcastInDim S128 ![] bcast_S_S128 (constantI S_ 32 16#32)))
      (fun i => lit0 (S128.rowMajor i))))

/-- The angles of every token and lane. -/
def angV (row col : FVec Ideal S1024 .f32) (f : FVec Ideal S16 .f32) : FVec Ideal S1024x128 .f32 :=
  mulf (select (broadcastInDim S1024x128 ![0, 1] bcast_S1x128_S1024x128_0_1 (flags lit1))
      (broadcastInDim S1024x128 ![0, 1] bcast_S1024x1_S1024x128_0_1 (broadcastInDim S1024x1 ![0] bcast_S1024_S1024x1_0 col))
      (broadcastInDim S1024x128 ![0, 1] bcast_S1024x1_S1024x128_0_1 (broadcastInDim S1024x1 ![0] bcast_S1024_S1024x1_0 row)))
    (broadcastInDim S1024x128 ![0, 1] bcast_S1x128_S1024x128_0_1 (broadcastInDim S1x128 ![1] bcast_S128_S1x128_1 (freqV f)))

theorem V28 : V m c main_v28 = angV (V m c main_v5) (V m c main_v7) (V m c main_v17) := by
  entry_read
  rfl

theorem V29 : V m c main_v29 = (Host.cos (angV (V m c main_v5) (V m c main_v7) (V m c main_v17)) : FVec Ideal S1024x128 .f32) := by
  entry_read
  rfl

theorem V31 : V m c main_v31 = (select (broadcastInDim S1024x128 ![0, 1] bcast_S1x128_S1024x128_0_1 (flags lit2))
    (Host.sin (angV (V m c main_v5) (V m c main_v7) (V m c main_v17)))
    (broadcastInDim S1024x128 ![] bcast_S_S1024x128 (constant S_ .f32 0x00000000#32)) : FVec Ideal S1024x128 .f32) := by
  entry_read
  rfl

theorem V33 : V m c main_v33 = (select (broadcastInDim S1024x128 ![0, 1] bcast_S1x128_S1024x128_0_1 (flags lit3))
    (broadcastInDim S1024x128 ![] bcast_S_S1024x128 (constant S_ .f32 0x00000000#32))
    (Host.negf (Host.sin (angV (V m c main_v5) (V m c main_v7) (V m c main_v17)))) : FVec Ideal S1024x128 .f32) := by
  entry_read
  rfl

theorem rowMajor_lane (x : Fin 128) : S128.rowMajor (ix1 x) = x := Fin.ext (Shape.rowMajor_val_one _)

theorem flags_apply (l : Fin 128 → BitVec 1) (a : Fin 1) (x : Fin 128) : flags l (ix2 a x) = l x := by
  pointwise [flags]
  exact congrArg l (rowMajor_lane x)

theorem lit1_eq (l : Fin 128) : lit1 l = if l.val % 64 < 32 then 0#1 else 1#1 :=
  (by decide +kernel : ∀ l : Fin 128, lit1 l = if l.val % 64 < 32 then 0#1 else 1#1) l

theorem lit2_eq (l : Fin 128) : lit2 l = if l.val % 32 < 16 then 0#1 else 1#1 :=
  (by decide +kernel : ∀ l : Fin 128, lit2 l = if l.val % 32 < 16 then 0#1 else 1#1) l

theorem lit3_eq (l : Fin 128) : lit3 l = if l.val % 32 < 16 then 0#1 else 1#1 :=
  (by decide +kernel : ∀ l : Fin 128, lit3 l = if l.val % 32 < 16 then 0#1 else 1#1) l

theorem lit0_eq (l : Fin 128) : (lit0 l).toInt.toNat = l.val % 16 :=
  (by decide +kernel : ∀ l : Fin 128, (lit0 l).toInt.toNat = l.val % 16) l

/-- A gather of single entries, read at a lane. -/
theorem gather_lane (f : FVec Ideal S16 .f32) (idx : IVec S128x1 32) (l : Fin 128) :
    Host.gather gather_S16_S128x1_S128_n_0_n_n_0_1_1 f idx (ix1 l)
      = f (ix1 ⟨min (idx (ix2 l 0)).toInt.toNat 15, by omega⟩) := by
  unfold Host.gather
  congr 1
  funext a
  obtain rfl : a = 0 := Subsingleton.elim _ _
  refine Fin.ext ?_
  show gather_S16_S128x1_S128_n_0_n_n_0_1_1.start (ix1 l) idx 0 + gather_S16_S128x1_S128_n_0_n_n_0_1_1.batchCoord (ix1 l) 0
    + gather_S16_S128x1_S128_n_0_n_n_0_1_1.offCoord (ix1 l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S128x1_S128_n_0_n_n_0_1_1.startIndexMap from List.mem_singleton.mpr rfl)]
  have hsi : gather_S16_S128x1_S128_n_0_n_n_0_1_1.siIdx (ix1 l)
      ⟨List.idxOf (0 : Fin 1) gather_S16_S128x1_S128_n_0_n_n_0_1_1.startIndexMap,
      List.idxOf_lt_length_iff.2 (List.mem_singleton.mpr rfl)⟩ = ix2 l 0 := by
    funext b
    refine Fin.ext ?_
    match b with
    | ⟨0, _⟩ => rfl
    | ⟨1, _⟩ => rfl
  rw [hsi]
  rfl

theorem freqV_apply (f : FVec Ideal S16 .f32) (l : Fin 128) : freqV f (ix1 l) = f (ix1 ⟨l.val % 16, by omega⟩) := by
  unfold freqV
  rw [gather_lane]
  refine congrArg f (congrArg ix1 (Fin.ext ?_))
  have e : (broadcastInDim S128x1 ![0] bcast_S128_S128x1_0
      (select (constantI S128 1 0#1) (addi (fun i => lit0 (S128.rowMajor i)) (broadcastInDim S128 ![] bcast_S_S128 (constantI S_ 32 16#32)))
        (fun i => lit0 (S128.rowMajor i)))) (ix2 l (0 : Fin 1)) = lit0 l := by
    pointwise
    exact congrArg lit0 (rowMajor_lane l)
  show min (BitVec.toInt _).toNat 15 = l.val % 16
  rw [e, lit0_eq]
  omega

theorem angV_apply (row col : FVec Ideal S1024 .f32) (f : FVec Ideal S16 .f32) (t : Fin 1024) (l : Fin 128) :
    angV row col f (ix2 t l) = angle (fun t => row (ix1 t)) (fun t => col (ix1 t)) (fun j => f (ix1 j)) t l := by
  pointwise [angV, flags_apply, freqV_apply]
  rw [lit1_eq]
  unfold angle
  split <;> rfl

/-- The angles of every token and lane, from the rows, the columns and the frequencies the host computes. -/
def angles : Fin 1024 → Fin 128 → EReal :=
  angle (fun t => V m c main_v5 (ix1 t)) (fun t => V m c main_v7 (ix1 t)) fun j => V m c main_v17 (ix1 j)

/-- The table of cosines. -/
theorem cos_at (t : Fin 1024) (l : Fin 128) : V m c main_v29 (ix2 t l) = Ideal.cos (angles m c t l) := by
  rw [V29]
  pointwise [angV_apply]
  rfl

/-- The table of the sines of the upper sixteen lanes. -/
theorem sa_at (t : Fin 1024) (l : Fin 128) :
    V m c main_v31 (ix2 t l) = if l.val % 32 < 16 then 0 else Ideal.sin (angles m c t l) := by
  rw [V31]
  pointwise [angV_apply, flags_apply]
  rw [lit2_eq]
  split <;> rfl

/-- The table of the negated sines of the lower sixteen lanes. -/
theorem sb_at (t : Fin 1024) (l : Fin 128) :
    V m c main_v33 (ix2 t l) = if l.val % 32 < 16 then -Ideal.sin (angles m c t l) else 0 := by
  rw [V33]
  pointwise [angV_apply, flags_apply]
  rw [lit3_eq]
  split <;> rfl

end Cert.Lat
-- ==== Proof.Lat.Arrays.lean ====
module

public import proofs.«01_k».proof.Proof.Lat.Tables
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.VecWindow

/-! The array the attention over the samples leaves. -/

@[expose] public section

set_option maxRecDepth 16384

noncomputable section

namespace Cert.Lat

open Cert.LatIdeal Cert.LatIdeal.Gen Cert.LatIdeal.Value Idealize.ShloMosaic Idealize.ShloMosaic.TcCoe Idealize.SL.Sem Cert.Common Cert.Diff

variable (m : (ℓ : Loc nD τ sig) → Buf (Elt Ideal) ℓ) (c : Dev nD)

/-- Where each window's block lies at a grid point. -/
theorem idx0 : ∀ t : Fin cfg0.N, win0_0.index t = ![t.val / 16, t.val % 4, t.val / 4 % 4] ∧ win0_1.index t = ![t.val / 16, 0, 4 + t.val / 4 % 4]
    ∧ win0_2.index t = ![t.val / 16, 0, 8 + t.val / 4 % 4] ∧ win0_3.index t = ![t.val / 16, t.val / 4 % 4, 0, 0]
    ∧ win0_4.index t = ![t.val / 16, t.val / 4 % 4, 0, 0] ∧ win0_5.index t = ![t.val % 4, 0] ∧ win0_6.index t = ![t.val % 4, 0]
    ∧ win0_7.index t = ![t.val % 4, 0] ∧ win0_8.index t = ![0, 0] ∧ win0_9.index t = ![0, 0] ∧ win0_10.index t = ![0, 0]
    ∧ win0_11.index t = ![0, 0] ∧ win0_12.index t = ![0, 0] ∧ win0_13.index t = ![t.val / 16, t.val % 4, t.val / 4 % 4] :=
  (by decide +kernel : ∀ t : Fin grid0.N, _)

theorem lt32 (t : Fin cfg0.N) : t.val < 32 := t.isLt

/-- The sample of a grid point. -/
def sample (t : Fin cfg0.N) : Fin 2 := ⟨t.val / 16, by have := lt32 t; omega⟩
/-- The head of a grid point. -/
def headAtPt (t : Fin cfg0.N) : Fin 4 := ⟨t.val / 4 % 4, by omega⟩
/-- The token in row `r` of a grid point's queries. -/
def token (t : Fin cfg0.N) (r : Fin 256) : Fin 1024 := ⟨256 * (t.val % 4) + r.val, by omega⟩

theorem blk_q (t : Fin cfg0.N) (r : Fin 256) (d : Fin 128) : iblk m c 0 t (ix3 0 r d)
    = slabOf (m ((c : Thread nD τ).loc main_arg0)) 0 (by omega) (sample t) (headAtPt t) (token t r) d := by
  unfold slabOf
  blk_ext! [iblk, V, idx0 t, sample, headAtPt, token, slab]

theorem blk_k (t : Fin cfg0.N) (r : Fin 1024) (d : Fin 128) : iblk m c 1 t (ix3 0 r d)
    = slabOf (m ((c : Thread nD τ).loc main_arg0)) 512 (by omega) (sample t) (headAtPt t) r d := by
  unfold slabOf
  blk_ext! [iblk, V, idx0 t, sample, headAtPt, slab]

theorem blk_v (t : Fin cfg0.N) (r : Fin 1024) (d : Fin 128) : iblk m c 2 t (ix3 0 r d)
    = slabOf (m ((c : Thread nD τ).loc main_arg0)) 1024 (by omega) (sample t) (headAtPt t) r d := by
  unfold slabOf
  blk_ext! [iblk, V, idx0 t, sample, headAtPt, slab]

theorem blk_kPrev (t : Fin cfg0.N) (r : Fin 256) (d : Fin 128) :
    iblk m c 3 t (ix4 0 0 r d) = m ((c : Thread nD τ).loc main_arg1) (ix4 (sample t) (headAtPt t) r d) := by
  blk_ext! [iblk, V, idx0 t, sample, headAtPt]

theorem blk_vPrev (t : Fin cfg0.N) (r : Fin 256) (d : Fin 128) :
    iblk m c 4 t (ix4 0 0 r d) = m ((c : Thread nD τ).loc main_arg2) (ix4 (sample t) (headAtPt t) r d) := by
  blk_ext! [iblk, V, idx0 t, sample, headAtPt]

theorem blk_c (t : Fin cfg0.N) (r : Fin 256) (d : Fin 128) : iblk m c 5 t (ix2 r d) = V m c main_v29 (ix2 (token t r) d) := by
  blk_ext [iblk, idx0 t, token]

theorem blk_sa (t : Fin cfg0.N) (r : Fin 256) (d : Fin 128) : iblk m c 6 t (ix2 r d) = V m c main_v31 (ix2 (token t r) d) := by
  blk_ext [iblk, idx0 t, token]

theorem blk_sb (t : Fin cfg0.N) (r : Fin 256) (d : Fin 128) : iblk m c 7 t (ix2 r d) = V m c main_v33 (ix2 (token t r) d) := by
  blk_ext [iblk, idx0 t, token]

theorem blk_kc (t : Fin cfg0.N) (r : Fin 1024) (d : Fin 128) : iblk m c 8 t (ix2 r d) = V m c main_v29 (ix2 r d) := by
  blk_ext [iblk, idx0 t]

theorem blk_ksa (t : Fin cfg0.N) (r : Fin 1024) (d : Fin 128) : iblk m c 9 t (ix2 r d) = V m c main_v31 (ix2 r d) := by
  blk_ext [iblk, idx0 t]

theorem blk_ksb (t : Fin cfg0.N) (r : Fin 1024) (d : Fin 128) : iblk m c 10 t (ix2 r d) = V m c main_v33 (ix2 r d) := by
  blk_ext [iblk, idx0 t]

theorem blk_lam (t : Fin cfg0.N) (a : Fin 4) (x : Fin 64) :
    iblk m c 11 t (ix2 a x) = m ((c : Thread nD τ).loc main_arg3) (ix2 a x) := by
  blk_ext! [iblk, V, idx0 t]

theorem V34 : V m c main_v34
    = (shapeCast S1x128 (m ((c : Thread nD τ).loc main_arg4) : FVec Ideal S128 .f32) shapeCasts_S128_S1x128 : FVec Ideal S1x128 .f32) := by
  entry_read
  rfl

theorem blk_gain_row (t : Fin cfg0.N) (x : Fin 128) : iblk m c 12 t (ix2 0 x) = V m c main_v34 (ix2 0 x) := by
  blk_ext [iblk, idx0 t]

theorem blk_gain (t : Fin cfg0.N) (x : Fin 128) :
    iblk m c 12 t (ix2 0 x) = m ((c : Thread nD τ).loc main_arg4) (ix1 x) := by
  rw [blk_gain_row, V34]
  pointwise

/-- The stacked keys a run of points shares. -/
def keysAt (t : Fin cfg0.N) : Vec Ideal S1280x128 .bf16 := fun y =>
  keys (angles m c) (m ((c : Thread nD τ).loc main_arg0)) (m ((c : Thread nD τ).loc main_arg1)) (sample t) (headAtPt t) (y 0) (y 1)

/-- The stacked values a run of points shares. -/
def valuesAt (t : Fin cfg0.N) : Vec Ideal S1280x128 .bf16 := fun y =>
  values (m ((c : Thread nD τ).loc main_arg0)) (m ((c : Thread nD τ).loc main_arg2)) (sample t) (headAtPt t) (y 0) (y 1)

/-- The rows of the cache and, under them, the sample's own. -/
abbrev rectTop : Rect S1280x128 := Rect.unit (s := S1280x128) ![0, 0] S256x128.size inb_S1280x128_S256x128_0_0
abbrev rectBot : Rect S1280x128 := Rect.unit (s := S1280x128) ![256, 0] S1024x128.size inb_S1280x128_S1024x128_256_0

/-- Two pieces, one under the other. -/
theorem stack_eq (a : Vec Ideal S1024x128 .bf16) (b : Vec Ideal S256x128 .bf16) :
    View.canon ([⟨rectBot, a⟩, ⟨rectTop, b⟩] : List (View.Piece (Elt Ideal) S1280x128 .bf16))
      = fun y : S1280x128.Idx => if h : (y 0).val < 256 then b (ix2 ⟨(y 0).val, h⟩ (y 1))
        else a (ix2 ⟨(y 0).val - 256, by have h2 : (y 0).val < 1280 := (y 0).isLt; omega⟩ (y 1)) := by
  funext y
  have h2 : (y 0).val < 1280 := (y 0).isLt
  by_cases h : (y 0).val < 256
  · rw [dif_pos h, View.canon_cons_of_not_mem ⟨rectBot, a⟩ _ (fun hm => by
      have h0 := (Rect.mem_set_unit (inb := inb_S1280x128_S1024x128_256_0)).mp hm 0
      have h1 : 256 ≤ (y 0).val := h0.1
      omega)]
    refine (congrArg (View.canon _) (?_ : y = rectTop.emb (ix2 ⟨(y 0).val, h⟩ (y 1)))).trans (View.canon_cons_emb _ _ _ _)
    blk_ext
  · rw [dif_neg h]
    refine (congrArg (View.canon _) (?_ : y = rectBot.emb (ix2 ⟨(y 0).val - 256, by omega⟩ (y 1)))).trans
      (View.canon_cons_emb _ _ _ _)
    blk_ext

/-- A load of the whole scratch reads what was stored. -/
theorem read_all {sp : Space} (v : View sig .tc sp S1280x128 .bf16) (L : List (View.Piece (Elt Ideal) S1280x128 .bf16))
    (hb : ∀ a, (![0, 0] : Fin 2 → ℕ) a + (![1280, 128] : Fin 2 → ℕ) a ≤ S1280x128.size a) :
    v.readCov L (Rect.unit (s := S1280x128) ![0, 0] ![1280, 128] hb).toLoadRect = View.canon L := by
  rw [View.readCov_eq_canon']
  funext j
  exact congrArg (View.canon L) (Rect.emb_unit_full (s := S1280x128) hb j)

/-- A row of the keys turned. -/
theorem keyRow (t : Fin cfg0.N) (r : Fin 1024) (l : Fin 128) :
    k0_pay3 (iblk m c 1 t) (iblk m c 8 t) (iblk m c 9 t) (iblk m c 10 t) (ix2 r l)
      = turned (angles m c r) (slabOf (m ((c : Thread nD τ).loc main_arg0)) 512 (by omega) (sample t) (headAtPt t) r) l := by
  rw [pay3_apply, blk_k, blk_k, blk_k, blk_kc, blk_ksa, blk_ksb, cos_at, sa_at, sb_at]
  exact turned_eq (angles m c r) (slabOf (m ((c : Thread nD τ).loc main_arg0)) 512 (by omega) (sample t) (headAtPt t) r) l

/-- The keys stored. -/
theorem keys_eq (t : Fin cfg0.N) : View.canon ([⟨rectBot, k0_pay3 (iblk m c 1 t) (iblk m c 8 t) (iblk m c 9 t) (iblk m c 10 t)⟩,
    ⟨rectTop, k0_pay2 (iblk m c 3 t)⟩] : List (View.Piece (Elt Ideal) S1280x128 .bf16)) = keysAt m c t := by
  rw [stack_eq]
  funext y
  unfold keysAt keys under
  split
  · exact (pay2_apply _ _ _).trans (blk_kPrev m c t _ _)
  · exact keyRow m c t _ _

/-- The values stored. -/
theorem values_eq (t : Fin cfg0.N) : View.canon ([⟨rectBot, k0_pay5 (iblk m c 2 t)⟩, ⟨rectTop, k0_pay4 (iblk m c 4 t)⟩] :
    List (View.Piece (Elt Ideal) S1280x128 .bf16)) = valuesAt m c t := by
  rw [stack_eq]
  funext y
  unfold valuesAt values under
  split
  · exact (pay4_apply _ _ _).trans (blk_vPrev m c t _ _)
  · exact (pay5_apply _ _ _).trans (blk_v m c t _ _)

/-- The first point of a run stores the keys. -/
theorem heldK_A (t : Fin cfg0.N) (h : t.val % 4 = 0) : (outsAt0 m c t.val t.isLt).2.1 = keysAt m c t := by
  rw [outsAt0_A m c t h]
  frame_out
  exact keys_eq m c t

/-- The first point of a run stores the values. -/
theorem heldV_A (t : Fin cfg0.N) (h : t.val % 4 = 0) : (outsAt0 m c t.val t.isLt).2.2 = valuesAt m c t := by
  rw [outsAt0_A m c t h]
  frame_out
  exact values_eq m c t

theorem sample_run (t : Fin cfg0.N) (h : 4 * (t.val / 4) < cfg0.N) : sample ⟨4 * (t.val / 4), h⟩ = sample t :=
  Fin.ext (by show 4 * (t.val / 4) / 16 = t.val / 16; omega)

theorem head_run (t : Fin cfg0.N) (h : 4 * (t.val / 4) < cfg0.N) : headAtPt ⟨4 * (t.val / 4), h⟩ = headAtPt t :=
  Fin.ext (by show 4 * (t.val / 4) / 4 % 4 = t.val / 4 % 4; omega)

/-- At every point of a run the scratch has the run's keys. -/
theorem heldK (t : Fin cfg0.N) : (outsAt0 m c t.val t.isLt).2.1 = keysAt m c t := by
  rw [Pipeline.eq_of_write_hold (fun n h => (outsAt0 m c n h).2.1) 4 (keysAt m c) (heldK_A m c)
    (fun t h => by rw [outsAt0_B m c t h]; rfl) t]
  unfold keysAt
  rw [sample_run, head_run]

/-- At every point of a run the scratch has the run's values. -/
theorem heldV (t : Fin cfg0.N) : (outsAt0 m c t.val t.isLt).2.2 = valuesAt m c t := by
  rw [Pipeline.eq_of_write_hold (fun n h => (outsAt0 m c n h).2.2) 4 (valuesAt m c) (heldV_A m c)
    (fun t h => by rw [outsAt0_B m c t h]; rfl) t]
  unfold valuesAt
  rw [sample_run, head_run]

/-- The queries a point turns. -/
abbrev turnedAt (t : Fin cfg0.N) : FVec Ideal S256x128 .f32 :=
  k0_pay6 (iblk m c 0 t) (iblk m c 5 t) (iblk m c 6 t) (iblk m c 7 t)

/-- What a point stores. -/
theorem point_eq (t : Fin cfg0.N) : (outsAt0 m c t.val t.isLt).1
    = blockV (turnedAt m c t) (keysAt m c t) (valuesAt m c t) (iblk m c 11 t) (iblk m c 12 t) := by
  by_cases h : t.val % 4 = 0
  · rw [outsAt0_A m c t h]
    frame_out
    have ek := keys_eq m c t
    have ev := values_eq m c t
    unfold rectTop rectBot at ek ev
    simp only [read_all]
    rw [ek, ev]
    exact pay_eq _ _ _ _ _ _ _ _
  · have ek := heldK m c t
    have ev := heldV m c t
    rw [outsAt0_B m c t h] at ek ev ⊢
    frame_out
    simp only [read_unread_whole]
    exact (pay_eq _ _ _ _ _ _ _ _).trans (congrArg₂ (fun k v => blockV (turnedAt m c t) k v _ _) ek ev)

/-- The queries of a point are the sample's. -/
theorem turnedAt_apply (t : Fin cfg0.N) (r : Fin 256) (l : Fin 128) : turnedAt m c t (ix2 r l)
    = queries (angles m c) (m ((c : Thread nD τ).loc main_arg0)) (sample t) (headAtPt t) (token t r) l := by
  unfold turnedAt
  rw [pay6_apply, blk_q, blk_q, blk_q, blk_c, blk_sa, blk_sb, cos_at, sa_at, sb_at]
  exact turned_eq (angles m c _) (slabOf (m ((c : Thread nD τ).loc main_arg0)) 0 (by omega) (sample t) (headAtPt t) _) l

/-- Lane `d` of head `h` among the result's columns. -/
def lane (h : Fin 4) (d : Fin 128) : Fin 512 := ⟨128 * h.val + d.val, by omega⟩

theorem headOf_lane (h : Fin 4) (l : Fin 128) : headOf (lane h l) = h := Fin.ext (by
  show (128 * h.val + l.val) / 128 = h.val
  omega)

theorem laneOf_lane (h : Fin 4) (l : Fin 128) : laneOf (lane h l) = l := Fin.ext (by
  show (128 * h.val + l.val) % 128 = l.val
  omega)

theorem attn_at (A : Fin 1024 → Fin 128 → EReal) (x : Tokens) (ck cv : Cached) (w : FVec Ideal (⟨2, ![4, 64]⟩ : Shape) .f32)
    (g : FVec Ideal (⟨1, ![128]⟩ : Shape) .f32) (b : Fin 2) (h : Fin 4) (t : Fin 1024) (l : Fin 128) :
    attn A x ck cv w g (ix3 b t (lane h l)) = headAt A x ck cv w g b h t l := by
  show headAt A x ck cv w g b (headOf (lane h l)) t (laneOf (lane h l)) = _
  rw [headOf_lane, laneOf_lane]

variable (hx : Numbers (m ((c : Thread nD τ).loc main_arg0)) (m ((c : Thread nD τ).loc main_arg1)))
  (hA : ∀ t l, IsNum (angles m c t l))

include hx hA in
theorem block13_at (t : Fin cfg0.N) (r : Fin 256) (l : Fin 128) : (outsAt0 m c t.val t.isLt).1 (ix3 (0 : Fin 1) r l)
    = headAt (angles m c) (m ((c : Thread nD τ).loc main_arg0)) (m ((c : Thread nD τ).loc main_arg1))
      (m ((c : Thread nD τ).loc main_arg2)) (m ((c : Thread nD τ).loc main_arg3)) (m ((c : Thread nD τ).loc main_arg4))
      (sample t) (headAtPt t) (token t r) l := by
  rw [point_eq, blockV_apply _ _ _ _ _ (fun r d => by rw [turnedAt_apply]; exact isNum_queries _ hA _ _ hx _ _ _ _)
    (fun r d => isNum_keys _ hA _ _ hx _ _ _ _)]
  simp only [turnedAt_apply, blk_lam, blk_gain]
  rfl

include hx hA in
/-- What one grid point leaves in the result's block. -/
theorem block13 (t : Fin cfg0.N) (y : S1x256x128.Idx) : (outsAt0 m c t.val t.isLt).1 y
    = attn (angles m c) (m ((c : Thread nD τ).loc main_arg0)) (m ((c : Thread nD τ).loc main_arg1))
      (m ((c : Thread nD τ).loc main_arg2)) (m ((c : Thread nD τ).loc main_arg3)) (m ((c : Thread nD τ).loc main_arg4))
      (ix3 (sample t) (token t (y 1)) (lane (headAtPt t) (y 2))) := by
  have e : y = ix3 (0 : Fin 1) (y 1) (y 2) := by blk_ext
  exact ((congrArg _ e).trans (block13_at m c hx hA t (y 1) (y 2))).trans (attn_at _ _ _ _ _ _ _ _ _ _).symm

include hx hA in
/-- The array after the run. -/
theorem arr13 : (dats m 0 c).arrAt 13 cfg0.N
    = attn (angles m c) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 13 _ (by decide +kernel) fun t hf y => ?_
  blk_simp
  rw [after0_13]
  refine (block13 m c hx hA t y).trans (congrArg _ ?_)
  blk_ext [idx0 t, sample, token, headAtPt, lane]

end Cert.Lat
-- ==== Proof.Lat.Turn.lean ====
module

public import proofs.«01_k».proof.Proof.Gen.LatRefIdeal
public import proofs.«01_k».proof.Proof.Lat.Spec
public import Idealize.ShloMosaic.Lib.Pointwise
public import Idealize.ShloMosaic.Lib.Pipeline.ValueKit

/-! The reference's turning of 64 lanes by a token's row and column, and its stacking under cached rows, read at an entry. -/

@[expose] public section

set_option maxRecDepth 16384

noncomputable section

namespace Cert.Lat.Ref

open Cert.LatRefIdeal Cert.LatRefIdeal.Gen Idealize.ShloMosaic Idealize.ShloMosaic.TcCoe
open Cert.Common Cert.Diff

/-- The angles of one coordinate. -/
def angV (p : FVec Ideal S1024 .f32) (f : FVec Ideal S16 .f32) : FVec Ideal S1024x16 .f32 :=
  mulf (broadcastInDim S1024x16 ![0, 1] bcast_S1024x1_S1024x16_0_1 (broadcastInDim S1024x1 ![0] bcast_S1024_S1024x1_0 p))
    (broadcastInDim S1024x16 ![0, 1] bcast_S1x16_S1024x16_0_1 (broadcastInDim S1x16 ![1] bcast_S16_S1x16_1 f))

/-- A table of angles for every sample and head. -/
def wide (a : FVec Ideal S1024x16 .f32) : FVec Ideal S2x4x1024x16 .f32 :=
  broadcastInDim S2x4x1024x16 ![0, 1, 2, 3] bcast_S1x1x1024x16_S2x4x1024x16_0_1_2_3
    (broadcastInDim S1x1x1024x16 ![2, 3] bcast_S1024x16_S1x1x1024x16_2_3 a)

/-- The first sixteen lanes of 32. -/
def firstV (x : FVec Ideal S2x4x1024x32 .f32) : FVec Ideal S2x4x1024x16 .f32 :=
  extractStridedSlice S2x4x1024x16 ![0, 0, 0, 0] x slices_S2x4x1024x32_S2x4x1024x16_0_0_0_0
/-- The other sixteen. -/
def secondV (x : FVec Ideal S2x4x1024x32 .f32) : FVec Ideal S2x4x1024x16 .f32 :=
  extractStridedSlice S2x4x1024x16 ![0, 0, 0, 16] x slices_S2x4x1024x32_S2x4x1024x16_0_0_0_16

/-- The turned first lanes. -/
def loV (x : FVec Ideal S2x4x1024x32 .f32) (a : FVec Ideal S1024x16 .f32) : FVec Ideal S2x4x1024x16 .f32 :=
  subf (mulf (firstV x) (wide (Host.cos a))) (mulf (secondV x) (wide (Host.sin a)))
/-- The turned other lanes. -/
def hiV (x : FVec Ideal S2x4x1024x32 .f32) (a : FVec Ideal S1024x16 .f32) : FVec Ideal S2x4x1024x16 .f32 :=
  addf (mulf (firstV x) (wide (Host.sin a))) (mulf (secondV x) (wide (Host.cos a)))

/-- 32 lanes turned by one coordinate's angles. -/
def halfV (x : FVec Ideal S2x4x1024x32 .f32) (a : FVec Ideal S1024x16 .f32) : FVec Ideal S2x4x1024x32 .f32 :=
  concatenate S2x4x1024x32 3 [⟨S2x4x1024x16, loV x a⟩, ⟨S2x4x1024x16, hiV x a⟩] concatenates_S2x4x1024x16_S2x4x1024x16_S2x4x1024x32_d3

/-- The first 32 lanes of 64. -/
def leftV (x : FVec Ideal S2x4x1024x64 .f32) : FVec Ideal S2x4x1024x32 .f32 :=
  extractStridedSlice S2x4x1024x32 ![0, 0, 0, 0] x slices_S2x4x1024x64_S2x4x1024x32_0_0_0_0
/-- The other 32. -/
def rightV (x : FVec Ideal S2x4x1024x64 .f32) : FVec Ideal S2x4x1024x32 .f32 :=
  extractStridedSlice S2x4x1024x32 ![0, 0, 0, 32] x slices_S2x4x1024x64_S2x4x1024x32_0_0_0_32

/-- 64 lanes turned, the first 32 by the row and the others by the column. -/
def turnV (x : FVec Ideal S2x4x1024x64 .f32) (p q : FVec Ideal S1024 .f32) (f : FVec Ideal S16 .f32) : FVec Ideal S2x4x1024x64 .f32 :=
  concatenate S2x4x1024x64 3 [⟨S2x4x1024x32, halfV (leftV x) (angV p f)⟩, ⟨S2x4x1024x32, halfV (rightV x) (angV q f)⟩]
    concatenates_S2x4x1024x32_S2x4x1024x32_S2x4x1024x64_d3

theorem angV_apply (p : FVec Ideal S1024 .f32) (f : FVec Ideal S16 .f32) (t : Fin 1024) (j : Fin 16) :
    angV p f (ix2 t j) = p (ix1 t) * f (ix1 j) := by
  pointwise [angV]

theorem loV_apply (x : FVec Ideal S2x4x1024x32 .f32) (a : FVec Ideal S1024x16 .f32) (b : Fin 2) (h : Fin 4) (t : Fin 1024) (j : Fin 16) :
    loV x a (ix4 b h t j) = x (ix4 b h t ⟨j.val, by omega⟩) * Ideal.cos (a (ix2 t j))
      - x (ix4 b h t ⟨16 + j.val, by omega⟩) * Ideal.sin (a (ix2 t j)) := by
  pointwise [loV, firstV, secondV, wide]

theorem hiV_apply (x : FVec Ideal S2x4x1024x32 .f32) (a : FVec Ideal S1024x16 .f32) (b : Fin 2) (h : Fin 4) (t : Fin 1024) (j : Fin 16) :
    hiV x a (ix4 b h t j) = x (ix4 b h t ⟨j.val, by omega⟩) * Ideal.sin (a (ix2 t j))
      + x (ix4 b h t ⟨16 + j.val, by omega⟩) * Ideal.cos (a (ix2 t j)) := by
  pointwise [hiV, firstV, secondV, wide]

theorem halfV_apply (x : FVec Ideal S2x4x1024x32 .f32) (a : FVec Ideal S1024x16 .f32) (b : Fin 2) (h : Fin 4) (t : Fin 1024)
    (j : Fin 32) :
    halfV x a (ix4 b h t j) = if j.val < 16 then loV x a (ix4 b h t ⟨j.val % 16, by omega⟩)
      else hiV x a (ix4 b h t ⟨j.val % 16, by omega⟩) := by
  unfold halfV
  generalize loV x a = y
  generalize hiV x a = z
  pointwise
  split <;> blk_ext

theorem leftV_apply (x : FVec Ideal S2x4x1024x64 .f32) (b : Fin 2) (h : Fin 4) (t : Fin 1024) (j : Fin 32) :
    leftV x (ix4 b h t j) = x (ix4 b h t ⟨j.val, by omega⟩) := by
  pointwise [leftV]

theorem rightV_apply (x : FVec Ideal S2x4x1024x64 .f32) (b : Fin 2) (h : Fin 4) (t : Fin 1024) (j : Fin 32) :
    rightV x (ix4 b h t j) = x (ix4 b h t ⟨32 + j.val, by omega⟩) := by
  pointwise [rightV]

theorem turnV_apply (x : FVec Ideal S2x4x1024x64 .f32) (p q : FVec Ideal S1024 .f32) (f : FVec Ideal S16 .f32) (b : Fin 2) (h : Fin 4)
    (t : Fin 1024) (d : Fin 64) :
    turnV x p q f (ix4 b h t d) = if d.val < 32 then halfV (leftV x) (angV p f) (ix4 b h t ⟨d.val % 32, by omega⟩)
      else halfV (rightV x) (angV q f) (ix4 b h t ⟨d.val % 32, by omega⟩) := by
  unfold turnV
  generalize halfV (leftV x) (angV p f) = y
  generalize halfV (rightV x) (angV q f) = z
  pointwise
  split <;> blk_ext

/-- Half of a head's lanes turned is that half of the turned row. -/
theorem turnV_at (x : FVec Ideal S2x4x1024x64 .f32) (p q : FVec Ideal S1024 .f32) (f : FVec Ideal S16 .f32) (b : Fin 2) (h : Fin 4)
    (t : Fin 1024) (w : Fin 128 → EReal) (s : Fin 64 → Fin 128) (hs : ∃ o, (o = 0 ∨ o = 64) ∧ ∀ d, (s d).val = o + d.val)
    (hx : ∀ d, x (ix4 b h t d) = w (s d)) (d : Fin 64) :
    turnV x p q f (ix4 b h t d)
      = turned (angle (fun t => p (ix1 t)) (fun t => q (ix1 t)) (fun j => f (ix1 j)) t) w (s d) := by
  obtain ⟨o, ho, hs⟩ := hs
  have go : ∀ (e : Fin 64) (l : Fin 128), l.val = o + e.val → x (ix4 b h t e) = w l := fun e l he =>
    (hx e).trans (congrArg w (Fin.ext ((hs e).trans he.symm)))
  have sd := hs d
  have hd := d.isLt
  rw [turnV_apply]
  unfold turned angle
  by_cases h1 : d.val < 32
  · rw [if_pos h1, halfV_apply, if_pos (show (s d).val % 64 < 32 by omega)]
    by_cases h2 : d.val < 16
    · rw [if_pos (show d.val % 32 < 16 by omega), if_pos (show (s d).val % 32 < 16 by omega), loV_apply, angV_apply, leftV_apply, leftV_apply]
      rw [go _ (s d) (by show (s d).val = o + d.val % 32 % 16; omega),
        go _ (up (s d)) (by show ((s d).val + 16) % 128 = o + (16 + d.val % 32 % 16); omega)]
      have ef : (⟨d.val % 32 % 16, by omega⟩ : Fin 16) = ⟨(s d).val % 16, by omega⟩ := Fin.ext (by show d.val % 32 % 16 = (s d).val % 16; omega)
      exact ef ▸ rfl
    · rw [if_neg (show ¬ d.val % 32 < 16 by omega), if_neg (show ¬ (s d).val % 32 < 16 by omega), hiV_apply, angV_apply, leftV_apply, leftV_apply]
      rw [go _ (down (s d)) (by show ((s d).val + 112) % 128 = o + d.val % 32 % 16; omega),
        go _ (s d) (by show (s d).val = o + (16 + d.val % 32 % 16); omega)]
      have ef : (⟨d.val % 32 % 16, by omega⟩ : Fin 16) = ⟨(s d).val % 16, by omega⟩ := Fin.ext (by show d.val % 32 % 16 = (s d).val % 16; omega)
      exact ef ▸ rfl
  · rw [if_neg h1, halfV_apply, if_neg (show ¬ (s d).val % 64 < 32 by omega)]
    by_cases h2 : d.val < 48
    · rw [if_pos (show d.val % 32 < 16 by omega), if_pos (show (s d).val % 32 < 16 by omega), loV_apply, angV_apply, rightV_apply, rightV_apply]
      rw [go _ (s d) (by show (s d).val = o + (32 + d.val % 32 % 16); omega),
        go _ (up (s d)) (by show ((s d).val + 16) % 128 = o + (32 + (16 + d.val % 32 % 16)); omega)]
      have ef : (⟨d.val % 32 % 16, by omega⟩ : Fin 16) = ⟨(s d).val % 16, by omega⟩ := Fin.ext (by show d.val % 32 % 16 = (s d).val % 16; omega)
      exact ef ▸ rfl
    · rw [if_neg (show ¬ d.val % 32 < 16 by omega), if_neg (show ¬ (s d).val % 32 < 16 by omega), hiV_apply, angV_apply, rightV_apply, rightV_apply]
      rw [go _ (down (s d)) (by show ((s d).val + 112) % 128 = o + (32 + d.val % 32 % 16); omega),
        go _ (s d) (by show (s d).val = o + (32 + (16 + d.val % 32 % 16)); omega)]
      have ef : (⟨d.val % 32 % 16, by omega⟩ : Fin 16) = ⟨(s d).val % 16, by omega⟩ := Fin.ext (by show d.val % 32 % 16 = (s d).val % 16; omega)
      exact ef ▸ rfl

/-- Cached rows of 64 lanes and the sample's own under them. -/
theorem under64_apply (y : FVec Ideal S2x4x256x64 .f32) (z : FVec Ideal S2x4x1024x64 .f32) (b : Fin 2) (h : Fin 4) (c : Fin 1280)
    (d : Fin 64) :
    concatenate S2x4x1280x64 2 [⟨S2x4x256x64, y⟩, ⟨S2x4x1024x64, z⟩] concatenates_S2x4x256x64_S2x4x1024x64_S2x4x1280x64_d2 (ix4 b h c d)
      = if g : c.val < 256 then y (ix4 b h ⟨c.val, g⟩ d) else z (ix4 b h ⟨c.val - 256, by omega⟩ d) := by
  pointwise

/-- Cached rows of 128 lanes and the sample's own under them. -/
theorem under128_apply (y : FVec Ideal S2x4x256x128 .f32) (z : FVec Ideal S2x4x1024x128 .f32) (b : Fin 2) (h : Fin 4) (c : Fin 1280)
    (d : Fin 128) :
    concatenate S2x4x1280x128 2 [⟨S2x4x256x128, y⟩, ⟨S2x4x1024x128, z⟩] concatenates_S2x4x256x128_S2x4x1024x128_S2x4x1280x128_d2 (ix4 b h c d)
      = if g : c.val < 256 then y (ix4 b h ⟨c.val, g⟩ d) else z (ix4 b h ⟨c.val - 256, by omega⟩ d) := by
  pointwise

end Cert.Lat.Ref
-- ==== Proof.Lat.Reference.lean ====
module

public import proofs.«01_k».proof.Proof.Gen.LatRefIdeal.Read
public import proofs.«01_k».proof.Proof.Lat.Turn

/-! The reference's result entry by entry, from the turned queries, the stacked keys and the stacked values. -/

@[expose] public section

set_option maxRecDepth 16384

noncomputable section

namespace Cert.Lat.Ref

open Cert.LatRefIdeal Cert.LatRefIdeal.Gen Cert.LatRefIdeal.Value Cert.LatRefIdeal.Read Idealize.ShloMosaic Idealize.ShloMosaic.TcCoe
open Cert.Common Cert.Diff

variable (x0 : FVec Ideal S2x1024x8192 .f32) (x1 x2 : FVec Ideal S2x4x256x128 .f32) (x3 : FVec Ideal S4x64 .f32) (x4 : FVec Ideal S128 .f32)

/-- The angles of every token and lane. -/
def angles : Fin 1024 → Fin 128 → EReal :=
  angle (fun t => val_main_v28 (F := Ideal) (ix1 t)) (fun t => val_main_v30 (F := Ideal) (ix1 t)) fun j => val_main_v40 (F := Ideal) (ix1 j)

theorem v4_at (b : Fin 2) (h : Fin 4) (t : Fin 1024) (d : Fin 128) :
    val_main_v4 (F := Ideal) x0 (ix4 b h t d) = slabOf x0 0 (by omega) b h t d := by
  rw [val_main_v4_apply, val_main_v3_apply, val_main_v0_apply]
  unfold slabOf
  blk_ext [slab]

theorem v6_at (b : Fin 2) (h : Fin 4) (t : Fin 1024) (d : Fin 128) :
    val_main_v6 (F := Ideal) x0 (ix4 b h t d) = slabOf x0 512 (by omega) b h t d := by
  rw [val_main_v6_apply, val_main_v5_apply, val_main_v1_apply]
  unfold slabOf
  blk_ext [slab]

theorem v8_at (b : Fin 2) (h : Fin 4) (t : Fin 1024) (d : Fin 128) :
    val_main_v8 (F := Ideal) x0 (ix4 b h t d) = slabOf x0 1024 (by omega) b h t d := by
  rw [val_main_v8_apply, val_main_v7_apply, val_main_v2_apply]
  unfold slabOf
  blk_ext [slab]

theorem v91_eq : val_main_v91 (F := Ideal) x0 = turnV (val_main_v25 (F := Ideal) x0) (val_main_v28 (F := Ideal)) (val_main_v30 (F := Ideal))
    (val_main_v40 (F := Ideal)) := rfl
theorem v158_eq : val_main_v158 (F := Ideal) x0 = turnV (val_main_v92 (F := Ideal) x0) (val_main_v28 (F := Ideal)) (val_main_v30 (F := Ideal))
    (val_main_v40 (F := Ideal)) := rfl
theorem v226_eq : val_main_v226 (F := Ideal) x0 = turnV (val_main_v160 (F := Ideal) x0) (val_main_v28 (F := Ideal)) (val_main_v30 (F := Ideal))
    (val_main_v40 (F := Ideal)) := rfl
theorem v295_eq : val_main_v295 (F := Ideal) x0 = turnV (val_main_v229 (F := Ideal) x0) (val_main_v28 (F := Ideal)) (val_main_v30 (F := Ideal))
    (val_main_v40 (F := Ideal)) := rfl

theorem lo_at : ∃ o, (o = 0 ∨ o = 64) ∧ ∀ d : Fin 64, (lo d).val = o + d.val := ⟨0, .inl rfl, fun d => (Nat.zero_add _).symm⟩
theorem hi_at : ∃ o, (o = 0 ∨ o = 64) ∧ ∀ d : Fin 64, (hi d).val = o + d.val := ⟨64, .inr rfl, fun _ => rfl⟩

/-- The turned lower halves of the queries. -/
theorem v91_at (b : Fin 2) (h : Fin 4) (t : Fin 1024) (d : Fin 64) :
    val_main_v91 (F := Ideal) x0 (ix4 b h t d) = queries angles x0 b h t (lo d) := by
  rw [v91_eq]
  refine turnV_at _ _ _ _ b h t (slabOf x0 0 (by omega) b h t) lo lo_at (fun d => ?_) d
  rw [val_main_v25_apply]
  refine Eq.trans (congrArg _ ?_) (v4_at x0 b h t (lo d))
  blk_ext [lo]

/-- The turned upper halves of the queries. -/
theorem v158_at (b : Fin 2) (h : Fin 4) (t : Fin 1024) (d : Fin 64) :
    val_main_v158 (F := Ideal) x0 (ix4 b h t d) = queries angles x0 b h t (hi d) := by
  rw [v158_eq]
  refine turnV_at _ _ _ _ b h t (slabOf x0 0 (by omega) b h t) hi hi_at (fun d => ?_) d
  rw [val_main_v92_apply]
  refine Eq.trans (congrArg _ ?_) (v4_at x0 b h t (hi d))
  blk_ext [hi]

theorem v226_at (b : Fin 2) (h : Fin 4) (t : Fin 1024) (d : Fin 64) :
    val_main_v226 (F := Ideal) x0 (ix4 b h t d) = turned (angles t) (slabOf x0 512 (by omega) b h t) (lo d) := by
  rw [v226_eq]
  refine turnV_at _ _ _ _ b h t (slabOf x0 512 (by omega) b h t) lo lo_at (fun d => ?_) d
  rw [val_main_v160_apply]
  refine Eq.trans (congrArg _ ?_) (v6_at x0 b h t (lo d))
  blk_ext [lo]

theorem v295_at (b : Fin 2) (h : Fin 4) (t : Fin 1024) (d : Fin 64) :
    val_main_v295 (F := Ideal) x0 (ix4 b h t d) = turned (angles t) (slabOf x0 512 (by omega) b h t) (hi d) := by
  rw [v295_eq]
  refine turnV_at _ _ _ _ b h t (slabOf x0 512 (by omega) b h t) hi hi_at (fun d => ?_) d
  rw [val_main_v229_apply]
  refine Eq.trans (congrArg _ ?_) (v6_at x0 b h t (hi d))
  blk_ext [hi]

/-- The lower halves of the stacked keys. -/
theorem v227_at (b : Fin 2) (h : Fin 4) (c : Fin 1280) (d : Fin 64) :
    val_main_v227 (F := Ideal) x0 x1 (ix4 b h c d) = keys angles x0 x1 b h c (lo d) := by
  unfold val_main_v227 keys under
  rw [under64_apply]
  split
  · rw [val_main_v159_apply]
    blk_ext [lo]
  · exact v226_at x0 b h _ d

/-- The upper halves of the stacked keys. -/
theorem v296_at (b : Fin 2) (h : Fin 4) (c : Fin 1280) (d : Fin 64) :
    val_main_v296 (F := Ideal) x0 x1 (ix4 b h c d) = keys angles x0 x1 b h c (hi d) := by
  unfold val_main_v296 keys under
  rw [under64_apply]
  split
  · rw [val_main_v228_apply]
    blk_ext [hi]
  · exact v295_at x0 b h _ d

/-- The stacked values. -/
theorem v297_at (b : Fin 2) (h : Fin 4) (c : Fin 1280) (d : Fin 128) :
    val_main_v297 (F := Ideal) x0 x2 (ix4 b h c d) = values x0 x2 b h c d := by
  unfold val_main_v297 values under
  rw [under128_apply]
  split
  · rfl
  · exact v8_at x0 b h _ d

/-- The weight of the second map. -/
theorem v24_at (i : S_.Idx) : val_main_v24 (F := Ideal) x3 i = lam (fun a x => x3 (ix2 a x)) := by
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_cst_1,
    val_main_cst_0, val_main_cst]
  rfl

theorem v300_at (b : Fin 2) (h : Fin 4) (r : Fin 1024) (c : Fin 1280) : val_main_v300 (F := Ideal) x0 x1 (ix4 b h r c)
    = dotted (queries angles x0 b h r) (keys angles x0 x1 b h) lo c := by
  pointwise [val_main_v300, val_main_v299, val_main_v298, val_main_cst_25, v91_at, v227_at]
  rfl

theorem v315_at (b : Fin 2) (h : Fin 4) (r : Fin 1024) (c : Fin 1280) : val_main_v315 (F := Ideal) x0 x1 (ix4 b h r c)
    = dotted (queries angles x0 b h r) (keys angles x0 x1 b h) hi c := by
  pointwise [val_main_v315, val_main_v314, val_main_v313, val_main_cst_29, v158_at, v296_at]
  rfl

theorem rowMax_apply (s : FVec Ideal S2x4x1024x1280 .f32) (b : Fin 2) (h : Fin 4) (r : Fin 1024) :
    Host.reduce FloatOps.maximumf s (constant S_ .f32 0xFF800000#32 : FVec Ideal S_ .f32) reducesTo_S2x4x1024x1280_S2x4x1024_d3 h_S_ (ix3 b h r)
      = top (fun c => s (ix4 b h r c)) := by
  pointwise
  unfold top
  with_reducible rfl

/-- The exponentials of a score array's entries, each row less the entry of `z` for that row. -/
def less (s : FVec Ideal S2x4x1024x1280 .f32) (z : FVec Ideal S2x4x1024 .f32) : FVec Ideal S2x4x1024x1280 .f32 :=
  Host.exp (subf s (broadcastInDim S2x4x1024x1280 ![0, 1, 2, 3] bcast_S2x4x1024x1_S2x4x1024x1280_0_1_2_3
    (broadcastInDim S2x4x1024x1 ![0, 1, 2] bcast_S2x4x1024_S2x4x1024x1_0_1_2
      (maximumf (broadcastInDim S2x4x1024 ![] bcast_S_S2x4x1024 (constant S_ .f32 0xFF800000#32)) z))))

theorem less_apply (s : FVec Ideal S2x4x1024x1280 .f32) (z : FVec Ideal S2x4x1024 .f32) (b : Fin 2) (h : Fin 4) (r : Fin 1024)
    (c : Fin 1280) :
    less s z (ix4 b h r c) = Ideal.exp (s (ix4 b h r c) - max (Ideal.ofBits .f32 0xFF800000#32) (z (ix3 b h r))) := by
  pointwise [less]

/-- The exponentials of a score array's rows under their greatest entry. -/
def expV (s : FVec Ideal S2x4x1024x1280 .f32) : FVec Ideal S2x4x1024x1280 .f32 :=
  less s (Host.reduce FloatOps.maximumf s (constant S_ .f32 0xFF800000#32 : FVec Ideal S_ .f32)
    reducesTo_S2x4x1024x1280_S2x4x1024_d3 h_S_)

theorem expV_apply (s : FVec Ideal S2x4x1024x1280 .f32) (b : Fin 2) (h : Fin 4) (r : Fin 1024) (c : Fin 1280) :
    expV s (ix4 b h r c) = weight (fun c => s (ix4 b h r c)) c := by
  unfold expV weight
  rw [less_apply, rowMax_apply, max_bot_top]

/-- The softmax of every row of a score array. -/
def softV (s : FVec Ideal S2x4x1024x1280 .f32) : FVec Ideal S2x4x1024x1280 .f32 :=
  Host.divf (expV s) (broadcastInDim S2x4x1024x1280 ![0, 1, 2, 3] bcast_S2x4x1024x1_S2x4x1024x1280_0_1_2_3
    (broadcastInDim S2x4x1024x1 ![0, 1, 2] bcast_S2x4x1024_S2x4x1024x1_0_1_2
      (Host.reduceAdd (expV s) (constant S_ .f32 0x00000000#32 : FVec Ideal S_ .f32) reducesTo_S2x4x1024x1280_S2x4x1024_d3 h_S_)))

theorem softV_apply (s : FVec Ideal S2x4x1024x1280 .f32) (b : Fin 2) (h : Fin 4) (r : Fin 1024) (c : Fin 1280) :
    softV s (ix4 b h r c) = soft (fun c => s (ix4 b h r c)) c := by
  pointwise [softV, expV_apply]
  unfold soft
  with_reducible rfl

theorem v311_eq : val_main_v311 (F := Ideal) x0 x1 = softV (val_main_v300 (F := Ideal) x0 x1) := rfl
theorem v326_eq : val_main_v326 (F := Ideal) x0 x1 = softV (val_main_v315 (F := Ideal) x0 x1) := rfl

/-- The difference of the two mixtures. -/
theorem v330_at (b : Fin 2) (h : Fin 4) (r : Fin 1024) (l : Fin 128) : val_main_v330 (F := Ideal) x0 x1 x2 x3 (ix4 b h r l)
    = mixed (queries angles x0 b h r) (keys angles x0 x1 b h) (values x0 x2 b h) (fun a x => x3 (ix2 a x)) l := by
  pointwise [val_main_v330, val_main_v329, val_main_v328, val_main_v327, val_main_v312, v311_eq, v326_eq, softV_apply, v300_at, v315_at,
    v297_at, v24_at]
  rfl

/-- One entry of the normed result, the heads still apart. -/
theorem v345_at (b : Fin 2) (h : Fin 4) (r : Fin 1024) (l : Fin 128) : val_main_v345 (F := Ideal) x0 x1 x2 x3 x4 (ix4 b h r l)
    = headAt angles x0 x1 x2 x3 x4 b h r l := by
  pointwise [val_main_v345, val_main_v344, val_main_v343, val_main_v342, val_main_v341, val_main_v340, val_main_v339, val_main_v338,
    val_main_v337, val_main_v336, val_main_v335, val_main_v334, val_main_v333, val_main_v332, val_main_v331, val_main_cst_33,
    val_main_cst_34, val_main_cst_35, val_main_cst_36, v330_at]
  rfl

/-- The result. -/
theorem v347_eq_attn : val_main_v347 (F := Ideal) x0 x1 x2 x3 x4 = attn angles x0 x1 x2 x3 x4 := by
  funext i
  rw [val_main_v347_apply, val_main_v346_apply]
  refine Eq.trans (congrArg _ ?_) (v345_at x0 x1 x2 x3 x4 (i 0) (headOf (i 2)) (i 1) (laneOf (i 2)))
  blk_ext [headOf, laneOf]

end Cert.Lat.Ref
-- ==== Proof.Lat.Numbers.lean ====
module

public import proofs.«01_k».proof.Proof.Common.Finite
public import proofs.«01_k».proof.Proof.Lat.Reference
public import proofs.«01_k».proof.Proof.Gen.Pre_lat_finite
public import Idealize.ShloMosaic.Lib.Pointwise

/-! What the stated precondition gives, and that the angles are numbers. -/

@[expose] public section

set_option maxRecDepth 16384

noncomputable section

namespace Cert.Lat

open Idealize.ShloMosaic Idealize.ShloMosaic.TcCoe Cert.Common

/-- The first columns are numbers under the precondition. -/
theorem columns_of_pre (x : Tokens) (x1 x2 : Cached) (x3 x4)
    (h : Cert.Pre_lat_finite.fn (F := Ideal) x x1 x2 x3 x4 = fun _ => 1#1) (b : Fin 2) (t : Fin 1024) (j : Fin 8192)
    (hj : j.val < 1024) : IsNum (x (ix3 b t j)) := by
  have e := congrFun h (ix3 b (⟨t.val, by omega⟩ : Fin 1152) (⟨j.val, hj⟩ : Fin 1024))
  pointwise [Cert.Pre_lat_finite.fn] at e
  exact isNum_of_abs_lt _ e

/-- The cached keys are numbers under the precondition. -/
theorem cached_of_pre (x : Tokens) (x1 x2 : Cached) (x3 x4)
    (h : Cert.Pre_lat_finite.fn (F := Ideal) x x1 x2 x3 x4 = fun _ => 1#1) (b : Fin 2) (p : Fin 4) (q : Fin 256) (d : Fin 128) :
    IsNum (x1 (ix4 b p q d)) := by
  have e := congrFun h (ix3 b (⟨1024 + (p.val * 256 + q.val) / 8, by omega⟩ : Fin 1152) (⟨q.val % 8 * 128 + d.val, by omega⟩ : Fin 1024))
  pointwise [Cert.Pre_lat_finite.fn] at e
  exact isNum_of_abs_lt _ e

theorem word_32 : Ideal.ofBits .f32 0x42000000#32 = ((32 : ℝ) : EReal) := by
  have a : 1107296256 >>> 23 % 256 = 132 := by decide
  have b : ¬ BitVec.extractLsb' 31 1 1107296256#32 = 1#1 := by decide
  simp only [Ideal.ofBits, Ideal.ieee, BitVec.extractLsb'_toNat, BitVec.toNat_ofNat]
  norm_num [a, b]

theorem isNum_word_2 : IsNum (Ideal.ofBits .f32 0x40000000#32) := by
  simp only [Ideal.ofBits, Ideal.ieee, BitVec.extractLsb'_toNat, BitVec.toNat_ofNat]
  norm_num
  exact ⟨_, rfl⟩

theorem isNum_word_0 : IsNum (Ideal.ofBits .f32 0x00000000#32) := by
  simp only [Ideal.ofBits, Ideal.ieee, BitVec.extractLsb'_toNat, BitVec.toNat_ofNat]
  norm_num
  exact ⟨_, rfl⟩

theorem isNum_word_10000 : IsNum (Ideal.ofBits .f32 0x461C4000#32) := by
  simp only [Ideal.ofBits, Ideal.ieee, BitVec.extractLsb'_toNat, BitVec.toNat_ofNat]
  norm_num
  exact ⟨_, rfl⟩

theorem isNum_pow {x y : EReal} : IsNum x → IsNum y → IsNum (Ideal.pow x y)
  | ⟨a, ha⟩, ⟨b, hb⟩ => ⟨Real.rpow a b, by rw [ha, hb]; rfl⟩

theorem isNum_div_32 {x : EReal} : IsNum x → IsNum (Ideal.div x (Ideal.ofBits .f32 0x42000000#32))
  | ⟨a, ha⟩ => ⟨a * (32 : ℝ)⁻¹, by
      rw [word_32, ha, Ideal.div, if_neg (by exact_mod_cast (by norm_num : (32 : ℝ) ≠ 0)), EReal.coe_mul, EReal.coe_inv]⟩

open Cert.LatRefIdeal Cert.LatRefIdeal.Read in
theorem isNum_freq (j : Fin 16) : IsNum (val_main_v40 (F := Ideal) (ix1 j)) := by
  rw [val_main_v40_apply, val_main_v39_apply, val_main_v38_apply, val_main_v37_apply, val_main_v36_apply, val_main_v35_apply,
    val_main_v34_apply, val_main_v33_apply, val_main_v32_apply]
  exact isNum_pow isNum_word_10000 (isNum_div_32 (isNum_neg (isNum_word_0.add (isNum_word_2.mul ⟨_, rfl⟩))))

theorem isNum_angles (t : Fin 1024) (l : Fin 128) : IsNum (Ref.angles t l) :=
  isNum_angle _ _ _ (fun _ => ⟨_, rfl⟩) (fun _ => ⟨_, rfl⟩) isNum_freq t l

end Cert.Lat
-- ==== Proof.Lat.Claim.lean ====
module

public import proofs.«01_k».proof.Defs
public import proofs.«01_k».proof.Proof.Lat.Arrays
public import proofs.«01_k».proof.Proof.Lat.Numbers
public import proofs.«01_k».proof.Proof.Gen.Lat.Frame
public import proofs.«01_k».proof.Proof.Gen.LatIdeal.Frame
public import proofs.«01_k».proof.Proof.Gen.LatRefIdeal.Run

/-! Differential attention over the samples: the claims about the call, from the array of its run and the reference's. -/

@[expose] public section

set_option maxRecDepth 16384

noncomputable section

namespace Cert.Lat

open Idealize.ShloMosaic Idealize.ShloMosaic.TcCoe Idealize.SL.Sem Cert.Common

section
open Cert.LatIdeal Cert.LatIdeal.Gen Cert.LatRefIdeal.Read
variable (m : (ℓ : Loc nD τ sig) → Buf (Elt Ideal) ℓ) (c : Dev nD)

theorem rows_eq : V m c main_v5 = val_main_v28 (F := Ideal) := by
  entry_read
  rfl

theorem cols_eq : V m c main_v7 = val_main_v30 (F := Ideal) := by
  entry_read
  rfl

theorem freqs_eq : V m c main_v17 = val_main_v40 (F := Ideal) := by
  entry_read
  rfl

/-- The kernel's tables and the reference turn by the same angles. -/
theorem angles_eq : angles m c = Ref.angles := by
  unfold angles Ref.angles
  rw [rows_eq, cols_eq, freqs_eq]

end

theorem frame_ri : Cert.quiescent_LatRefIdeal := fun m ρ _ =>
  (θ_run Cert.LatRefIdeal.defs _ _).mono (fun r h => ⟨fun c => (h c).2, sem_eq_zero_of_no_sems (by decide) r.2⟩)
    (Cert.LatRefIdeal.Value.run (F := Ideal) m ρ)

/-- The array of the call's run, at the reference's angles. -/
theorem arr (m : (ℓ : Loc Cert.LatIdeal.nD Cert.LatIdeal.τ Cert.LatIdeal.sig) → Buf (Elt Ideal) ℓ) (c : Dev Cert.LatIdeal.nD)
    (h : Cert.Pre_lat_finite.fn (F := Ideal) (m ((c.tc : Thread _ _).loc Cert.LatIdeal.main_arg0)) (m ((c.tc : Thread _ _).loc Cert.LatIdeal.main_arg1))
      (m ((c.tc : Thread _ _).loc Cert.LatIdeal.main_arg2)) (m ((c.tc : Thread _ _).loc Cert.LatIdeal.main_arg3))
      (m ((c.tc : Thread _ _).loc Cert.LatIdeal.main_arg4)) = fun _ => 1#1) :
    (Cert.LatIdeal.Gen.dats m 0 c).arrAt 13 Cert.LatIdeal.cfg0.N = attn Ref.angles (m ((c.tc : Thread _ _).loc Cert.LatIdeal.main_arg0))
      (m ((c.tc : Thread _ _).loc Cert.LatIdeal.main_arg1)) (m ((c.tc : Thread _ _).loc Cert.LatIdeal.main_arg2))
      (m ((c.tc : Thread _ _).loc Cert.LatIdeal.main_arg3)) (m ((c.tc : Thread _ _).loc Cert.LatIdeal.main_arg4)) := by
  rw [← angles_eq m c]
  exact arr13 m c ⟨columns_of_pre _ _ _ _ _ h, cached_of_pre _ _ _ _ _ h⟩ fun t l => by
    rw [angles_eq]
    exact isNum_angles t l

theorem algebraic : Cert.algebraic_LatIdeal_LatRefIdeal_pre_lat_finite := by
  intro m ρ m' ρ' hpre hagree
  refine ⟨fun c => attn Ref.angles (m ((c.tc : Thread _ _).loc Cert.LatIdeal.main_arg0)) (m ((c.tc : Thread _ _).loc Cert.LatIdeal.main_arg1))
      (m ((c.tc : Thread _ _).loc Cert.LatIdeal.main_arg2)) (m ((c.tc : Thread _ _).loc Cert.LatIdeal.main_arg3))
      (m ((c.tc : Thread _ _).loc Cert.LatIdeal.main_arg4)),
    (θ_run _ _ _).mono (fun r h c => ⟨(h c).1.trans (arr m c (hpre c)), (h c).2⟩) (Cert.LatIdeal.Value.run_blocks m ρ),
    (θ_run _ _ _).mono (fun r h c => ?_) (Cert.LatRefIdeal.Value.run (F := Ideal) m' ρ')⟩
  obtain ⟨e0, e1, e2, e3, e4⟩ := hagree c
  refine ⟨(h c).1.trans ?_, (h c).2⟩
  rw [Cert.LatRefIdeal.Read.val_main_v347_eq, Ref.v347_eq_attn]
  show attn Ref.angles (m' ((c.tc : Thread _ _).loc Cert.LatRefIdeal.main_arg0)) (m' ((c.tc : Thread _ _).loc Cert.LatRefIdeal.main_arg1))
      (m' ((c.tc : Thread _ _).loc Cert.LatRefIdeal.main_arg2)) (m' ((c.tc : Thread _ _).loc Cert.LatRefIdeal.main_arg3))
      (m' ((c.tc : Thread _ _).loc Cert.LatRefIdeal.main_arg4)) = _
  rw [e0, e1, e2, e3, e4]

end Cert.Lat
-- ==== Proof.lean ====
module

public import proofs.«01_k».proof.Defs
public import proofs.«01_k».proof.Proof.Diff.Claim
public import proofs.«01_k».proof.Proof.Dense.Claim
public import proofs.«01_k».proof.Proof.Proj.Claim
public import proofs.«01_k».proof.Proof.Ret.Claim
public import proofs.«01_k».proof.Proof.Merge.Claim
public import proofs.«01_k».proof.Proof.Final.Claim
public import proofs.«01_k».proof.Proof.FinalS.Claim
public import proofs.«01_k».proof.Proof.Query.Claim
public import proofs.«01_k».proof.Proof.Mod.Claim
public import proofs.«01_k».proof.Proof.Lat.Claim
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_scores_finite
public import proofs.«01_k».proof.Proof.Gen.Dense.Frame
public import proofs.«01_k».proof.Proof.Gen.DenseIdeal.Value
public import proofs.«01_k».proof.Proof.Gen.DenseRefIdeal.Run
public import proofs.«01_k».proof.Proof.Gen.DenseRefIdeal.Read
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Ret.Frame
public import proofs.«01_k».proof.Proof.Gen.RetIdeal.Value
public import proofs.«01_k».proof.Proof.Gen.RetRefIdeal.Run
public import proofs.«01_k».proof.Proof.Gen.RetRefIdeal.Read
public import proofs.«01_k».proof.Proof.Gen.Pre_ret_finite
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Final.Frame
public import proofs.«01_k».proof.Proof.Gen.FinalIdeal.Value
public import proofs.«01_k».proof.Proof.Gen.FinalRefIdeal.Run
public import proofs.«01_k».proof.Proof.Gen.FinalRefIdeal.Read
public import proofs.«01_k».proof.Proof.Gen.FinalS.Frame
public import proofs.«01_k».proof.Proof.Gen.FinalSIdeal.Value
public import proofs.«01_k».proof.Proof.Gen.FinalSRefIdeal.Run
public import proofs.«01_k».proof.Proof.Gen.FinalSRefIdeal.Read
public import proofs.«01_k».proof.Proof.Gen.Query.Frame
public import proofs.«01_k».proof.Proof.Gen.QueryIdeal.Value
public import proofs.«01_k».proof.Proof.Gen.QueryRefIdeal.Run
public import proofs.«01_k».proof.Proof.Gen.QueryRefIdeal.Read
public import proofs.«01_k».proof.Proof.Gen.Mod.Frame
public import proofs.«01_k».proof.Proof.Gen.ModIdeal.Value
public import proofs.«01_k».proof.Proof.Gen.ModRefIdeal.Run
public import proofs.«01_k».proof.Proof.Gen.ModRefIdeal.Read
public import proofs.«01_k».proof.Proof.Gen.Lat.Frame
public import proofs.«01_k».proof.Proof.Gen.LatIdeal.Value
public import proofs.«01_k».proof.Proof.Gen.LatRefIdeal.Run
public import proofs.«01_k».proof.Proof.Gen.LatRefIdeal.Read
public import proofs.«01_k».proof.Proof.Gen.Pre_lat_finite
public import proofs.«01_k».proof.Proof.Gen.Pre_dense_scores_finite
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Dense.Gen.facts, Cert.DenseIdeal.Gen.facts,
    Cert.DenseRefIdeal.Gen.facts, Cert.Proj.Gen.facts, Cert.ProjIdeal.Gen.facts, Cert.ProjRefIdeal.Gen.facts, Cert.Ret.Gen.facts, Cert.RetIdeal.Gen.facts,
    Cert.RetRefIdeal.Gen.facts, Cert.Merge.Gen.facts,
    Cert.MergeIdeal.Gen.facts, Cert.MergeRefIdeal.Gen.facts, Cert.Final.Gen.facts, Cert.FinalIdeal.Gen.facts, Cert.FinalRefIdeal.Gen.facts,
    Cert.FinalS.Gen.facts, Cert.FinalSIdeal.Gen.facts, Cert.FinalSRefIdeal.Gen.facts,
    Cert.Query.Gen.facts, Cert.QueryIdeal.Gen.facts, Cert.QueryRefIdeal.Gen.facts, Cert.Mod.Gen.facts, Cert.ModIdeal.Gen.facts,
    Cert.ModRefIdeal.Gen.facts, Cert.Lat.Gen.facts, Cert.LatIdeal.Gen.facts, Cert.LatRefIdeal.Gen.facts, Cert.Pre_scores_finite.Gen.facts,
    Cert.Pre_dense_scores_finite.Gen.facts, Cert.Pre_ret_finite.Gen.facts, Cert.Pre_lat_finite.Gen.facts,
    fun m ρ _ => Cert.Kernel.Gen.frame m ρ, fun m ρ _ => Cert.KernelIdeal.Gen.frame m ρ, fun m ρ _ => Cert.KernelIdeal.Gen.frame m ρ,
    Diff.frame_ri, fun m ρ _ => Diff.frame_ri m ρ trivial,
    fun m ρ _ => Cert.Dense.Gen.frame m ρ, fun m ρ _ => Cert.DenseIdeal.Gen.frame m ρ, fun m ρ _ => Cert.DenseIdeal.Gen.frame m ρ,
    Cert.Dense.frame_ri, fun m ρ _ => Cert.Dense.frame_ri m ρ trivial,
    fun m ρ _ => Cert.Proj.Gen.frame m ρ, fun m ρ _ => Cert.ProjIdeal.Gen.frame m ρ, Cert.Proj.frame_ri,
    fun m ρ _ => Cert.Ret.Gen.frame m ρ, fun m ρ _ => Cert.RetIdeal.Gen.frame m ρ, fun m ρ _ => Cert.RetIdeal.Gen.frame m ρ,
    Cert.Ret.frame_ri, fun m ρ _ => Cert.Ret.frame_ri m ρ trivial,
    fun m ρ _ => Cert.Merge.Gen.frame m ρ, fun m ρ _ => Cert.MergeIdeal.Gen.frame m ρ, Cert.Merge.frame_ri,
    fun m ρ _ => Cert.Final.Gen.frame m ρ, fun m ρ _ => Cert.FinalIdeal.Gen.frame m ρ, Cert.Final.frame_ri,
    fun m ρ _ => Cert.FinalS.Gen.frame m ρ, fun m ρ _ => Cert.FinalSIdeal.Gen.frame m ρ, Cert.FinalS.frame_ri,
    fun m ρ _ => Cert.Query.Gen.frame m ρ, fun m ρ _ => Cert.QueryIdeal.Gen.frame m ρ, Cert.Query.frame_ri,
    fun m ρ _ => Cert.Mod.Gen.frame m ρ, fun m ρ _ => Cert.ModIdeal.Gen.frame m ρ, Cert.Mod.frame_ri,
    fun m ρ _ => Cert.Lat.Gen.frame m ρ, fun m ρ _ => Cert.LatIdeal.Gen.frame m ρ, fun m ρ _ => Cert.LatIdeal.Gen.frame m ρ,
    Cert.Lat.frame_ri, fun m ρ _ => Cert.Lat.frame_ri m ρ trivial,
    trivial, Diff.algebraic, trivial, Cert.Dense.algebraic, trivial, Cert.Proj.algebraic, trivial, Cert.Ret.algebraic,
    trivial, Cert.Merge.algebraic, trivial, Cert.Final.algebraic, trivial, Cert.FinalS.algebraic,
    trivial, Cert.Query.algebraic, trivial, Cert.Mod.algebraic, trivial, Cert.Lat.algebraic⟩

end Cert.Proof

end
